-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_swiglu [hPre_finite_swiglu : Cert.Pre_finite_swiglu.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_swiglu [hPre_finite_swiglu : Cert.Pre_finite_swiglu.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_swiglu [hKernel2Ideal : Cert.Kernel2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_swiglu m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_swiglu [hReference2Ideal : Cert.Reference2Ideal.Facts] [hPre_finite_swiglu : Cert.Pre_finite_swiglu.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_swiglu m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_swiglu [hKernel2Ideal : Cert.Kernel2Ideal.Facts] [hReference2Ideal : Cert.Reference2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_swiglu m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_v31) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v17_0)) (v1 : (c : Dev Cert.Kernel15Ideal.nD) → Buf (Elt Ideal) ((c.tc : Thread Cert.Kernel15Ideal.nD Cert.Kernel15Ideal.τ).loc Cert.Kernel15Ideal.main_v17_1)) (v2 : (c : Dev Cert.Kernel15Ideal.nD) → Buf (Elt Ideal) ((c.tc : Thread Cert.Kernel15Ideal.nD Cert.Kernel15Ideal.τ).loc Cert.Kernel15Ideal.main_v17_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v17_0) = v0 c
          ∧ r.2.mem ((c.tc : Thread Cert.Kernel15Ideal.nD Cert.Kernel15Ideal.τ).loc Cert.Kernel15Ideal.main_v17_1) = v1 c
          ∧ r.2.mem ((c.tc : Thread Cert.Kernel15Ideal.nD Cert.Kernel15Ideal.τ).loc Cert.Kernel15Ideal.main_v17_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v46) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_v47) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_inputs : Cert.Pre_finite_inputs.Facts) (hPre_finite_swiglu : Cert.Pre_finite_swiglu.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_swiglu (hKernel2Ideal := hKernel2Ideal) (hPre_finite_swiglu := hPre_finite_swiglu)
    ∧ quiescent_Reference2Ideal (hReference2Ideal := hReference2Ideal)
    ∧ quiescent_Reference2Ideal_pre_finite_swiglu (hReference2Ideal := hReference2Ideal) (hPre_finite_swiglu := hPre_finite_swiglu)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_swiglu (hKernel2Ideal := hKernel2Ideal) (hReference2Ideal := hReference2Ideal) (hPre_finite_swiglu := hPre_finite_swiglu)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_inputs.lean ====
abbrev S4x2064x8x192 : Shape := ⟨4, ![4, 2064, 8, 192]⟩
abbrev S4x2064x8x128 : Shape := ⟨4, ![4, 2064, 8, 128]⟩
abbrev S_ : Shape := ⟨0, ![]⟩

class Facts : Prop where
  bcast_S_S4x2064x8x192 : S_.BroadcastsInDim S4x2064x8x192 (![] : Fin 0 → Fin S4x2064x8x192.rank)
  bcast_S_S4x2064x8x128 : S_.BroadcastsInDim S4x2064x8x128 (![] : Fin 0 → Fin S4x2064x8x128.rank)

variable [Facts]

def fn_part1 {F : FTy → Type} [FloatOps F] (main_arg3 : FVec F S4x2064x8x128 .f32) (main_v4 : IVec S4x2064x8x192 1) (main_v9 : IVec S4x2064x8x192 1) (main_v14 : IVec S4x2064x8x128 1) (main_v16 : IVec S4x2064x8x128 1) : IVec S4x2064x8x192 1 × IVec S4x2064x8x192 1 × IVec S4x2064x8x128 1 × IVec S4x2064x8x128 1 :=
  let main_cst_6 : FVec F S_ .f32 := constant S_ .f32 0x7F800000#32
  let main_v17 : FVec F S4x2064x8x128 .f32 := broadcastInDim S4x2064x8x128 ![] bcast_S_S4x2064x8x128 main_cst_6
  let main_v18 : IVec S4x2064x8x128 1 := cmpf .olt main_arg3 main_v17
  let main_v19 : IVec S4x2064x8x128 1 := andi main_v16 main_v18
  (main_v4, main_v9, main_v14, main_v19)

def fn {F : FTy → Type} [FloatOps F] (main_arg0 : FVec F S4x2064x8x192 .f32) (main_arg1 : FVec F S4x2064x8x192 .f32) (main_arg2 : FVec F S4x2064x8x128 .f32) (main_arg3 : FVec F S4x2064x8x128 .f32) : IVec S4x2064x8x192 1 × IVec S4x2064x8x192 1 × IVec S4x2064x8x128 1 × IVec S4x2064x8x128 1 :=
  let main_cst : FVec F S_ .f32 := constant S_ .f32 0xFF800000#32
  let main_v0 : FVec F S4x2064x8x192 .f32 := broadcastInDim S4x2064x8x192 ![] bcast_S_S4x2064x8x192 main_cst
  let main_v1 : IVec S4x2064x8x192 1 := cmpf .ogt main_arg0 main_v0
  let main_cst_0 : FVec F S_ .f32 := constant S_ .f32 0x7F800000#32
  let main_v2 : FVec F S4x2064x8x192 .f32 := broadcastInDim S4x2064x8x192 ![] bcast_S_S4x2064x8x192 main_cst_0
  let main_v3 : IVec S4x2064x8x192 1 := cmpf .olt main_arg0 main_v2
  let main_v4 : IVec S4x2064x8x192 1 := andi main_v1 main_v3
  let main_cst_1 : FVec F S_ .f32 := constant S_ .f32 0xFF800000#32
  let main_v5 : FVec F S4x2064x8x192 .f32 := broadcastInDim S4x2064x8x192 ![] bcast_S_S4x2064x8x192 main_cst_1
  let main_v6 : IVec S4x2064x8x192 1 := cmpf .ogt main_arg1 main_v5
  let main_cst_2 : FVec F S_ .f32 := constant S_ .f32 0x7F800000#32
  let main_v7 : FVec F S4x2064x8x192 .f32 := broadcastInDim S4x2064x8x192 ![] bcast_S_S4x2064x8x192 main_cst_2
  let main_v8 : IVec S4x2064x8x192 1 := cmpf .olt main_arg1 main_v7
  let main_v9 : IVec S4x2064x8x192 1 := andi main_v6 main_v8
  let main_cst_3 : FVec F S_ .f32 := constant S_ .f32 0xFF800000#32
  let main_v10 : FVec F S4x2064x8x128 .f32 := broadcastInDim S4x2064x8x128 ![] bcast_S_S4x2064x8x128 main_cst_3
  let main_v11 : IVec S4x2064x8x128 1 := cmpf .ogt main_arg2 main_v10
  let main_cst_4 : FVec F S_ .f32 := constant S_ .f32 0x7F800000#32
  let main_v12 : FVec F S4x2064x8x128 .f32 := broadcastInDim S4x2064x8x128 ![] bcast_S_S4x2064x8x128 main_cst_4
  let main_v13 : IVec S4x2064x8x128 1 := cmpf .olt main_arg2 main_v12
  let main_v14 : IVec S4x2064x8x128 1 := andi main_v11 main_v13
  let main_cst_5 : FVec F S_ .f32 := constant S_ .f32 0xFF800000#32
  let main_v15 : FVec F S4x2064x8x128 .f32 := broadcastInDim S4x2064x8x128 ![] bcast_S_S4x2064x8x128 main_cst_5
  let main_v16 : IVec S4x2064x8x128 1 := cmpf .ogt main_arg3 main_v15
  fn_part1 (F := F) main_arg3 main_v4 main_v9 main_v14 main_v16
-- ==== Pre_finite_swiglu.lean ====
abbrev S9216x1024 : Shape := ⟨2, ![9216, 1024]⟩
abbrev S1024x5632 : Shape := ⟨2, ![1024, 5632]⟩
abbrev S9216x2816 : Shape := ⟨2, ![9216, 2816]⟩
abbrev S_ : Shape := ⟨0, ![]⟩

class Facts : Prop where
  bcast_S_S9216x1024 : S_.BroadcastsInDim S9216x1024 (![] : Fin 0 → Fin S9216x1024.rank)
  bcast_S_S1024x5632 : S_.BroadcastsInDim S1024x5632 (![] : Fin 0 → Fin S1024x5632.rank)
  bcast_S_S9216x2816 : S_.BroadcastsInDim S9216x2816 (![] : Fin 0 → Fin S9216x2816.rank)

variable [Facts]

def fn {F : FTy → Type} [FloatOps F] (main_arg0 : FVec F S9216x1024 .f32) (main_arg1 : FVec F S1024x5632 .f32) (main_arg2 : FVec F S9216x2816 .f32) : IVec S9216x1024 1 × IVec S1024x5632 1 × IVec S9216x2816 1 :=
  let main_cst : FVec F S_ .f32 := constant S_ .f32 0xFF800000#32
  let main_v0 : FVec F S9216x1024 .f32 := broadcastInDim S9216x1024 ![] bcast_S_S9216x1024 main_cst
  let main_v1 : IVec S9216x1024 1 := cmpf .ogt main_arg0 main_v0
  let main_cst_0 : FVec F S_ .f32 := constant S_ .f32 0x7F800000#32
  let main_v2 : FVec F S9216x1024 .f32 := broadcastInDim S9216x1024 ![] bcast_S_S9216x1024 main_cst_0
  let main_v3 : IVec S9216x1024 1 := cmpf .olt main_arg0 main_v2
  let main_v4 : IVec S9216x1024 1 := andi main_v1 main_v3
  let main_cst_1 : FVec F S_ .f32 := constant S_ .f32 0xFF800000#32
  let main_v5 : FVec F S1024x5632 .f32 := broadcastInDim S1024x5632 ![] bcast_S_S1024x5632 main_cst_1
  let main_v6 : IVec S1024x5632 1 := cmpf .ogt main_arg1 main_v5
  let main_cst_2 : FVec F S_ .f32 := constant S_ .f32 0x7F800000#32
  let main_v7 : FVec F S1024x5632 .f32 := broadcastInDim S1024x5632 ![] bcast_S_S1024x5632 main_cst_2
  let main_v8 : IVec S1024x5632 1 := cmpf .olt main_arg1 main_v7
  let main_v9 : IVec S1024x5632 1 := andi main_v6 main_v8
  let main_cst_3 : FVec F S_ .f32 := constant S_ .f32 0xFF800000#32
  let main_v10 : FVec F S9216x2816 .f32 := broadcastInDim S9216x2816 ![] bcast_S_S9216x2816 main_cst_3
  let main_v11 : IVec S9216x2816 1 := cmpf .ogt main_arg2 main_v10
  let main_cst_4 : FVec F S_ .f32 := constant S_ .f32 0x7F800000#32
  let main_v12 : FVec F S9216x2816 .f32 := broadcastInDim S9216x2816 ![] bcast_S_S9216x2816 main_cst_4
  let main_v13 : IVec S9216x2816 1 := cmpf .olt main_arg2 main_v12
  let main_v14 : IVec S9216x2816 1 := andi main_v11 main_v13
  (main_v4, main_v9, main_v14)
-- ==== Kernel.lean ====
abbrev S4x2064x8x192 : Shape := ⟨4, ![4, 2064, 8, 192]⟩
abbrev S4x2064x8x128 : Shape := ⟨4, ![4, 2064, 8, 128]⟩
abbrev S_ : Shape := ⟨0, ![]⟩
abbrev S4x2304x8x256 : Shape := ⟨4, ![4, 2304, 8, 256]⟩
abbrev S9216x2048 : Shape := ⟨2, ![9216, 2048]⟩
abbrev S4x2304x8x128 : Shape := ⟨4, ![4, 2304, 8, 128]⟩
abbrev S9216x1024 : Shape := ⟨2, ![9216, 1024]⟩
abbrev S4x3x768x8x256 : Shape := ⟨5, ![4, 3, 768, 8, 256]⟩
abbrev S4x8x3x256x768 : Shape := ⟨5, ![4, 8, 3, 256, 768]⟩
abbrev S4x8x2064x2064 : Shape := ⟨4, ![4, 8, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x8x2064 : Shape := ⟨3, ![4, 8, 2064]⟩
abbrev S4x8x2064x1 : Shape := ⟨4, ![4, 8, 2064, 1]⟩
abbrev S4x8x128x2064 : Shape := ⟨4, ![4, 8, 128, 2064]⟩
abbrev S4x8x2304 : Shape := ⟨3, ![4, 8, 2304]⟩
abbrev S4x8x3x1x768 : Shape := ⟨5, ![4, 8, 3, 1, 768]⟩
abbrev S2304x256 : Shape := ⟨2, ![2304, 256]⟩
abbrev S768x256 : Shape := ⟨2, ![768, 256]⟩
abbrev S1x1x1x256x768 : Shape := ⟨5, ![1, 1, 1, 256, 768]⟩
abbrev S768x128 : Shape := ⟨2, ![768, 128]⟩
abbrev S2304x128 : Shape := ⟨2, ![2304, 128]⟩
abbrev S1x1x3x1x768 : Shape := ⟨5, ![1, 1, 3, 1, 768]⟩
abbrev S1x3x256x768 : Shape := ⟨4, ![1, 3, 256, 768]⟩
abbrev S1x768x256 : Shape := ⟨3, ![1, 768, 256]⟩
abbrev S1x768x128 : Shape := ⟨3, ![1, 768, 128]⟩
abbrev S8x128 : Shape := ⟨2, ![8, 128]⟩
abbrev S8x768 : Shape := ⟨2, ![8, 768]⟩
abbrev S768x768 : Shape := ⟨2, ![768, 768]⟩
abbrev S1x1x1x1x768 : Shape := ⟨5, ![1, 1, 1, 1, 768]⟩
abbrev S1x1x768 : Shape := ⟨3, ![1, 1, 768]⟩
abbrev S1x768 : Shape := ⟨2, ![1, 768]⟩
abbrev S768x1 : Shape := ⟨2, ![768, 1]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 66
  | .vmem => 23
  | .smem => 0
  | _ => 0

abbrev bufTy : (tb : Table) → Fin (tcTables nBuf tb) → BufTy
  | .hbm, ⟨0, _⟩ => ⟨S4x2064x8x192, .f32⟩
  | .hbm, ⟨1, _⟩ => ⟨S4x2064x8x192, .f32⟩
  | .hbm, ⟨2, _⟩ => ⟨S4x2064x8x128, .f32⟩
  | .hbm, ⟨3, _⟩ => ⟨S4x2064x8x128, .f32⟩
  | .hbm, ⟨4, _⟩ => ⟨S_, .i32⟩
  | .hbm, ⟨5, _⟩ => ⟨S_, .f32⟩
  | .hbm, ⟨6, _⟩ => ⟨S4x2304x8x256, .f32⟩
  | .hbm, ⟨7, _⟩ => ⟨S9216x2048, .f32⟩
  | .hbm, ⟨8, _⟩ => ⟨S9216x2048, .bf16⟩
  | .hbm, ⟨9, _⟩ => ⟨S_, .i32⟩
  | .hbm, ⟨10, _⟩ => ⟨S_, .f32⟩
  | .hbm, ⟨11, _⟩ => ⟨S4x2304x8x256, .f32⟩
  | .hbm, ⟨12, _⟩ => ⟨S9216x2048, .f32⟩
  | .hbm, ⟨13, _⟩ => ⟨S9216x2048, .bf16⟩
  | .hbm, ⟨14, _⟩ => ⟨S_, .i32⟩
  | .hbm, ⟨15, _⟩ => ⟨S_, .f32⟩
  | .hbm, ⟨16, _⟩ => ⟨S4x2304x8x128, .f32⟩
  | .hbm, ⟨17, _⟩ => ⟨S9216x1024, .f32⟩
  | .hbm, ⟨18, _⟩ => ⟨S9216x1024, .bf16⟩
  | .hbm, ⟨19, _⟩ => ⟨S_, .i32⟩
  | .hbm, ⟨20, _⟩ => ⟨S_, .f32⟩
  | .hbm, ⟨21, _⟩ => ⟨S4x2304x8x128, .f32⟩
  | .hbm, ⟨22, _⟩ => ⟨S9216x1024, .f32⟩
  | .hbm, ⟨23, _⟩ => ⟨S9216x1024, .bf16⟩
  | .hbm, ⟨24, _⟩ => ⟨S4x3x768x8x256, .bf16⟩
  | .hbm, ⟨25, _⟩ => ⟨S4x8x3x256x768, .bf16⟩
  | .hbm, ⟨26, _⟩ => ⟨S4x8x2064x2064, .f32⟩
  | .hbm, ⟨27, _⟩ => ⟨S2064, .i32⟩
  | .hbm, ⟨28, _⟩ => ⟨S1x2064, .i32⟩
  | .hbm, ⟨29, _⟩ => ⟨S2064x1, .i32⟩
  | .hbm, ⟨30, _⟩ => ⟨S2064x2064, .i32⟩
  | .hbm, ⟨31, _⟩ => ⟨S2064x2064, .i32⟩
  | .hbm, ⟨32, _⟩ => ⟨S2064x2064, .i1⟩
  | .hbm, ⟨33, _⟩ => ⟨S_, .f32⟩
  | .hbm, ⟨34, _⟩ => ⟨S_, .f32⟩
  | .hbm, ⟨35, _⟩ => ⟨S4x8x2064x2064, .i1⟩
  | .hbm, ⟨36, _⟩ => ⟨S4x8x2064x2064, .f32⟩
  | .hbm, ⟨37, _⟩ => ⟨S4x8x2064x2064, .f32⟩
  | .hbm, ⟨38, _⟩ => ⟨S_, .f32⟩
  | .hbm, ⟨39, _⟩ => ⟨S4x8x2064, .f32⟩
  | .hbm, ⟨40, _⟩ => ⟨S4x8x2064x1, .f32⟩
  | .hbm, ⟨41, _⟩ => ⟨S4x8x2064x2064, .f32⟩
  | .hbm, ⟨42, _⟩ => ⟨S4x8x2064x2064, .f32⟩
  | .hbm, ⟨43, _⟩ => ⟨S4x8x2064x2064, .f32⟩
  | .hbm, ⟨44, _⟩ => ⟨S_, .f32⟩
  | .hbm, ⟨45, _⟩ => ⟨S4x8x2064, .f32⟩
  | .hbm, ⟨46, _⟩ => ⟨S4x8x2064x1, .f32⟩
  | .hbm, ⟨47, _⟩ => ⟨S4x8x2064x2064, .f32⟩
  | .hbm, ⟨48, _⟩ => ⟨S4x8x2064x2064, .f32⟩
  | .hbm, ⟨49, _⟩ => ⟨S4x8x128x2064, .f32⟩
  | .hbm, ⟨50, _⟩ => ⟨S4x2064x8x128, .f32⟩
  | .hbm, ⟨51, _⟩ => ⟨S_, .i32⟩
  | .hbm, ⟨52, _⟩ => ⟨S_, .f32⟩
  | .hbm, ⟨53, _⟩ => ⟨S4x2304x8x128, .f32⟩
  | .hbm, ⟨54, _⟩ => ⟨S9216x1024, .f32⟩
  | .hbm, ⟨55, _⟩ => ⟨S9216x1024, .bf16⟩
  | .hbm, ⟨56, _⟩ => ⟨S4x8x2064x1, .f32⟩
  | .hbm, ⟨57, _⟩ => ⟨S4x8x2064x1, .f32⟩
  | .hbm, ⟨58, _⟩ => ⟨S4x8x2064, .f32⟩
  | .hbm, ⟨59, _⟩ => ⟨S_, .i32⟩
  | .hbm, ⟨60, _⟩ => ⟨S_, .f32⟩
  | .hbm, ⟨61, _⟩ => ⟨S4x8x2304, .f32⟩
  | .hbm, ⟨62, _⟩ => ⟨S4x8x3x1x768, .f32⟩
  | .hbm, ⟨63, _⟩ => ⟨S9216x2048, .bf16⟩
  | .hbm, ⟨64, _⟩ => ⟨S9216x2048, .bf16⟩
  | .hbm, ⟨65, _⟩ => ⟨S9216x1024, .bf16⟩
  | .local _ .vmem, ⟨0, _⟩ => ⟨S2304x256, .bf16⟩
  | .local _ .vmem, ⟨1, _⟩ => ⟨S2304x256, .bf16⟩
  | .local _ .vmem, ⟨2, _⟩ => ⟨S768x256, .bf16⟩
  | .local _ .vmem, ⟨3, _⟩ => ⟨S768x256, .bf16⟩
  | .local _ .vmem, ⟨4, _⟩ => ⟨S1x1x1x256x768, .bf16⟩
  | .local _ .vmem, ⟨5, _⟩ => ⟨S1x1x1x256x768, .bf16⟩
  | .local _ .vmem, ⟨6, _⟩ => ⟨S768x128, .bf16⟩
  | .local _ .vmem, ⟨7, _⟩ => ⟨S768x128, .bf16⟩
  | .local _ .vmem, ⟨8, _⟩ => ⟨S2304x128, .bf16⟩
  | .local _ .vmem, ⟨9, _⟩ => ⟨S2304x128, .bf16⟩
  | .local _ .vmem, ⟨10, _⟩ => ⟨S2304x128, .bf16⟩
  | .local _ .vmem, ⟨11, _⟩ => ⟨S2304x128, .bf16⟩
  | .local _ .vmem, ⟨12, _⟩ => ⟨S1x1x3x1x768, .f32⟩
  | .local _ .vmem, ⟨13, _⟩ => ⟨S1x1x3x1x768, .f32⟩
  | .local _ .vmem, ⟨14, _⟩ => ⟨S2304x256, .bf16⟩
  | .local _ .vmem, ⟨15, _⟩ => ⟨S2304x256, .bf16⟩
  | .local _ .vmem, ⟨16, _⟩ => ⟨S768x256, .bf16⟩
  | .local _ .vmem, ⟨17, _⟩ => ⟨S768x256, .bf16⟩
  | .local _ .vmem, ⟨18, _⟩ => ⟨S768x128, .bf16⟩
  | .local _ .vmem, ⟨19, _⟩ => ⟨S768x128, .bf16⟩
  | .local _ .vmem, ⟨20, _⟩ => ⟨S1x3x256x768, .f32⟩
  | .local _ .vmem, ⟨21, _⟩ => ⟨S1x768x256, .f32⟩
  | .local _ .vmem, ⟨22, _⟩ => ⟨S1x768x128, .f32⟩
  | _, _ => ⟨S4x2064x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_call5_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_call6_v0 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 3], ![false, false, false]⟩

def k0_mult1 (i : grid0.Coords) : BitVec 32 :=
  let arg2 : BitVec 32 := BitVec.ofNat 32 (i 2).val
  let c768_i32 : BitVec 32 := 768#32
  let v12 : BitVec 32 := Scalar.muli arg2 c768_i32
  v12
def k0_off1 (i : grid0.Coords) : Fin 2 → Nat :=
  let arg2 : BitVec 32 := BitVec.ofNat 32 (i 2).val
  let c768_i32 : BitVec 32 := 768#32
  let v12 : BitVec 32 := Scalar.muli arg2 c768_i32
  let v13 : BitVec 32 := v12
  let v14 : Index := Scalar.indexCast v13
  let c0_8 : Index := 0#32
  ![v14.toNat, 0]
def k0_off2 (i : grid0.Coords) : Fin 2 → Nat :=
  let arg2 : BitVec 32 := BitVec.ofNat 32 (i 2).val
  let c768_i32 : BitVec 32 := 768#32
  let v12 : BitVec 32 := Scalar.muli arg2 c768_i32
  let v13 : BitVec 32 := v12
  let v17 : Index := Scalar.indexCast v13
  let c0_9 : Index := 0#32
  ![v17.toNat, 0]
def k0_off3 (i : grid0.Coords) : Fin 5 → Nat :=
  let c0_16 : Index := 0#32
  let c0_17 : Index := 0#32
  let arg2 : BitVec 32 := BitVec.ofNat 32 (i 2).val
  let v36 : Index := Scalar.indexCast arg2
  let c0_18 : Index := 0#32
  let c0_19 : Index := 0#32
  ![0, 0, v36.toNat, 0, 0]
def k0_off4 (i : grid0.Coords) : Fin 4 → Nat :=
  let c0_40 : Index := 0#32
  let arg2 : BitVec 32 := BitVec.ofNat 32 (i 2).val
  let v82 : Index := Scalar.indexCast arg2
  let c0_41 : Index := 0#32
  let c0_42 : Index := 0#32
  ![0, v82.toNat, 0, 0]
def k0_cond2 (i : grid0.Coords) : BitVec 1 :=
  let arg2 : BitVec 32 := BitVec.ofNat 32 (i 2).val
  let c0_i32_52 : BitVec 32 := 0#32
  let v94 : BitVec 1 := Scalar.cmpi .eq arg2 c0_i32_52
  let v95 : BitVec 32 := Scalar.extui v94
  let c0_i32_53 : BitVec 32 := 0#32
  let v96 : BitVec 1 := Scalar.cmpi .ne v95 c0_i32_53
  v96

@[reducible] def k0_t1_loop : Scf.Loop 32 :=
  let c1_i32 : BitVec 32 := 1#32
  let c2_i32_67 : BitVec 32 := 2#32
  let v111 : BitVec 32 := Scalar.addi c1_i32 c2_i32_67
  let c1_i32_68 : BitVec 32 := 1#32
  ⟨c1_i32, v111, c1_i32_68⟩
def k0_mult2 (k0_t1 : Fin k0_t1_loop.trips) : BitVec 32 :=
  let c1_i32 : BitVec 32 := 1#32
  let c1_i32_68 : BitVec 32 := 1#32
  let arg16 : BitVec 32 := Scf.iv c1_i32 c1_i32_68 k0_t1
  let c768_i32_70 : BitVec 32 := 768#32
  let v112 : BitVec 32 := Scalar.muli arg16 c768_i32_70
  v112
def k0_off5 (k0_t1 : Fin k0_t1_loop.trips) : Fin 2 → Nat :=
  let c1_i32 : BitVec 32 := 1#32
  let c1_i32_68 : BitVec 32 := 1#32
  let arg16 : BitVec 32 := Scf.iv c1_i32 c1_i32_68 k0_t1
  let c768_i32_70 : BitVec 32 := 768#32
  let v112 : BitVec 32 := Scalar.muli arg16 c768_i32_70
  let v113 : BitVec 32 := v112
  let v114 : Index := Scalar.indexCast v113
  let c0_71 : Index := 0#32
  ![v114.toNat, 0]
def k0_off6 (k0_t1 : Fin k0_t1_loop.trips) : Fin 2 → Nat :=
  let c1_i32 : BitVec 32 := 1#32
  let c1_i32_68 : BitVec 32 := 1#32
  let arg16 : BitVec 32 := Scf.iv c1_i32 c1_i32_68 k0_t1
  let c768_i32_70 : BitVec 32 := 768#32
  let v112 : BitVec 32 := Scalar.muli arg16 c768_i32_70
  let v113 : BitVec 32 := v112
  let v117 : Index := Scalar.indexCast v113
  let c0_72 : Index := 0#32
  ![v117.toNat, 0]
def k0_off7 (k0_t1 : Fin k0_t1_loop.trips) : Fin 5 → Nat :=
  let c0_79 : Index := 0#32
  let c0_80 : Index := 0#32
  let c1_i32 : BitVec 32 := 1#32
  let c1_i32_68 : BitVec 32 := 1#32
  let arg16 : BitVec 32 := Scf.iv c1_i32 c1_i32_68 k0_t1
  let v136 : Index := Scalar.indexCast arg16
  let c0_81 : Index := 0#32
  let c0_82 : Index := 0#32
  ![0, 0, v136.toNat, 0, 0]
def k0_off8 (k0_t1 : Fin k0_t1_loop.trips) : Fin 4 → Nat :=
  let c0_103 : Index := 0#32
  let c1_i32 : BitVec 32 := 1#32
  let c1_i32_68 : BitVec 32 := 1#32
  let arg16 : BitVec 32 := Scf.iv c1_i32 c1_i32_68 k0_t1
  let v175 : Index := Scalar.indexCast arg16
  let c0_104 : Index := 0#32
  let c0_105 : Index := 0#32
  ![0, v175.toNat, 0, 0]
def k0_cond3 (i : grid0.Coords) : BitVec 1 :=
  let arg2 : BitVec 32 := BitVec.ofNat 32 (i 2).val
  let c0_i32_54 : BitVec 32 := 0#32
  let v97 : BitVec 1 := Scalar.cmpi .sgt arg2 c0_i32_54
  let v98 : BitVec 32 := Scalar.extui v97
  let c0_i32_55 : BitVec 32 := 0#32
  let v99 : BitVec 1 := Scalar.cmpi .ne v98 c0_i32_55
  v99

@[reducible] def k0_t2_loop (i : grid0.Coords) : Scf.Loop 32 :=
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_69 : BitVec 32 := 1#32
  ⟨v111, v116, c1_i32_69⟩
def k0_mult3 (i : grid0.Coords) (k0_t2 : Fin (k0_t2_loop i).trips) : BitVec 32 :=
  let arg2 : BitVec 32 := BitVec.ofNat 32 (i 2).val
  let c1_i32 : BitVec 32 := 1#32
  let v111 : BitVec 32 := Scalar.addi arg2 c1_i32
  let c1_i32_69 : BitVec 32 := 1#32
  let arg16 : BitVec 32 := Scf.iv v111 c1_i32_69 k0_t2
  let c768_i32_71 : BitVec 32 := 768#32
  let v117 : BitVec 32 := Scalar.muli arg16 c768_i32_71
  v117
def k0_off9 (i : grid0.Coords) (k0_t2 : Fin (k0_t2_loop i).trips) : Fin 2 → Nat :=
  let arg2 : BitVec 32 := BitVec.ofNat 32 (i 2).val
  let c1_i32 : BitVec 32 := 1#32
  let v111 : BitVec 32 := Scalar.addi arg2 c1_i32
  let c1_i32_69 : BitVec 32 := 1#32
  let arg16 : BitVec 32 := Scf.iv v111 c1_i32_69 k0_t2
  let c768_i32_71 : BitVec 32 := 768#32
  let v117 : BitVec 32 := Scalar.muli arg16 c768_i32_71
  let v118 : BitVec 32 := v117
  let v119 : Index := Scalar.indexCast v118
  let c0_72 : Index := 0#32
  ![v119.toNat, 0]
def k0_off10 (i : grid0.Coords) (k0_t2 : Fin (k0_t2_loop i).trips) : Fin 2 → Nat :=
  let arg2 : BitVec 32 := BitVec.ofNat 32 (i 2).val
  let c1_i32 : BitVec 32 := 1#32
  let v111 : BitVec 32 := Scalar.addi arg2 c1_i32
  let c1_i32_69 : BitVec 32 := 1#32
  let arg16 : BitVec 32 := Scf.iv v111 c1_i32_69 k0_t2
  let c768_i32_71 : BitVec 32 := 768#32
  let v117 : BitVec 32 := Scalar.muli arg16 c768_i32_71
  let v118 : BitVec 32 := v117
  let v122 : Index := Scalar.indexCast v118
  let c0_73 : Index := 0#32
  ![v122.toNat, 0]
def k0_off11 (i : grid0.Coords) (k0_t2 : Fin (k0_t2_loop i).trips) : Fin 5 → Nat :=
  let c0_80 : Index := 0#32
  let c0_81 : Index := 0#32
  let arg2 : BitVec 32 := BitVec.ofNat 32 (i 2).val
  let c1_i32 : BitVec 32 := 1#32
  let v111 : BitVec 32 := Scalar.addi arg2 c1_i32
  let c1_i32_69 : BitVec 32 := 1#32
  let arg16 : BitVec 32 := Scf.iv v111 c1_i32_69 k0_t2
  let v141 : Index := Scalar.indexCast arg16
  let c0_82 : Index := 0#32
  let c0_83 : Index := 0#32
  ![0, 0, v141.toNat, 0, 0]
def k0_off12 (i : grid0.Coords) (k0_t2 : Fin (k0_t2_loop i).trips) : Fin 4 → Nat :=
  let c0_101 : Index := 0#32
  let arg2 : BitVec 32 := BitVec.ofNat 32 (i 2).val
  let c1_i32 : BitVec 32 := 1#32
  let v111 : BitVec 32 := Scalar.addi arg2 c1_i32
  let c1_i32_69 : BitVec 32 := 1#32
  let arg16 : BitVec 32 := Scf.iv v111 c1_i32_69 k0_t2
  let v170 : Index := Scalar.indexCast arg16
  let c0_102 : Index := 0#32
  let c0_103 : Index := 0#32
  ![0, v170.toNat, 0, 0]
@[reducible] def k0_t3_loop (i : grid0.Coords) : Scf.Loop 32 :=
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let v113 : BitVec 32 := Scalar.addi v111 v112
  let c1_i32_70 : BitVec 32 := 1#32
  ⟨v116, v113, c1_i32_70⟩
def k0_mult4 (i : grid0.Coords) (k0_t3 : Fin (k0_t3_loop i).trips) : BitVec 32 :=
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_70 : BitVec 32 := 1#32
  let arg16 : BitVec 32 := Scf.iv v116 c1_i32_70 k0_t3
  let c768_i32_71 : BitVec 32 := 768#32
  let v117 : BitVec 32 := Scalar.muli arg16 c768_i32_71
  v117
def k0_off13 (i : grid0.Coords) (k0_t3 : Fin (k0_t3_loop i).trips) : Fin 2 → Nat :=
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_70 : BitVec 32 := 1#32
  let arg16 : BitVec 32 := Scf.iv v116 c1_i32_70 k0_t3
  let c768_i32_71 : BitVec 32 := 768#32
  let v117 : BitVec 32 := Scalar.muli arg16 c768_i32_71
  let v118 : BitVec 32 := v117
  let v119 : Index := Scalar.indexCast v118
  let c0_72 : Index := 0#32
  ![v119.toNat, 0]
def k0_off14 (i : grid0.Coords) (k0_t3 : Fin (k0_t3_loop i).trips) : Fin 2 → Nat :=
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_70 : BitVec 32 := 1#32
  let arg16 : BitVec 32 := Scf.iv v116 c1_i32_70 k0_t3
  let c768_i32_71 : BitVec 32 := 768#32
  let v117 : BitVec 32 := Scalar.muli arg16 c768_i32_71
  let v118 : BitVec 32 := v117
  let v122 : Index := Scalar.indexCast v118
  let c0_73 : Index := 0#32
  ![v122.toNat, 0]
def k0_off15 (i : grid0.Coords) (k0_t3 : Fin (k0_t3_loop i).trips) : Fin 5 → Nat :=
  let c0_80 : Index := 0#32
  let c0_81 : Index := 0#32
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_70 : BitVec 32 := 1#32
  let arg16 : BitVec 32 := Scf.iv v116 c1_i32_70 k0_t3
  let v141 : Index := Scalar.indexCast arg16
  let c0_82 : Index := 0#32
  let c0_83 : Index := 0#32
  ![0, 0, v141.toNat, 0, 0]
def k0_off16 (i : grid0.Coords) (k0_t3 : Fin (k0_t3_loop i).trips) : Fin 4 → Nat :=
  let c0_101 : Index := 0#32
  let arg2 : BitVec 32 := BitVec.ofNat 32 (i 2).val
  let c1_i32 : BitVec 32 := 1#32
  let v111 : BitVec 32 := Scalar.addi arg2 c1_i32
  let c3_i32 : BitVec 32 := 3#32
  let v112 : BitVec 32 := Scalar.subi c3_i32 v111
  let c1_i32_68 : BitVec 32 := 1#32
  let v114 : BitVec 32 := Scalar.divsi v112 c1_i32_68
  let v115 : BitVec 32 := Scalar.muli v114 c1_i32_68
  let v116 : BitVec 32 := Scalar.addi v111 v115
  let c1_i32_70 : BitVec 32 := 1#32
  let arg16 : BitVec 32 := Scf.iv v116 c1_i32_70 k0_t3
  let v170 : Index := Scalar.indexCast arg16
  let c0_102 : Index := 0#32
  let c0_103 : Index := 0#32
  ![0, v170.toNat, 0, 0]
def k0_cond4 (i : grid0.Coords) : BitVec 1 :=
  let arg2 : BitVec 32 := BitVec.ofNat 32 (i 2).val
  let c2_i32 : BitVec 32 := 2#32
  let v108 : BitVec 1 := Scalar.cmpi .eq arg2 c2_i32
  let v109 : BitVec 32 := Scalar.extui v108
  let c0_i32_66 : BitVec 32 := 0#32
  let v110 : BitVec 1 := Scalar.cmpi .ne v109 c0_i32_66
  v110

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![v1.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg2
  let c0_i32 : BitVec 32 := 0#32
  ![v1.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x3x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2304x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S768x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S768x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x2064x8x192 : Shape := ⟨4, ![4, 2064, 8, 192]⟩
abbrev S4x2064x8x128 : Shape := ⟨4, ![4, 2064, 8, 128]⟩
abbrev S4x8x2064x2064 : Shape := ⟨4, ![4, 8, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S_ : Shape := ⟨0, ![]⟩
abbrev S4x8x2064 : Shape := ⟨3, ![4, 8, 2064]⟩
abbrev S4x8x2064x1 : Shape := ⟨4, ![4, 8, 2064, 1]⟩
abbrev S4x8x128x2064 : Shape := ⟨4, ![4, 8, 128, 2064]⟩
abbrev S4x8x2064x192 : Shape := ⟨4, ![4, 8, 2064, 192]⟩
abbrev S4x2304x8x256 : Shape := ⟨4, ![4, 2304, 8, 256]⟩
abbrev S9216x2048 : Shape := ⟨2, ![9216, 2048]⟩
abbrev S4x2304x8x128 : Shape := ⟨4, ![4, 2304, 8, 128]⟩
abbrev S9216x1024 : Shape := ⟨2, ![9216, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x2064x8x192, .f32⟩
  | .hbm, ⟨1, _⟩ => ⟨S4x2064x8x192, .f32⟩
  | .hbm, ⟨2, _⟩ => ⟨S4x2064x8x128, .f32⟩
  | .hbm, ⟨3, _⟩ => ⟨S4x2064x8x128, .f32⟩
  | .hbm, ⟨4, _⟩ => ⟨S4x8x2064x2064, .f32⟩
  | .hbm, ⟨5, _⟩ => ⟨S2064, .i32⟩
  | .hbm, ⟨6, _⟩ => ⟨S1x2064, .i32⟩
  | .hbm, ⟨7, _⟩ => ⟨S2064x1, .i32⟩
  | .hbm, ⟨8, _⟩ => ⟨S2064x2064, .i32⟩
  | .hbm, ⟨9, _⟩ => ⟨S2064x2064, .i32⟩
  | .hbm, ⟨10, _⟩ => ⟨S2064x2064, .i1⟩
  | .hbm, ⟨11, _⟩ => ⟨S_, .f32⟩
  | .hbm, ⟨12, _⟩ => ⟨S_, .f32⟩
  | .hbm, ⟨13, _⟩ => ⟨S4x8x2064x2064, .i1⟩
  | .hbm, ⟨14, _⟩ => ⟨S4x8x2064x2064, .f32⟩
  | .hbm, ⟨15, _⟩ => ⟨S4x8x2064x2064, .f32⟩
  | .hbm, ⟨16, _⟩ => ⟨S_, .f32⟩
  | .hbm, ⟨17, _⟩ => ⟨S4x8x2064x2064, .f32⟩
  | .hbm, ⟨18, _⟩ => ⟨S_, .f32⟩
  | .hbm, ⟨19, _⟩ => ⟨S4x8x2064, .f32⟩
  | .hbm, ⟨20, _⟩ => ⟨S4x8x2064x1, .f32⟩
  | .hbm, ⟨21, _⟩ => ⟨S4x8x2064x2064, .f32⟩
  | .hbm, ⟨22, _⟩ => ⟨S4x8x2064x2064, .i1⟩
  | .hbm, ⟨23, _⟩ => ⟨S4x8x2064x2064, .f32⟩
  | .hbm, ⟨24, _⟩ => ⟨S_, .f32⟩
  | .hbm, ⟨25, _⟩ => ⟨S4x8x2064, .f32⟩
  | .hbm, ⟨26, _⟩ => ⟨S_, .f32⟩
  | .hbm, ⟨27, _⟩ => ⟨S4x8x2064, .f32⟩
  | .hbm, ⟨28, _⟩ => ⟨S4x8x2064, .f32⟩
  | .hbm, ⟨29, _⟩ => ⟨S_, .f32⟩
  | .hbm, ⟨30, _⟩ => ⟨S4x8x2064, .f32⟩
  | .hbm, ⟨31, _⟩ => ⟨S4x8x2064, .i1⟩
  | .hbm, ⟨32, _⟩ => ⟨S_, .f32⟩
  | .hbm, ⟨33, _⟩ => ⟨S4x8x2064, .f32⟩
  | .hbm, ⟨34, _⟩ => ⟨S4x8x2064, .i1⟩
  | .hbm, ⟨35, _⟩ => ⟨S_, .f32⟩
  | .hbm, ⟨36, _⟩ => ⟨S4x8x2064, .f32⟩
  | .hbm, ⟨37, _⟩ => ⟨S_, .f32⟩
  | .hbm, ⟨38, _⟩ => ⟨S4x8x2064, .f32⟩
  | .hbm, ⟨39, _⟩ => ⟨S_, .f32⟩
  | .hbm, ⟨40, _⟩ => ⟨S4x8x2064, .f32⟩
  | .hbm, ⟨41, _⟩ => ⟨S4x8x2064, .f32⟩
  | .hbm, ⟨42, _⟩ => ⟨S4x8x2064, .f32⟩
  | .hbm, ⟨43, _⟩ => ⟨S4x8x2064x1, .f32⟩
  | .hbm, ⟨44, _⟩ => ⟨S4x8x2064x2064, .f32⟩
  | .hbm, ⟨45, _⟩ => ⟨S4x8x2064x2064, .f32⟩
  | .hbm, ⟨46, _⟩ => ⟨S4x8x2064x2064, .f32⟩
  | .hbm, ⟨47, _⟩ => ⟨S_, .f32⟩
  | .hbm, ⟨48, _⟩ => ⟨S4x8x2064, .f32⟩
  | .hbm, ⟨49, _⟩ => ⟨S4x8x2064x1, .f32⟩
  | .hbm, ⟨50, _⟩ => ⟨S4x8x2064x2064, .f32⟩
  | .hbm, ⟨51, _⟩ => ⟨S4x8x2064x2064, .f32⟩
  | .hbm, ⟨52, _⟩ => ⟨S4x8x2064x1, .f32⟩
  | .hbm, ⟨53, _⟩ => ⟨S_, .f32⟩
  | .hbm, ⟨54, _⟩ => ⟨S4x8x2064x1, .f32⟩
  | .hbm, ⟨55, _⟩ => ⟨S4x8x2064x1, .f32⟩
  | .hbm, ⟨56, _⟩ => ⟨S4x8x128x2064, .f32⟩
  | .hbm, ⟨57, _⟩ => ⟨S4x2064x8x128, .f32⟩
  | .hbm, ⟨58, _⟩ => ⟨S4x8x128x2064, .f32⟩
  | .hbm, ⟨59, _⟩ => ⟨S4x8x2064x2064, .f32⟩
  | .hbm, ⟨60, _⟩ => ⟨S4x8x128x2064, .f32⟩
  | .hbm, ⟨61, _⟩ => ⟨S4x2064x8x128, .f32⟩
  | .hbm, ⟨62, _⟩ => ⟨S4x8x2064x2064, .f32⟩
  | .hbm, ⟨63, _⟩ => ⟨S4x8x2064x2064, .f32⟩
  | .hbm, ⟨64, _⟩ => ⟨S4x8x2064x2064, .f32⟩
  | .hbm, ⟨65, _⟩ => ⟨S_, .f32⟩
  | .hbm, ⟨66, _⟩ => ⟨S4x8x2064, .f32⟩
  | .hbm, ⟨67, _⟩ => ⟨S4x8x2064x1, .f32⟩
  | .hbm, ⟨68, _⟩ => ⟨S4x8x2064x1, .f32⟩
  | .hbm, ⟨69, _⟩ => ⟨S4x8x2064x2064, .f32⟩
  | .hbm, ⟨70, _⟩ => ⟨S4x8x2064x2064, .f32⟩
  | .hbm, ⟨71, _⟩ => ⟨S_, .f32⟩
  | .hbm, ⟨72, _⟩ => ⟨S4x8x2064, .f32⟩
  | .hbm, ⟨73, _⟩ => ⟨S4x8x2064x2064, .f32⟩
  | .hbm, ⟨74, _⟩ => ⟨S4x8x2064x2064, .f32⟩
  | .hbm, ⟨75, _⟩ => ⟨S4x8x2064x2064, .f32⟩
  | .hbm, ⟨76, _⟩ => ⟨S_, .f32⟩
  | .hbm, ⟨77, _⟩ => ⟨S4x8x2064x2064, .f32⟩
  | .hbm, ⟨78, _⟩ => ⟨S4x8x2064x2064, .f32⟩
  | .hbm, ⟨79, _⟩ => ⟨S4x8x2064x192, .f32⟩
  | .hbm, ⟨80, _⟩ => ⟨S4x2064x8x192, .f32⟩
  | .hbm, ⟨81, _⟩ => ⟨S4x8x2064x192, .f32⟩
  | .hbm, ⟨82, _⟩ => ⟨S4x2064x8x192, .f32⟩
  | .hbm, ⟨83, _⟩ => ⟨S_, .i32⟩
  | .hbm, ⟨84, _⟩ => ⟨S_, .f32⟩
  | .hbm, ⟨85, _⟩ => ⟨S4x2304x8x256, .f32⟩
  | .hbm, ⟨86, _⟩ => ⟨S9216x2048, .f32⟩
  | .hbm, ⟨87, _⟩ => ⟨S9216x2048, .bf16⟩
  | .hbm, ⟨88, _⟩ => ⟨S_, .i32⟩
  | .hbm, ⟨89, _⟩ => ⟨S_, .f32⟩
  | .hbm, ⟨90, _⟩ => ⟨S4x2304x8x256, .f32⟩
  | .hbm, ⟨91, _⟩ => ⟨S9216x2048, .f32⟩
  | .hbm, ⟨92, _⟩ => ⟨S9216x2048, .bf16⟩
  | .hbm, ⟨93, _⟩ => ⟨S_, .i32⟩
  | .hbm, ⟨94, _⟩ => ⟨S_, .f32⟩
  | .hbm, ⟨95, _⟩ => ⟨S4x2304x8x128, .f32⟩
  | .hbm, ⟨96, _⟩ => ⟨S9216x1024, .f32⟩
  | .hbm, ⟨97, _⟩ => ⟨S9216x1024, .bf16⟩
  | _, _ => ⟨S4x2064x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c : Ref sig .tc := ⟨.hbm, 83, rfl⟩
abbrev main_call2_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_call4_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel2.lean ====
abbrev S9216x1024 : Shape := ⟨2, ![9216, 1024]⟩
abbrev S1024x5632 : Shape := ⟨2, ![1024, 5632]⟩
abbrev S9216x2816 : Shape := ⟨2, ![9216, 2816]⟩
abbrev S9216x5632 : Shape := ⟨2, ![9216, 5632]⟩
abbrev S256x2816 : Shape := ⟨2, ![256, 2816]⟩
abbrev S256x1024 : Shape := ⟨2, ![256, 1024]⟩
abbrev S256x5632 : Shape := ⟨2, ![256, 5632]⟩
abbrev S1 : Shape := ⟨1, ![1]⟩
abbrev S_ : Shape := ⟨0, ![]⟩
abbrev S1024x2816 : Shape := ⟨2, ![1024, 2816]⟩

abbrev nBuf : Space → Nat
  | .hbm => 9
  | .vmem => 11
  | .smem => 0
  | _ => 0

abbrev bufTy : (tb : Table) → Fin (tcTables nBuf tb) → BufTy
  | .hbm, ⟨0, _⟩ => ⟨S9216x1024, .f32⟩
  | .hbm, ⟨1, _⟩ => ⟨S1024x5632, .f32⟩
  | .hbm, ⟨2, _⟩ => ⟨S9216x2816, .f32⟩
  | .hbm, ⟨3, _⟩ => ⟨S9216x5632, .f32⟩
  | .hbm, ⟨4, _⟩ => ⟨S9216x5632, .bf16⟩
  | .hbm, ⟨5, _⟩ => ⟨S9216x2816, .bf16⟩
  | .hbm, ⟨6, _⟩ => ⟨S1024x5632, .bf16⟩
  | .hbm, ⟨7, _⟩ => ⟨S9216x1024, .bf16⟩
  | .hbm, ⟨8, _⟩ => ⟨S9216x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .bf16⟩
  | .local _ .vmem, ⟨7, _⟩ => ⟨S256x1024, .bf16⟩
  | .local _ .vmem, ⟨8, _⟩ => ⟨S256x5632, .bf16⟩
  | .local _ .vmem, ⟨9, _⟩ => ⟨S256x5632, .bf16⟩
  | .local _ .vmem, ⟨10, _⟩ => ⟨S1024x5632, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S9216x1024 : Shape := ⟨2, ![9216, 1024]⟩
abbrev S1024x5632 : Shape := ⟨2, ![1024, 5632]⟩
abbrev S9216x2816 : Shape := ⟨2, ![9216, 2816]⟩
abbrev S9216x5632 : Shape := ⟨2, ![9216, 5632]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x5632, .f32⟩
  | .hbm, ⟨2, _⟩ => ⟨S9216x2816, .f32⟩
  | .hbm, ⟨3, _⟩ => ⟨S9216x5632, .f32⟩
  | .hbm, ⟨4, _⟩ => ⟨S9216x2816, .f32⟩
  | .hbm, ⟨5, _⟩ => ⟨S9216x2816, .f32⟩
  | .hbm, ⟨6, _⟩ => ⟨S9216x2816, .f32⟩
  | .hbm, ⟨7, _⟩ => ⟨S9216x2816, .f32⟩
  | .hbm, ⟨8, _⟩ => ⟨S_, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S_, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x2816, .f32⟩
  | .hbm, ⟨24, _⟩ => ⟨S9216x2816, .f32⟩
  | .hbm, ⟨25, _⟩ => ⟨S9216x2816, .f32⟩
  | .hbm, ⟨26, _⟩ => ⟨S9216x5632, .f32⟩
  | .hbm, ⟨27, _⟩ => ⟨S9216x1024, .f32⟩
  | .hbm, ⟨28, _⟩ => ⟨S9216x5632, .f32⟩
  | .hbm, ⟨29, _⟩ => ⟨S9216x2816, .f32⟩
  | .hbm, ⟨30, _⟩ => ⟨S9216x2816, .f32⟩
  | .hbm, ⟨31, _⟩ => ⟨S9216x2816, .f32⟩
  | .hbm, ⟨32, _⟩ => ⟨S9216x2816, .f32⟩
  | .hbm, ⟨33, _⟩ => ⟨S_, .f32⟩
  | .hbm, ⟨34, _⟩ => ⟨S9216x2816, .f32⟩
  | .hbm, ⟨35, _⟩ => ⟨S9216x2816, .f32⟩
  | .hbm, ⟨36, _⟩ => ⟨S_, .f32⟩
  | .hbm, ⟨37, _⟩ => ⟨S9216x2816, .f32⟩
  | .hbm, ⟨38, _⟩ => ⟨S9216x2816, .f32⟩
  | .hbm, ⟨39, _⟩ => ⟨S_, .f32⟩
  | .hbm, ⟨40, _⟩ => ⟨S9216x2816, .f32⟩
  | .hbm, ⟨41, _⟩ => ⟨S9216x2816, .f32⟩
  | .hbm, ⟨42, _⟩ => ⟨S9216x2816, .f32⟩
  | .hbm, ⟨43, _⟩ => ⟨S9216x2816, .f32⟩
  | .hbm, ⟨44, _⟩ => ⟨S9216x2816, .f32⟩
  | .hbm, ⟨45, _⟩ => ⟨S9216x2816, .f32⟩
  | .hbm, ⟨46, _⟩ => ⟨S9216x2816, .f32⟩
  | .hbm, ⟨47, _⟩ => ⟨S9216x2816, .f32⟩
  | .hbm, ⟨48, _⟩ => ⟨S9216x2816, .f32⟩
  | .hbm, ⟨49, _⟩ => ⟨S9216x2816, .f32⟩
  | .hbm, ⟨50, _⟩ => ⟨S9216x2816, .f32⟩
  | .hbm, ⟨51, _⟩ => ⟨S9216x5632, .f32⟩
  | .hbm, ⟨52, _⟩ => ⟨S9216x1024, .bf16⟩
  | .hbm, ⟨53, _⟩ => ⟨S9216x5632, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_v13_2 : Ref sig .tc := ⟨.hbm, 38, rfl⟩
abbrev main_call2_cst_1 : Ref sig .tc := ⟨.hbm, 39, rfl⟩
abbrev main_call2_v6 : Ref sig .tc := ⟨.hbm, 40, rfl⟩
abbrev main_call2_v7 : Ref sig .tc := ⟨.hbm, 41, rfl⟩
abbrev main_v13_1 : Ref sig .tc := ⟨.hbm, 42, rfl⟩
abbrev main_v13_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Kernel3.lean ====
abbrev S9216x1024 : Shape := ⟨2, ![9216, 1024]⟩
abbrev S1024x1024 : Shape := ⟨2, ![1024, 1024]⟩
abbrev S1536x1024 : Shape := ⟨2, ![1536, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel3Ideal.lean ====
abbrev S9216x1024 : Shape := ⟨2, ![9216, 1024]⟩
abbrev S1024x1024 : Shape := ⟨2, ![1024, 1024]⟩
abbrev S1536x1024 : Shape := ⟨2, ![1536, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S1024x1024, .f32⟩
  | .hbm, ⟨6, _⟩ => ⟨S1024x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S9216x1024 : Shape := ⟨2, ![9216, 1024]⟩
abbrev S9216x5632 : Shape := ⟨2, ![9216, 5632]⟩
abbrev S1024x5632 : Shape := ⟨2, ![1024, 5632]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x5632, .f32⟩
  | .hbm, ⟨2, _⟩ => ⟨S9216x1024, .bf16⟩
  | .hbm, ⟨3, _⟩ => ⟨S9216x5632, .bf16⟩
  | .hbm, ⟨4, _⟩ => ⟨S1024x5632, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S9216x1024 : Shape := ⟨2, ![9216, 1024]⟩
abbrev S9216x5632 : Shape := ⟨2, ![9216, 5632]⟩
abbrev S1024x5632 : Shape := ⟨2, ![1024, 5632]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x5632, .f32⟩
  | .hbm, ⟨2, _⟩ => ⟨S9216x1024, .bf16⟩
  | .hbm, ⟨3, _⟩ => ⟨S9216x5632, .bf16⟩
  | .hbm, ⟨4, _⟩ => ⟨S1024x5632, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x5632, .f32⟩
  | .hbm, ⟨2, _⟩ => ⟨S_, .f32⟩
  | .hbm, ⟨3, _⟩ => ⟨S1024x5632, .f32⟩
  | .hbm, ⟨4, _⟩ => ⟨S9216x5632, .f32⟩
  | .hbm, ⟨5, _⟩ => ⟨S5632x1024, .f32⟩
  | .hbm, ⟨6, _⟩ => ⟨S1024x5632, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x2816, .f32⟩
  | .hbm, ⟨1, _⟩ => ⟨S9216x1024, .f32⟩
  | .hbm, ⟨2, _⟩ => ⟨S9216x2816, .bf16⟩
  | .hbm, ⟨3, _⟩ => ⟨S9216x1024, .bf16⟩
  | .hbm, ⟨4, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x2816, .f32⟩
  | .hbm, ⟨1, _⟩ => ⟨S9216x1024, .f32⟩
  | .hbm, ⟨2, _⟩ => ⟨S9216x2816, .bf16⟩
  | .hbm, ⟨3, _⟩ => ⟨S9216x1024, .bf16⟩
  | .hbm, ⟨4, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S9216x1024, .f32⟩
  | .hbm, ⟨2, _⟩ => ⟨S_, .f32⟩
  | .hbm, ⟨3, _⟩ => ⟨S2816x1024, .f32⟩
  | .hbm, ⟨4, _⟩ => ⟨S9216x1024, .f32⟩
  | .hbm, ⟨5, _⟩ => ⟨S1024x2816, .f32⟩
  | .hbm, ⟨6, _⟩ => ⟨S2816x1024, .f32⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S9216x1024 : Shape := ⟨2, ![9216, 1024]⟩
abbrev S9216x2048 : Shape := ⟨2, ![9216, 2048]⟩
abbrev S1024x2048 : Shape := ⟨2, ![1024, 2048]⟩
abbrev S1536x1024 : Shape := ⟨2, ![1536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x2048, .f32⟩
  | .hbm, ⟨2, _⟩ => ⟨S9216x1024, .bf16⟩
  | .hbm, ⟨3, _⟩ => ⟨S9216x2048, .bf16⟩
  | .hbm, ⟨4, _⟩ => ⟨S1024x2048, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S9216x1024 : Shape := ⟨2, ![9216, 1024]⟩
abbrev S9216x2048 : Shape := ⟨2, ![9216, 2048]⟩
abbrev S1024x2048 : Shape := ⟨2, ![1024, 2048]⟩
abbrev S1536x1024 : Shape := ⟨2, ![1536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x2048, .f32⟩
  | .hbm, ⟨2, _⟩ => ⟨S9216x1024, .bf16⟩
  | .hbm, ⟨3, _⟩ => ⟨S9216x2048, .bf16⟩
  | .hbm, ⟨4, _⟩ => ⟨S1024x2048, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x1024 : Shape := ⟨2, ![9216, 1024]⟩
abbrev S9216x2048 : Shape := ⟨2, ![9216, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x2048, .f32⟩
  | .hbm, ⟨2, _⟩ => ⟨S_, .f32⟩
  | .hbm, ⟨3, _⟩ => ⟨S1024x2048, .f32⟩
  | .hbm, ⟨4, _⟩ => ⟨S9216x2048, .f32⟩
  | .hbm, ⟨5, _⟩ => ⟨S2048x1024, .f32⟩
  | .hbm, ⟨6, _⟩ => ⟨S1024x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S9216x1024 : Shape := ⟨2, ![9216, 1024]⟩
abbrev S9216x640 : Shape := ⟨2, ![9216, 640]⟩
abbrev S1024x640 : Shape := ⟨2, ![1024, 640]⟩
abbrev S1536x1024 : Shape := ⟨2, ![1536, 1024]⟩
abbrev S1536x640 : Shape := ⟨2, ![1536, 640]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x640, .f32⟩
  | .hbm, ⟨2, _⟩ => ⟨S9216x1024, .bf16⟩
  | .hbm, ⟨3, _⟩ => ⟨S9216x640, .bf16⟩
  | .hbm, ⟨4, _⟩ => ⟨S1024x640, .f32⟩
  | .local _ .vmem, ⟨0, _⟩ => ⟨S1536x1024, .bf16⟩
  | .local _ .vmem, ⟨1, _⟩ => ⟨S1536x1024, .bf16⟩
  | .local _ .vmem, ⟨2, _⟩ => ⟨S1536x640, .bf16⟩
  | .local _ .vmem, ⟨3, _⟩ => ⟨S1536x640, .bf16⟩
  | .local _ .vmem, ⟨4, _⟩ => ⟨S1024x640, .f32⟩
  | .local _ .vmem, ⟨5, _⟩ => ⟨S1024x640, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel7Ideal.lean ====
abbrev S9216x1024 : Shape := ⟨2, ![9216, 1024]⟩
abbrev S9216x640 : Shape := ⟨2, ![9216, 640]⟩
abbrev S1024x640 : Shape := ⟨2, ![1024, 640]⟩
abbrev S1536x1024 : Shape := ⟨2, ![1536, 1024]⟩
abbrev S1536x640 : Shape := ⟨2, ![1536, 640]⟩

abbrev nBuf : Space → Nat
  | .hbm => 5
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x640, .f32⟩
  | .hbm, ⟨2, _⟩ => ⟨S9216x1024, .bf16⟩
  | .hbm, ⟨3, _⟩ => ⟨S9216x640, .bf16⟩
  | .hbm, ⟨4, _⟩ => ⟨S1024x640, .f32⟩
  | .local _ .vmem, ⟨0, _⟩ => ⟨S1536x1024, .bf16⟩
  | .local _ .vmem, ⟨1, _⟩ => ⟨S1536x1024, .bf16⟩
  | .local _ .vmem, ⟨2, _⟩ => ⟨S1536x640, .bf16⟩
  | .local _ .vmem, ⟨3, _⟩ => ⟨S1536x640, .bf16⟩
  | .local _ .vmem, ⟨4, _⟩ => ⟨S1024x640, .f32⟩
  | .local _ .vmem, ⟨5, _⟩ => ⟨S1024x640, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S9216x640 : Shape := ⟨2, ![9216, 640]⟩
abbrev S_ : Shape := ⟨0, ![]⟩
abbrev S1024x640 : Shape := ⟨2, ![1024, 640]⟩
abbrev S640x1024 : Shape := ⟨2, ![640, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x640, .f32⟩
  | .hbm, ⟨2, _⟩ => ⟨S_, .f32⟩
  | .hbm, ⟨3, _⟩ => ⟨S1024x640, .f32⟩
  | .hbm, ⟨4, _⟩ => ⟨S9216x640, .f32⟩
  | .hbm, ⟨5, _⟩ => ⟨S640x1024, .f32⟩
  | .hbm, ⟨6, _⟩ => ⟨S1024x640, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S9216x256 : Shape := ⟨2, ![9216, 256]⟩
abbrev S9216x2048 : Shape := ⟨2, ![9216, 2048]⟩
abbrev S256x2048 : Shape := ⟨2, ![256, 2048]⟩
abbrev S1536x256 : Shape := ⟨2, ![1536, 256]⟩
abbrev S1536x1024 : Shape := ⟨2, ![1536, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x256, .f32⟩
  | .hbm, ⟨1, _⟩ => ⟨S9216x2048, .f32⟩
  | .hbm, ⟨2, _⟩ => ⟨S9216x256, .bf16⟩
  | .hbm, ⟨3, _⟩ => ⟨S9216x2048, .bf16⟩
  | .hbm, ⟨4, _⟩ => ⟨S256x2048, .f32⟩
  | .local _ .vmem, ⟨0, _⟩ => ⟨S1536x256, .bf16⟩
  | .local _ .vmem, ⟨1, _⟩ => ⟨S1536x256, .bf16⟩
  | .local _ .vmem, ⟨2, _⟩ => ⟨S1536x1024, .bf16⟩
  | .local _ .vmem, ⟨3, _⟩ => ⟨S1536x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x256 : Shape := ⟨2, ![9216, 256]⟩
abbrev S9216x2048 : Shape := ⟨2, ![9216, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S9216x2048, .f32⟩
  | .hbm, ⟨2, _⟩ => ⟨S_, .f32⟩
  | .hbm, ⟨3, _⟩ => ⟨S256x2048, .f32⟩
  | .hbm, ⟨4, _⟩ => ⟨S9216x2048, .f32⟩
  | .hbm, ⟨5, _⟩ => ⟨S2048x256, .f32⟩
  | .hbm, ⟨6, _⟩ => ⟨S256x2048, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S9216x1024 : Shape := ⟨2, ![9216, 1024]⟩
abbrev S1024x6144 : Shape := ⟨2, ![1024, 6144]⟩
abbrev S9216x6144 : Shape := ⟨2, ![9216, 6144]⟩
abbrev S512x1024 : Shape := ⟨2, ![512, 1024]⟩
abbrev S512x6144 : Shape := ⟨2, ![512, 6144]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x6144, .f32⟩
  | .hbm, ⟨2, _⟩ => ⟨S9216x1024, .bf16⟩
  | .hbm, ⟨3, _⟩ => ⟨S1024x6144, .bf16⟩
  | .hbm, ⟨4, _⟩ => ⟨S9216x6144, .bf16⟩
  | .local _ .vmem, ⟨0, _⟩ => ⟨S512x1024, .bf16⟩
  | .local _ .vmem, ⟨1, _⟩ => ⟨S512x1024, .bf16⟩
  | .local _ .vmem, ⟨2, _⟩ => ⟨S1024x6144, .bf16⟩
  | .local _ .vmem, ⟨3, _⟩ => ⟨S512x6144, .bf16⟩
  | .local _ .vmem, ⟨4, _⟩ => ⟨S512x6144, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel9Ideal.lean ====
abbrev S9216x1024 : Shape := ⟨2, ![9216, 1024]⟩
abbrev S1024x6144 : Shape := ⟨2, ![1024, 6144]⟩
abbrev S9216x6144 : Shape := ⟨2, ![9216, 6144]⟩
abbrev S512x1024 : Shape := ⟨2, ![512, 1024]⟩
abbrev S512x6144 : Shape := ⟨2, ![512, 6144]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x6144, .f32⟩
  | .hbm, ⟨2, _⟩ => ⟨S9216x1024, .bf16⟩
  | .hbm, ⟨3, _⟩ => ⟨S1024x6144, .bf16⟩
  | .hbm, ⟨4, _⟩ => ⟨S9216x6144, .bf16⟩
  | .local _ .vmem, ⟨0, _⟩ => ⟨S512x1024, .bf16⟩
  | .local _ .vmem, ⟨1, _⟩ => ⟨S512x1024, .bf16⟩
  | .local _ .vmem, ⟨2, _⟩ => ⟨S1024x6144, .bf16⟩
  | .local _ .vmem, ⟨3, _⟩ => ⟨S512x6144, .bf16⟩
  | .local _ .vmem, ⟨4, _⟩ => ⟨S512x6144, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S9216x1024 : Shape := ⟨2, ![9216, 1024]⟩
abbrev S1024x6144 : Shape := ⟨2, ![1024, 6144]⟩
abbrev S9216x6144 : Shape := ⟨2, ![9216, 6144]⟩

abbrev nBuf : Space → Nat
  | .hbm => 4
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x6144, .f32⟩
  | .hbm, ⟨2, _⟩ => ⟨S9216x6144, .f32⟩
  | .hbm, ⟨3, _⟩ => ⟨S9216x6144, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S9216x1024 : Shape := ⟨2, ![9216, 1024]⟩
abbrev S1024x640 : Shape := ⟨2, ![1024, 640]⟩
abbrev S9216x640 : Shape := ⟨2, ![9216, 640]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x640, .f32⟩
  | .hbm, ⟨2, _⟩ => ⟨S9216x1024, .bf16⟩
  | .hbm, ⟨3, _⟩ => ⟨S1024x640, .bf16⟩
  | .hbm, ⟨4, _⟩ => ⟨S9216x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel10Ideal.lean ====
abbrev S9216x1024 : Shape := ⟨2, ![9216, 1024]⟩
abbrev S1024x640 : Shape := ⟨2, ![1024, 640]⟩
abbrev S9216x640 : Shape := ⟨2, ![9216, 640]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x640, .f32⟩
  | .hbm, ⟨2, _⟩ => ⟨S9216x1024, .bf16⟩
  | .hbm, ⟨3, _⟩ => ⟨S1024x640, .bf16⟩
  | .hbm, ⟨4, _⟩ => ⟨S9216x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S9216x1024 : Shape := ⟨2, ![9216, 1024]⟩
abbrev S1024x640 : Shape := ⟨2, ![1024, 640]⟩
abbrev S9216x640 : Shape := ⟨2, ![9216, 640]⟩

abbrev nBuf : Space → Nat
  | .hbm => 4
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x640, .f32⟩
  | .hbm, ⟨2, _⟩ => ⟨S9216x640, .f32⟩
  | .hbm, ⟨3, _⟩ => ⟨S9216x640, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S9216x1024 : Shape := ⟨2, ![9216, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1024x1024, .f32⟩
  | .hbm, ⟨2, _⟩ => ⟨S9216x1024, .bf16⟩
  | .hbm, ⟨3, _⟩ => ⟨S1024x1024, .bf16⟩
  | .hbm, ⟨4, _⟩ => ⟨S9216x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S9216x1024 : Shape := ⟨2, ![9216, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x1024, .f32⟩
  | .hbm, ⟨2, _⟩ => ⟨S9216x1024, .f32⟩
  | .hbm, ⟨3, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S9216x5632 : Shape := ⟨2, ![9216, 5632]⟩
abbrev S2816x1024 : Shape := ⟨2, ![2816, 1024]⟩
abbrev S9216x1024 : Shape := ⟨2, ![9216, 1024]⟩
abbrev S9216x2816 : Shape := ⟨2, ![9216, 2816]⟩
abbrev S256x2816 : Shape := ⟨2, ![256, 2816]⟩
abbrev S256x1024 : Shape := ⟨2, ![256, 1024]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S9216x5632, .f32⟩
  | .hbm, ⟨1, _⟩ => ⟨S2816x1024, .f32⟩
  | .hbm, ⟨2, _⟩ => ⟨S9216x5632, .bf16⟩
  | .hbm, ⟨3, _⟩ => ⟨S2816x1024, .bf16⟩
  | .hbm, ⟨4, _⟩ => ⟨S9216x1024, .bf16⟩
  | .hbm, ⟨5, _⟩ => ⟨S9216x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .bf16⟩
  | .local _ .vmem, ⟨5, _⟩ => ⟨S256x1024, .bf16⟩
  | .local _ .vmem, ⟨6, _⟩ => ⟨S256x2816, .bf16⟩
  | .local _ .vmem, ⟨7, _⟩ => ⟨S256x2816, .bf16⟩
  | .local _ .vmem, ⟨8, _⟩ => ⟨S2816x1024, .bf16⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S9216x5632 : Shape := ⟨2, ![9216, 5632]⟩
abbrev S2816x1024 : Shape := ⟨2, ![2816, 1024]⟩
abbrev S9216x2816 : Shape := ⟨2, ![9216, 2816]⟩
abbrev S_ : Shape := ⟨0, ![]⟩
abbrev S9216x1024 : Shape := ⟨2, ![9216, 1024]⟩

abbrev nBuf : Space → Nat
  | .hbm => 17
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S2816x1024, .f32⟩
  | .hbm, ⟨2, _⟩ => ⟨S9216x2816, .f32⟩
  | .hbm, ⟨3, _⟩ => ⟨S9216x2816, .f32⟩
  | .hbm, ⟨4, _⟩ => ⟨S9216x2816, .f32⟩
  | .hbm, ⟨5, _⟩ => ⟨S9216x2816, .f32⟩
  | .hbm, ⟨6, _⟩ => ⟨S_, .f32⟩
  | .hbm, ⟨7, _⟩ => ⟨S9216x2816, .f32⟩
  | .hbm, ⟨8, _⟩ => ⟨S9216x2816, .f32⟩
  | .hbm, ⟨9, _⟩ => ⟨S_, .f32⟩
  | .hbm, ⟨10, _⟩ => ⟨S9216x2816, .f32⟩
  | .hbm, ⟨11, _⟩ => ⟨S9216x2816, .f32⟩
  | .hbm, ⟨12, _⟩ => ⟨S9216x2816, .f32⟩
  | .hbm, ⟨13, _⟩ => ⟨S9216x2816, .f32⟩
  | .hbm, ⟨14, _⟩ => ⟨S9216x1024, .f32⟩
  | .hbm, ⟨15, _⟩ => ⟨S9216x1024, .bf16⟩
  | .hbm, ⟨16, _⟩ => ⟨S9216x2816, .bf16⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel13.lean ====
abbrev S9216x1024 : Shape := ⟨2, ![9216, 1024]⟩
abbrev S1x1024 : Shape := ⟨2, ![1, 1024]⟩
abbrev S1024x5632 : Shape := ⟨2, ![1024, 5632]⟩
abbrev S9216x5632 : Shape := ⟨2, ![9216, 5632]⟩
abbrev S256x1024 : Shape := ⟨2, ![256, 1024]⟩
abbrev S256x5632 : Shape := ⟨2, ![256, 5632]⟩
abbrev S1 : Shape := ⟨1, ![1]⟩
abbrev S_ : Shape := ⟨0, ![]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S9216x1024, .bf16⟩
  | .hbm, ⟨6, _⟩ => ⟨S1024x5632, .bf16⟩
  | .hbm, ⟨7, _⟩ => ⟨S9216x5632, .bf16⟩
  | .hbm, ⟨8, _⟩ => ⟨S9216x1024, .f32⟩
  | .hbm, ⟨9, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1024x5632, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S9216x1024 : Shape := ⟨2, ![9216, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S9216 : Shape := ⟨1, ![9216]⟩
abbrev S9216x1 : Shape := ⟨2, ![9216, 1]⟩
abbrev S9216x5632 : Shape := ⟨2, ![9216, 5632]⟩

abbrev nBuf : Space → Nat
  | .hbm => 43
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1024, .f32⟩
  | .hbm, ⟨6, _⟩ => ⟨S9216x1024, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x1024, .f32⟩
  | .hbm, ⟨18, _⟩ => ⟨S9216x1024, .f32⟩
  | .hbm, ⟨19, _⟩ => ⟨S1x1024, .f32⟩
  | .hbm, ⟨20, _⟩ => ⟨S9216x1024, .f32⟩
  | .hbm, ⟨21, _⟩ => ⟨S9216x1024, .f32⟩
  | .hbm, ⟨22, _⟩ => ⟨S9216x1024, .f32⟩
  | .hbm, ⟨23, _⟩ => ⟨S1024, .f32⟩
  | .hbm, ⟨24, _⟩ => ⟨S9216x1024, .f32⟩
  | .hbm, ⟨25, _⟩ => ⟨S_, .f32⟩
  | .hbm, ⟨26, _⟩ => ⟨S9216, .f32⟩
  | .hbm, ⟨27, _⟩ => ⟨S9216x1, .f32⟩
  | .hbm, ⟨28, _⟩ => ⟨S_, .f32⟩
  | .hbm, ⟨29, _⟩ => ⟨S9216x1, .f32⟩
  | .hbm, ⟨30, _⟩ => ⟨S9216x1, .f32⟩
  | .hbm, ⟨31, _⟩ => ⟨S_, .f32⟩
  | .hbm, ⟨32, _⟩ => ⟨S9216x1, .f32⟩
  | .hbm, ⟨33, _⟩ => ⟨S9216x1, .f32⟩
  | .hbm, ⟨34, _⟩ => ⟨S9216x1, .f32⟩
  | .hbm, ⟨35, _⟩ => ⟨S9216x1024, .f32⟩
  | .hbm, ⟨36, _⟩ => ⟨S9216x1024, .f32⟩
  | .hbm, ⟨37, _⟩ => ⟨S1x1024, .f32⟩
  | .hbm, ⟨38, _⟩ => ⟨S9216x1024, .f32⟩
  | .hbm, ⟨39, _⟩ => ⟨S9216x1024, .f32⟩
  | .hbm, ⟨40, _⟩ => ⟨S9216x5632, .f32⟩
  | .hbm, ⟨41, _⟩ => ⟨S9216x5632, .bf16⟩
  | .hbm, ⟨42, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel14.lean ====
abbrev S9216x1024 : Shape := ⟨2, ![9216, 1024]⟩
abbrev S9216x6144 : Shape := ⟨2, ![9216, 6144]⟩
abbrev S1x2048 : Shape := ⟨2, ![1, 2048]⟩
abbrev S1024x1024 : Shape := ⟨2, ![1024, 1024]⟩
abbrev S512x1024 : Shape := ⟨2, ![512, 1024]⟩
abbrev S1 : Shape := ⟨1, ![1]⟩
abbrev S_ : Shape := ⟨0, ![]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x6144, .f32⟩
  | .hbm, ⟨3, _⟩ => ⟨S1x2048, .f32⟩
  | .hbm, ⟨4, _⟩ => ⟨S1024x1024, .f32⟩
  | .hbm, ⟨5, _⟩ => ⟨S9216x1024, .bf16⟩
  | .hbm, ⟨6, _⟩ => ⟨S9216x1024, .bf16⟩
  | .hbm, ⟨7, _⟩ => ⟨S9216x6144, .bf16⟩
  | .hbm, ⟨8, _⟩ => ⟨S1024x1024, .bf16⟩
  | .hbm, ⟨9, _⟩ => ⟨S9216x1024, .bf16⟩
  | .hbm, ⟨10, _⟩ => ⟨S9216x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let c0_i32_0 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c5_i32 : BitVec 32 := 5#32
  let c0_i32_0 : BitVec 32 := 0#32
  ![v0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S9216x1024 : Shape := ⟨2, ![9216, 1024]⟩
abbrev S9216x6144 : Shape := ⟨2, ![9216, 6144]⟩
abbrev S1x2048 : Shape := ⟨2, ![1, 2048]⟩
abbrev S1024x1024 : Shape := ⟨2, ![1024, 1024]⟩
abbrev S9216x2048 : Shape := ⟨2, ![9216, 2048]⟩
abbrev S2048 : Shape := ⟨1, ![2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x6144, .f32⟩
  | .hbm, ⟨3, _⟩ => ⟨S1x2048, .f32⟩
  | .hbm, ⟨4, _⟩ => ⟨S1024x1024, .f32⟩
  | .hbm, ⟨5, _⟩ => ⟨S9216x2048, .f32⟩
  | .hbm, ⟨6, _⟩ => ⟨S2048, .f32⟩
  | .hbm, ⟨7, _⟩ => ⟨S1x2048, .f32⟩
  | .hbm, ⟨8, _⟩ => ⟨S9216x2048, .f32⟩
  | .hbm, ⟨9, _⟩ => ⟨S9216x2048, .f32⟩
  | .hbm, ⟨10, _⟩ => ⟨S9216x2048, .f32⟩
  | .hbm, ⟨11, _⟩ => ⟨S9216x2048, .f32⟩
  | .hbm, ⟨12, _⟩ => ⟨S_, .f32⟩
  | .hbm, ⟨13, _⟩ => ⟨S9216x2048, .f32⟩
  | .hbm, ⟨14, _⟩ => ⟨S9216x2048, .f32⟩
  | .hbm, ⟨15, _⟩ => ⟨S_, .f32⟩
  | .hbm, ⟨16, _⟩ => ⟨S9216x2048, .f32⟩
  | .hbm, ⟨17, _⟩ => ⟨S9216x2048, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S9216x1024, .bf16⟩
  | .hbm, ⟨25, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel15.lean ====
abbrev S9216x1024 : Shape := ⟨2, ![9216, 1024]⟩
abbrev S9216x2048 : Shape := ⟨2, ![9216, 2048]⟩
abbrev S9216x640 : Shape := ⟨2, ![9216, 640]⟩
abbrev S1x1024 : Shape := ⟨2, ![1, 1024]⟩
abbrev S1024x6784 : Shape := ⟨2, ![1024, 6784]⟩
abbrev S2304 : Shape := ⟨1, ![2304]⟩
abbrev S_ : Shape := ⟨0, ![]⟩
abbrev S2304x1 : Shape := ⟨2, ![2304, 1]⟩
abbrev S2304x128 : Shape := ⟨2, ![2304, 128]⟩
abbrev S8192x1024 : Shape := ⟨2, ![8192, 1024]⟩
abbrev S256x1024 : Shape := ⟨2, ![256, 1024]⟩
abbrev S256x2048 : Shape := ⟨2, ![256, 2048]⟩
abbrev S256x640 : Shape := ⟨2, ![256, 640]⟩
abbrev S256x128 : Shape := ⟨2, ![256, 128]⟩
abbrev S1 : Shape := ⟨1, ![1]⟩
abbrev S1024x1024 : Shape := ⟨2, ![1024, 1024]⟩
abbrev S1024x2048 : Shape := ⟨2, ![1024, 2048]⟩
abbrev S1024x640 : Shape := ⟨2, ![1024, 640]⟩
abbrev S256 : Shape := ⟨1, ![256]⟩
abbrev S256x1 : Shape := ⟨2, ![256, 1]⟩
abbrev S1024 : Shape := ⟨1, ![1024]⟩

abbrev nBuf : Space → Nat
  | .hbm => 32
  | .vmem => 24
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x2048, .f32⟩
  | .hbm, ⟨5, _⟩ => ⟨S9216x640, .f32⟩
  | .hbm, ⟨6, _⟩ => ⟨S9216x1024, .f32⟩
  | .hbm, ⟨7, _⟩ => ⟨S9216x1024, .f32⟩
  | .hbm, ⟨8, _⟩ => ⟨S1x1024, .f32⟩
  | .hbm, ⟨9, _⟩ => ⟨S1024x6784, .f32⟩
  | .hbm, ⟨10, _⟩ => ⟨S9216x1024, .bf16⟩
  | .hbm, ⟨11, _⟩ => ⟨S9216x1024, .bf16⟩
  | .hbm, ⟨12, _⟩ => ⟨S9216x1024, .bf16⟩
  | .hbm, ⟨13, _⟩ => ⟨S9216x1024, .bf16⟩
  | .hbm, ⟨14, _⟩ => ⟨S9216x2048, .bf16⟩
  | .hbm, ⟨15, _⟩ => ⟨S9216x640, .bf16⟩
  | .hbm, ⟨16, _⟩ => ⟨S1024x6784, .bf16⟩
  | .hbm, ⟨17, _⟩ => ⟨S2304, .i32⟩
  | .hbm, ⟨18, _⟩ => ⟨S_, .i32⟩
  | .hbm, ⟨19, _⟩ => ⟨S2304, .i32⟩
  | .hbm, ⟨20, _⟩ => ⟨S2304, .i1⟩
  | .hbm, ⟨21, _⟩ => ⟨S2304, .i32⟩
  | .hbm, ⟨22, _⟩ => ⟨S_, .i32⟩
  | .hbm, ⟨23, _⟩ => ⟨S2304, .i32⟩
  | .hbm, ⟨24, _⟩ => ⟨S2304, .i1⟩
  | .hbm, ⟨25, _⟩ => ⟨S2304, .i1⟩
  | .hbm, ⟨26, _⟩ => ⟨S2304, .f32⟩
  | .hbm, ⟨27, _⟩ => ⟨S2304x1, .f32⟩
  | .hbm, ⟨28, _⟩ => ⟨S2304x128, .f32⟩
  | .hbm, ⟨29, _⟩ => ⟨S8192x1024, .f32⟩
  | .hbm, ⟨30, _⟩ => ⟨S1x1024, .f32⟩
  | .hbm, ⟨31, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x640, .bf16⟩
  | .local _ .vmem, ⟨11, _⟩ => ⟨S256x640, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x128, .f32⟩
  | .local _ .vmem, ⟨17, _⟩ => ⟨S256x128, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .f32⟩
  | .local _ .vmem, ⟨23, _⟩ => ⟨S1024x6784, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference15Ideal.lean ====
abbrev S9216x1024 : Shape := ⟨2, ![9216, 1024]⟩
abbrev S9216x2048 : Shape := ⟨2, ![9216, 2048]⟩
abbrev S9216x640 : Shape := ⟨2, ![9216, 640]⟩
abbrev S1x1024 : Shape := ⟨2, ![1, 1024]⟩
abbrev S1024x6784 : Shape := ⟨2, ![1024, 6784]⟩
abbrev S9216x6784 : Shape := ⟨2, ![9216, 6784]⟩
abbrev S1024 : Shape := ⟨1, ![1024]⟩
abbrev S_ : Shape := ⟨0, ![]⟩
abbrev S9216 : Shape := ⟨1, ![9216]⟩
abbrev S9216x1 : Shape := ⟨2, ![9216, 1]⟩
abbrev S4x2304x1024 : Shape := ⟨3, ![4, 2304, 1024]⟩
abbrev S4x16x1024 : Shape := ⟨3, ![4, 16, 1024]⟩
abbrev S16x1024 : Shape := ⟨2, ![16, 1024]⟩
abbrev S4x2048x1024 : Shape := ⟨3, ![4, 2048, 1024]⟩
abbrev S8192x1024 : Shape := ⟨2, ![8192, 1024]⟩
abbrev S256x1024 : Shape := ⟨2, ![256, 1024]⟩

abbrev nBuf : Space → Nat
  | .hbm => 70
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x2048, .f32⟩
  | .hbm, ⟨5, _⟩ => ⟨S9216x640, .f32⟩
  | .hbm, ⟨6, _⟩ => ⟨S9216x1024, .f32⟩
  | .hbm, ⟨7, _⟩ => ⟨S9216x1024, .f32⟩
  | .hbm, ⟨8, _⟩ => ⟨S1x1024, .f32⟩
  | .hbm, ⟨9, _⟩ => ⟨S1024x6784, .f32⟩
  | .hbm, ⟨10, _⟩ => ⟨S9216x6784, .f32⟩
  | .hbm, ⟨11, _⟩ => ⟨S1024, .f32⟩
  | .hbm, ⟨12, _⟩ => ⟨S9216x1024, .f32⟩
  | .hbm, ⟨13, _⟩ => ⟨S_, .f32⟩
  | .hbm, ⟨14, _⟩ => ⟨S9216, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x1, .f32⟩
  | .hbm, ⟨23, _⟩ => ⟨S9216x1, .f32⟩
  | .hbm, ⟨24, _⟩ => ⟨S_, .f32⟩
  | .hbm, ⟨25, _⟩ => ⟨S9216x1, .f32⟩
  | .hbm, ⟨26, _⟩ => ⟨S9216x1, .f32⟩
  | .hbm, ⟨27, _⟩ => ⟨S9216x1024, .f32⟩
  | .hbm, ⟨28, _⟩ => ⟨S9216x1024, .f32⟩
  | .hbm, ⟨29, _⟩ => ⟨S1x1024, .f32⟩
  | .hbm, ⟨30, _⟩ => ⟨S9216x1024, .f32⟩
  | .hbm, ⟨31, _⟩ => ⟨S9216x1024, .f32⟩
  | .hbm, ⟨32, _⟩ => ⟨S9216x6784, .f32⟩
  | .hbm, ⟨33, _⟩ => ⟨S9216x1024, .f32⟩
  | .hbm, ⟨34, _⟩ => ⟨S9216x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S9216x1024, .f32⟩
  | .hbm, ⟨39, _⟩ => ⟨S9216x1024, .f32⟩
  | .hbm, ⟨40, _⟩ => ⟨S_, .f32⟩
  | .hbm, ⟨41, _⟩ => ⟨S1024, .f32⟩
  | .hbm, ⟨42, _⟩ => ⟨S9216x1024, .f32⟩
  | .hbm, ⟨43, _⟩ => ⟨S_, .f32⟩
  | .hbm, ⟨44, _⟩ => ⟨S9216, .f32⟩
  | .hbm, ⟨45, _⟩ => ⟨S9216x1, .f32⟩
  | .hbm, ⟨46, _⟩ => ⟨S9216x1024, .f32⟩
  | .hbm, ⟨47, _⟩ => ⟨S9216x1024, .f32⟩
  | .hbm, ⟨48, _⟩ => ⟨S9216x1024, .f32⟩
  | .hbm, ⟨49, _⟩ => ⟨S9216x1, .f32⟩
  | .hbm, ⟨50, _⟩ => ⟨S_, .f32⟩
  | .hbm, ⟨51, _⟩ => ⟨S9216x1, .f32⟩
  | .hbm, ⟨52, _⟩ => ⟨S9216x1, .f32⟩
  | .hbm, ⟨53, _⟩ => ⟨S_, .f32⟩
  | .hbm, ⟨54, _⟩ => ⟨S9216, .f32⟩
  | .hbm, ⟨55, _⟩ => ⟨S9216x1024, .f32⟩
  | .hbm, ⟨56, _⟩ => ⟨S9216x1024, .f32⟩
  | .hbm, ⟨57, _⟩ => ⟨S9216x1024, .f32⟩
  | .hbm, ⟨58, _⟩ => ⟨S9216x1024, .f32⟩
  | .hbm, ⟨59, _⟩ => ⟨S9216x1024, .f32⟩
  | .hbm, ⟨60, _⟩ => ⟨S1x1024, .f32⟩
  | .hbm, ⟨61, _⟩ => ⟨S4x2304x1024, .f32⟩
  | .hbm, ⟨62, _⟩ => ⟨S4x16x1024, .f32⟩
  | .hbm, ⟨63, _⟩ => ⟨S_, .f32⟩
  | .hbm, ⟨64, _⟩ => ⟨S16x1024, .f32⟩
  | .hbm, ⟨65, _⟩ => ⟨S4x2048x1024, .f32⟩
  | .hbm, ⟨66, _⟩ => ⟨S8192x1024, .f32⟩
  | .hbm, ⟨67, _⟩ => ⟨S_, .i32⟩
  | .hbm, ⟨68, _⟩ => ⟨S_, .f32⟩
  | .hbm, ⟨69, _⟩ => ⟨S256x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c : Ref sig .tc := ⟨.hbm, 67, rfl⟩
abbrev main_call0_v0 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.AttnBwd.Same.lean ====
module

public import proofs.«01_k».proof.Proof.Gen.Kernel
public import proofs.«01_k».proof.Proof.Gen.KernelIdeal

/-!
# The program before and after idealizing is one program

No literal of the kernel was renamed, so the two printings hold the same text. Their bodies, their
body tables and their label tables are equal, over any float values.
-/

@[expose] public section
set_option maxRecDepth 16384
set_option maxHeartbeats 1600000
noncomputable section
namespace Cert.Proof.AttnBwd

open Idealize.ShloMosaic Idealize.SL.Sem

variable {F : FTy → Type} [FloatOps F]

/-- The body's fifth part is the same in both printings. -/
theorem part5_same : (Cert.Kernel.k0_part5 (F := F)) = (Cert.KernelIdeal.k0_part5 (F := F)) := rfl
/-- The body's sixth part is the same in both printings. -/
theorem part6_same : (Cert.Kernel.k0_part6 (F := F)) = (Cert.KernelIdeal.k0_part6 (F := F)) := rfl
/-- The body's seventh part is the same in both printings. -/
theorem part7_same : (Cert.Kernel.k0_part7 (F := F)) = (Cert.KernelIdeal.k0_part7 (F := F)) := rfl

/-- The kernel body is the same in both printings. -/
theorem body_same : (Cert.Kernel.cc0_attn_bwd (F := F)) = (Cert.KernelIdeal.cc0_attn_bwd (F := F)) := by
  funext i a3 h3 a4 h4 a5 h5 a6 h6 a7 h7 a8 h8 a9 h9 a10 h10 a11 h11 a12 h12 a13 h13 a14 h14 a15 h15
  unfold Cert.Kernel.cc0_attn_bwd Cert.KernelIdeal.cc0_attn_bwd
  rw [part5_same, part6_same, part7_same]
  refine congrArg (bind _) (funext fun x => ?_)
  obtain ⟨x1, x2, x3, x4, x5, x6⟩ := x
  rfl

/-- The table of kernel bodies is the same in both printings: it has one label. -/
theorem defs₀_same : (Cert.Kernel.defs₀ (F := F)) = (Cert.KernelIdeal.defs₀ (F := F)) := by
  unfold Cert.Kernel.defs₀ Cert.KernelIdeal.defs₀
  rw [body_same]
  refine congrArg Defs.onTc (funext fun l => funext fun x => ?_)
  obtain ⟨l, hl⟩ := l
  cases l with
  | zero => obtain ⟨t, s⟩ := x; rfl
  | succ n => exact absurd hl (Nat.not_lt.2 (Nat.le_add_left _ _))

/-- The table of the pipeline's labels is the same in both printings. -/
theorem defs_same : (Cert.Kernel.defs (F := F)) = (Cert.KernelIdeal.defs (F := F)) :=
  congrArg (Pipeline.defs Cert.KernelIdeal.pcfgs) defs₀_same

end Cert.Proof.AttnBwd
-- ==== Proof.AttnBwd.Spec.lean ====
/-
  The gradient of the causal softmax attention over the real numbers: the functions that both programs are shown
  to compute, for four examples, eight heads and 2064 positions each.
-/
module

public import Mathlib.Data.EReal.Operations
public import Mathlib.Analysis.SpecialFunctions.Exp
public import Mathlib.Analysis.SpecialFunctions.Log.Basic

@[expose] public section

noncomputable section

namespace Cert.Proof.AttnBwd

/-- One array per example, position, head and column. -/
abbrev Arr (w : ℕ) := Fin 4 → Fin 2064 → Fin 8 → Fin w → ℝ

/-- The four arguments as real numbers: the queries (scaled), the keys, the values, the gradient of the output. -/
structure Args where
  q : Arr 192
  k : Arr 192
  v : Arr 128
  d : Arr 128

namespace Args

variable (a : Args)

/-- The score of query `i` against key `j`. -/
def score (b : Fin 4) (h : Fin 8) (i j : Fin 2064) : ℝ := ∑ e : Fin 192, a.q b i h e * a.k b j h e
/-- The weight of key `j` for query `i`: zero for a key after the query. -/
def weight (b : Fin 4) (h : Fin 8) (i j : Fin 2064) : ℝ := if j ≤ i then Real.exp (a.score b h i j) else 0
/-- The sum of the weights of query `i`. -/
def total (b : Fin 4) (h : Fin 8) (i : Fin 2064) : ℝ := ∑ j : Fin 2064, a.weight b h i j
/-- The softmax: the weights over their sum. -/
def prob (b : Fin 4) (h : Fin 8) (i j : Fin 2064) : ℝ := a.weight b h i j / a.total b h i
/-- The gradient of the probability of key `j` for query `i`. -/
def dprob (b : Fin 4) (h : Fin 8) (i j : Fin 2064) : ℝ := ∑ e : Fin 128, a.d b i h e * a.v b j h e
/-- The gradients of query `i`'s probabilities, summed with the probabilities as weights. -/
def delta (b : Fin 4) (h : Fin 8) (i : Fin 2064) : ℝ := ∑ j : Fin 2064, a.prob b h i j * a.dprob b h i j
/-- The gradient of the score of query `i` against key `j`. -/
def dscore (b : Fin 4) (h : Fin 8) (i j : Fin 2064) : ℝ := a.prob b h i j * (a.dprob b h i j - a.delta b h i)
/-- The gradient of the queries. -/
def dq : Arr 192 := fun b i h e => ∑ j : Fin 2064, a.dscore b h i j * a.k b j h e
/-- The gradient of the keys. -/
def dk : Arr 192 := fun b j h e => ∑ i : Fin 2064, a.dscore b h i j * a.q b i h e
/-- The gradient of the values. -/
def dv : Arr 128 := fun b j h e => ∑ i : Fin 2064, a.prob b h i j * a.d b i h e
/-- The attention's output. -/
def out : Arr 128 := fun b i h e => ∑ j : Fin 2064, a.prob b h i j * a.v b j h e

theorem weight_nonneg (b : Fin 4) (h : Fin 8) (i j : Fin 2064) : 0 ≤ a.weight b h i j := by
  unfold weight; split
  · exact (Real.exp_pos _).le
  · exact le_rfl

/-- The weights of a query do not sum to zero: the query's own key has a weight. -/
theorem total_pos (b : Fin 4) (h : Fin 8) (i : Fin 2064) : 0 < a.total b h i := by
  unfold total
  refine Finset.sum_pos' (fun j _ => a.weight_nonneg b h i j) ⟨i, Finset.mem_univ _, ?_⟩
  unfold weight; rw [if_pos le_rfl]; exact Real.exp_pos _

/-- The weights shifted by any number `μ` have the same quotients by their sum. -/
theorem shifted (b : Fin 4) (h : Fin 8) (i : Fin 2064) (μ : ℝ) :
    (∑ j : Fin 2064, if j ≤ i then Real.exp (a.score b h i j - μ) else 0) = a.total b h i * Real.exp (-μ) := by
  unfold total weight
  rw [Finset.sum_mul]
  refine Finset.sum_congr rfl fun j _ => ?_
  split
  · rw [sub_eq_add_neg, Real.exp_add]
  · rw [zero_mul]

/-- A shifted weight over the sum of the shifted weights is the softmax. -/
theorem shifted_prob (b : Fin 4) (h : Fin 8) (i j : Fin 2064) (μ : ℝ) :
    (if j ≤ i then Real.exp (a.score b h i j - μ) else 0) / (a.total b h i * Real.exp (-μ)) = a.prob b h i j := by
  have h1 := (Real.exp_pos (-μ)).ne'
  have h2 := (a.total_pos b h i).ne'
  unfold prob weight
  split
  · rw [sub_eq_add_neg, Real.exp_add, mul_div_mul_right _ _ h1]
  · rw [zero_div, zero_div]

/-- The output's product with its gradient is the weighted sum of the probabilities' gradients. -/
theorem sum_d_out (b : Fin 4) (h : Fin 8) (i : Fin 2064) :
    ∑ e : Fin 128, a.d b i h e * a.out b i h e = a.delta b h i := by
  unfold out delta dprob
  simp only [Finset.mul_sum]
  rw [Finset.sum_comm]
  refine Finset.sum_congr rfl fun j _ => Finset.sum_congr rfl fun e _ => ?_
  ring

/-- The logarithm of the sum of the weights at a padded position: zero at the 240 positions before the first. -/
def lse (b : Fin 4) (h : Fin 8) (Q : ℕ) : ℝ := if hQ : 240 ≤ Q ∧ Q < 2304 then Real.log (a.total b h ⟨Q - 240, by omega⟩) else 0

end Args

/-- An array at a padded position and column: zero at the 240 positions before the first and past the last column. -/
def padded {w : ℕ} (t : Arr w) (b : Fin 4) (h : Fin 8) (Q e : ℕ) : ℝ :=
  if hQ : 240 ≤ Q ∧ Q < 2304 ∧ e < w then t b ⟨Q - 240, by omega⟩ h ⟨e, hQ.2.2⟩ else 0

/-- An array laid out in rows: 240 rows of zeros before each example's 2064, each head padded to `W` columns. -/
def rows {w : ℕ} (W : ℕ) (t : Arr w) (r : Fin 9216) (c : ℕ) : ℝ :=
  if h : 240 ≤ r.val % 2304 ∧ c % W < w ∧ c / W < 8 then
    t ⟨r.val / 2304, by omega⟩ ⟨r.val % 2304 - 240, by omega⟩ ⟨c / W, h.2.2⟩ ⟨c % W, h.2.1⟩
  else 0

theorem rows_pos {w : ℕ} {W : ℕ} {t : Arr w} {r : Fin 9216} {c : ℕ} (h : 240 ≤ r.val % 2304 ∧ c % W < w ∧ c / W < 8) :
    rows W t r c = t ⟨r.val / 2304, by omega⟩ ⟨r.val % 2304 - 240, by omega⟩ ⟨c / W, h.2.2⟩ ⟨c % W, h.2.1⟩ := dif_pos h

theorem rows_neg {w : ℕ} {W : ℕ} {t : Arr w} {r : Fin 9216} {c : ℕ} (h : ¬(240 ≤ r.val % 2304 ∧ c % W < w ∧ c / W < 8)) :
    rows W t r c = 0 := dif_neg h

/-- A row of the layout, from its example and position, and a column from its head and place. -/
theorem rows_padded {w : ℕ} {W : ℕ} (t : Arr w) (b : Fin 4) (h : Fin 8) (Q e : ℕ) (hQ : Q < 2304) (he : e < W) (r : Fin 9216) (c : ℕ)
    (hr : r.val = 2304 * b.val + Q) (hc : c = W * h.val + e) : rows W t r c = padded t b h Q e := by
  have hW : 0 < W := by omega
  have h1 : r.val / 2304 = b.val := by omega
  have h2 : r.val % 2304 = Q := by omega
  have h3 : c / W = h.val := by rw [hc, Nat.mul_add_div hW, Nat.div_eq_of_lt he, Nat.add_zero]
  have h4 : c % W = e := by rw [hc, Nat.mul_add_mod, Nat.mod_eq_of_lt he]
  unfold padded
  by_cases hh : 240 ≤ Q ∧ Q < 2304 ∧ e < w
  · rw [dif_pos hh, rows_pos ⟨by omega, by omega, by omega⟩]
    congr 1
    all_goals refine Fin.ext ?_
    all_goals first | exact h1 | exact h3 | exact h4 | exact congrArg (· - 240) h2
  · rw [dif_neg hh, rows_neg (by omega)]

/-- A finite sum of real numbers is the same taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The largest of finitely many extended reals, one of them a real number and the others below the top, is a real number. -/
theorem fold_max_real {ι : Type} (s : Finset ι) (f : ι → EReal) (h : ∀ i ∈ s, f i ≠ ⊤) (i : ι) (hi : i ∈ s) (hf : f i ≠ ⊥) :
    ∃ μ : ℝ, s.fold max ⊥ f = (μ : EReal) := by
  have h1 : s.fold max ⊥ f < ⊤ := (Finset.fold_max_lt ⊤).2 ⟨bot_lt_top, fun x hx => lt_top_iff_ne_top.2 (h x hx)⟩
  have h2 : ⊥ < s.fold max ⊥ f := (Finset.lt_fold_max ⊥).2 (.inr ⟨i, hi, bot_lt_iff_ne_bot.2 hf⟩)
  exact ⟨_, (EReal.coe_toReal h1.ne h2.ne').symm⟩

end Cert.Proof.AttnBwd

end
-- ==== Proof.AttnBwd.MaxAt.lean ====
/-
  The host's maximum over the last of four axes, read at an index, and two constants.
-/
module

public import proofs.«01_k».proof.Proof.AttnBwd.Spec
public import Idealize.ShloMosaic.Lib.Pointwise

@[expose] public section

noncomputable section

namespace Cert.Proof.AttnBwd

open Idealize.ShloMosaic

/-- At an index of the first three axes, the maximum over the last axis is the fold of `max` along it. -/
theorem reduce_max_at {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = (Finset.univ : Finset (Fin n3)).fold max (init (Shape.Idx.first hu)) fun k => x (ix4 a b c k) := by
  rw [Host.reduce_eq_fold, Shape.ReducesTo.fold_fiber_r4_a3]
  rfl

/-- The maximum over the last axis, from the bottom, is a real number where one entry is and no entry is the top. -/
theorem reduce_max_real {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2)
    (hi : init (Shape.Idx.first hu) = ⊥) (hx : ∀ k, x (ix4 a b c k) ≠ ⊤) (k : Fin n3) (hk : x (ix4 a b c k) ≠ ⊥) :
    ∃ μ : ℝ, Host.reduce FloatOps.maximumf x init h hu (ix3 a b c) = (μ : EReal) := by
  rw [reduce_max_at, hi]
  exact fold_max_real Finset.univ (fun k => x (ix4 a b c k)) (fun k _ => hx k) k (Finset.mem_univ _) hk

/-- The word of minus infinity is the bottom of the extended reals. -/
theorem negInf : Ideal.ofBits FTy.f32 0xFF800000#32 = ⊥ := by
  simp [Ideal.ofBits, Ideal.ieee]

/-- The larger of minus infinity and a real number is the number. -/
theorem max_negInf {s : Shape} (x y : FVec Ideal s .f32) (i : s.Idx) (hx : x i = Ideal.ofBits FTy.f32 0xFF800000#32) (μ : ℝ) (hy : y i = (μ : EReal)) :
    maximumf x y i = (μ : EReal) := by
  show max (x i) (y i) = _
  rw [hx, negInf, hy]
  exact max_eq_right bot_le

/-- The integer zero as a number. -/
theorem sitofp_zero : (FloatOps.sitofp FTy.f32 0#32 : Ideal .f32) = ((0 : ℝ) : EReal) := by
  show (((0#32 : BitVec 32).toInt : ℝ) : EReal) = _
  simp

end Cert.Proof.AttnBwd

end
-- ==== Proof.AttnBwd.Ref.lean ====
/-
  What the reference computes, value by value: each named below is one of its arrays, read at an index as a real
  number where the four arguments are real.
-/
module

public import proofs.«01_k».proof.Proof.AttnBwd.Spec
public import proofs.«01_k».proof.Proof.Gen.ReferenceIdeal
public import proofs.«01_k».proof.Proof.AttnBwd.MaxAt
public import Idealize.ShloMosaic.Lib.WordCmp

@[expose] public section

set_option maxRecDepth 16384

noncomputable section

namespace Cert.Proof.AttnBwd.Ref

open Cert.ReferenceIdeal Cert.ReferenceIdeal.Gen
open Idealize.ShloMosaic

variable (q k : FVec Ideal S4x2064x8x192 .f32) (v d : FVec Ideal S4x2064x8x128 .f32)

/-- The mask: key not after query. -/
def mask : IVec S4x8x2064x2064 1 :=
  broadcastInDim S4x8x2064x2064 ![2, 3] bcast_S2064x2064_S4x8x2064x2064_2_3 (cmpi .sle (broadcastInDim S2064x2064 ![0, 1] bcast_S1x2064_S2064x2064_0_1 (broadcastInDim S1x2064 ![1] bcast_S2064_S1x2064_1 (iotaInDim S2064 32 0))) (broadcastInDim S2064x2064 ![0, 1] bcast_S2064x1_S2064x2064_0_1 (broadcastInDim S2064x1 ![0] bcast_S2064_S2064x1_0 (iotaInDim S2064 32 0))))
/-- The masked scores. -/
def scores : FVec Ideal S4x8x2064x2064 .f32 :=
  select mask (Host.dotGeneral dot_S4x2064x8x192_S4x2064x8x192_S4x8x2064x2064_3_3_1_1_02_02 none q k) (broadcastInDim S4x8x2064x2064 ![] bcast_S_S4x8x2064x2064 (id (constant S_ .f32 0xFF800000#32)))
/-- The largest score of each query. -/
def top0 : FVec Ideal S4x8x2064 .f32 :=
  Host.reduce FloatOps.maximumf (scores q k) (constant S_ .f32 0xFF800000#32) reducesTo_S4x8x2064x2064_S4x8x2064_d3 h_S_
/-- The same, and at least the bottom. -/
def top : FVec Ideal S4x8x2064 .f32 :=
  maximumf (broadcastInDim S4x8x2064 ![] bcast_S_S4x8x2064 (constant S_ .f32 0xFF800000#32)) (top0 q k)
/-- The exponentials of the scores less the largest. -/
def weights : FVec Ideal S4x8x2064x2064 .f32 :=
  Host.exp (subf (scores q k) (broadcastInDim S4x8x2064x2064 ![0, 1, 2, 3] bcast_S4x8x2064x1_S4x8x2064x2064_0_1_2_3 (broadcastInDim S4x8x2064x1 ![0, 1, 2] bcast_S4x8x2064_S4x8x2064x1_0_1_2 (top q k))))
/-- Their sums, one for each query. -/
def totals : FVec Ideal S4x8x2064x1 .f32 :=
  broadcastInDim S4x8x2064x1 ![0, 1, 2] bcast_S4x8x2064_S4x8x2064x1_0_1_2 (Host.reduceAdd (weights q k) (constant S_ .f32 0x00000000#32) reducesTo_S4x8x2064x2064_S4x8x2064_d3 h_S_)
/-- The softmax. -/
def probs : FVec Ideal S4x8x2064x2064 .f32 :=
  Host.divf (weights q k) (broadcastInDim S4x8x2064x2064 ![0, 1, 2, 3] bcast_S4x8x2064x1_S4x8x2064x2064_0_1_2_3 (totals q k))
/-- The gradient of the probabilities. -/
def dprobs : FVec Ideal S4x8x2064x2064 .f32 :=
  Host.dotGeneral dot_S4x8x128x2064_S4x2064x8x128_S4x8x2064x2064_2_3_3_1_01_02 none (transpose S4x8x128x2064 [0, 2, 3, 1] d transposes_S4x2064x8x128_S4x8x128x2064_0_2_3_1) v
/-- The gradient that reaches the sum of the exponentials. -/
def dtotals : FVec Ideal S4x8x2064 .f32 :=
  Host.reduceAdd (Host.negf (shapeCast S4x8x2064x1 (Host.reduceAdd (mulf (mulf (dprobs v d) (broadcastInDim S4x8x2064x2064 ![0, 1, 2, 3] bcast_S4x8x2064x1_S4x8x2064x2064_0_1_2_3 (Host.divf (broadcastInDim S4x8x2064x1 ![] bcast_S_S4x8x2064x1 (constant S_ .f32 0x3F800000#32)) (mulf (totals q k) (totals q k))))) (weights q k)) (constant S_ .f32 0x00000000#32) reducesTo_S4x8x2064x2064_S4x8x2064_d3 h_S_) shapeCasts_S4x8x2064_S4x8x2064x1)) (constant S_ .f32 0x00000000#32) reducesTo_S4x8x2064x1_S4x8x2064_d3 h_S_
/-- The gradient of the scores. -/
def dscores : FVec Ideal S4x8x2064x2064 .f32 :=
  select mask (mulf (addf (Host.divf (dprobs v d) (broadcastInDim S4x8x2064x2064 ![0, 1, 2, 3] bcast_S4x8x2064x1_S4x8x2064x2064_0_1_2_3 (totals q k))) (broadcastInDim S4x8x2064x2064 ![0, 1, 2] bcast_S4x8x2064_S4x8x2064x2064_0_1_2 (dtotals q k v d))) (weights q k)) (broadcastInDim S4x8x2064x2064 ![] bcast_S_S4x8x2064x2064 (constant S_ .f32 0x00000000#32))
/-- The gradient of the queries, in rows. -/
def dq : FVec Ideal S9216x2048 .bf16 :=
  truncf .bf16 (shapeCast S9216x2048 (pad S4x2304x8x256 ![0, 240, 0, 0] ![0, 0, 0, 64] ![0, 0, 0, 0] (transpose S4x2064x8x192 [0, 2, 1, 3] (Host.dotGeneral dot_S4x8x2064x2064_S4x2064x8x192_S4x8x2064x192_3_1_2_3_01_02 none (dscores q k v d) k) transposes_S4x8x2064x192_S4x2064x8x192_0_2_1_3) (sitofp .f32 (constantI S_ 32 0#32) : FVec Ideal S_ .f32) pads_S4x2064x8x192_S4x2304x8x256_000_24000_000_0640 h_S_) shapeCasts_S4x2304x8x256_S9216x2048) bitsLt_bf16_f32
/-- The gradient of the keys, in rows. -/
def dk : FVec Ideal S9216x2048 .bf16 :=
  truncf .bf16 (shapeCast S9216x2048 (pad S4x2304x8x256 ![0, 240, 0, 0] ![0, 0, 0, 64] ![0, 0, 0, 0] (transpose S4x2064x8x192 [0, 2, 1, 3] (Host.dotGeneral dot_S4x8x2064x2064_S4x2064x8x192_S4x8x2064x192_2_1_3_3_01_02 none (dscores q k v d) q) transposes_S4x8x2064x192_S4x2064x8x192_0_2_1_3) (sitofp .f32 (constantI S_ 32 0#32) : FVec Ideal S_ .f32) pads_S4x2064x8x192_S4x2304x8x256_000_24000_000_0640 h_S_) shapeCasts_S4x2304x8x256_S9216x2048) bitsLt_bf16_f32
/-- The gradient of the values, in rows. -/
def dv : FVec Ideal S9216x1024 .bf16 :=
  truncf .bf16 (shapeCast S9216x1024 (pad S4x2304x8x128 ![0, 240, 0, 0] ![0, 0, 0, 0] ![0, 0, 0, 0] (transpose S4x2064x8x128 [0, 3, 1, 2] (Host.dotGeneral dot_S4x8x128x2064_S4x8x2064x2064_S4x8x128x2064_3_2_2_3_01_01 none (transpose S4x8x128x2064 [0, 2, 3, 1] d transposes_S4x2064x8x128_S4x8x128x2064_0_2_3_1) (probs q k)) transposes_S4x8x128x2064_S4x2064x8x128_0_3_1_2) (sitofp .f32 (constantI S_ 32 0#32) : FVec Ideal S_ .f32) pads_S4x2064x8x128_S4x2304x8x128_000_24000_000_000 h_S_) shapeCasts_S4x2304x8x128_S9216x1024) bitsLt_bf16_f32

/-- The four arguments, read at an index, are the real numbers of `a`. -/
structure Are (a : Args) : Prop where
  q : ∀ b i h e, q (ix4 b i h e) = ((a.q b i h e : ℝ) : EReal)
  k : ∀ b i h e, k (ix4 b i h e) = ((a.k b i h e : ℝ) : EReal)
  v : ∀ b i h e, v (ix4 b i h e) = ((a.v b i h e : ℝ) : EReal)
  d : ∀ b i h e, d (ix4 b i h e) = ((a.d b i h e : ℝ) : EReal)

theorem mask_at (b : Fin 4) (h : Fin 8) (i j : Fin 2064) : mask (ix4 b h i j) = BitVec.ofBool (decide (j ≤ i)) := by
  pointwise [mask]
  rw [WordCmp.cmpi_sle_ofNat (by omega) (by omega)]
  rfl

variable {q k v d} {a : Args} (H : Are q k v d a)
include H

/-- A masked score is the score, or the bottom for a key after the query. -/
theorem scores_at (b : Fin 4) (h : Fin 8) (i j : Fin 2064) :
    scores q k (ix4 b h i j) = if j ≤ i then ((a.score b h i j : ℝ) : EReal) else ⊥ := by
  pointwise [scores, mask_at]
  simp only [H.q, H.k, id_eq, ← EReal.coe_mul, ← coe_sum, Args.score, decide_eq_true_eq]
  have e : (constant S_ FTy.f32 0xFF800000#32 : FVec Ideal S_ .f32) ix0 = ⊥ := negInf
  rw [e]
  try rfl

/-- The largest score of a query is a real number. -/
theorem top_at (b : Fin 4) (h : Fin 8) (i : Fin 2064) : ∃ μ : ℝ, top q k (ix3 b h i) = (μ : EReal) := by
  obtain ⟨μ, hμ⟩ : ∃ μ : ℝ, top0 q k (ix3 b h i) = (μ : EReal) := by
    unfold top0
    refine reduce_max_real _ _ _ _ b h i negInf (fun x => ?_) i ?_
    · rw [scores_at H]; split <;> simp
    · rw [scores_at H, if_pos le_rfl]; simp
  refine ⟨μ, ?_⟩
  unfold top
  exact max_negInf _ _ _ rfl μ hμ

/-- The weights, shifted by the largest score `μ`. -/
theorem weights_at (b : Fin 4) (h : Fin 8) (i j : Fin 2064) (μ : ℝ) (hμ : top q k (ix3 b h i) = (μ : EReal)) :
    weights q k (ix4 b h i j) = ((if j ≤ i then Real.exp (a.score b h i j - μ) else 0 : ℝ) : EReal) := by
  pointwise [weights]
  rw [scores_at H, hμ]
  split
  · rw [← EReal.coe_sub, Ideal.exp_coe]
  · rw [EReal.bot_sub, Ideal.exp_bot]; rfl

/-- Their sum. -/
theorem totals_at (b : Fin 4) (h : Fin 8) (i : Fin 2064) (μ : ℝ) (hμ : top q k (ix3 b h i) = (μ : EReal)) :
    totals q k (ix4 b h i 0) = ((a.total b h i * Real.exp (-μ) : ℝ) : EReal) := by
  pointwise [totals]
  simp only [weights_at H b h i _ μ hμ, ← coe_sum, a.shifted]

/-- The softmax. -/
theorem probs_at (b : Fin 4) (h : Fin 8) (i j : Fin 2064) : probs q k (ix4 b h i j) = ((a.prob b h i j : ℝ) : EReal) := by
  obtain ⟨μ, hμ⟩ := top_at H b h i
  have ht : a.total b h i * Real.exp (-μ) ≠ 0 := (mul_pos (a.total_pos b h i) (Real.exp_pos _)).ne'
  pointwise [probs]
  rw [weights_at H b h i j μ hμ, totals_at H b h i μ hμ, Ideal.div_coe ht, ← EReal.coe_mul, ← a.shifted_prob b h i j μ, mul_one_div]

/-- The gradient of the probabilities. -/
theorem dprobs_at (b : Fin 4) (h : Fin 8) (i j : Fin 2064) : dprobs v d (ix4 b h i j) = ((a.dprob b h i j : ℝ) : EReal) := by
  pointwise [dprobs]
  simp only [H.d, H.v, ← EReal.coe_mul, ← coe_sum, Args.dprob]

/-- The gradient that reaches the sum of the weights. -/
theorem dtotals_at (b : Fin 4) (h : Fin 8) (i : Fin 2064) (μ : ℝ) (hμ : top q k (ix3 b h i) = (μ : EReal)) :
    dtotals q k v d (ix3 b h i) = ((-(a.delta b h i / (a.total b h i * Real.exp (-μ))) : ℝ) : EReal) := by
  have ht : a.total b h i * Real.exp (-μ) ≠ 0 := (mul_pos (a.total_pos b h i) (Real.exp_pos _)).ne'
  pointwise [dtotals]
  simp only [totals_at H b h i μ hμ, weights_at H b h i _ μ hμ, dprobs_at H, ← EReal.coe_mul]
  rw [Ideal.div_coe (mul_ne_zero ht ht), one_mul]
  simp only [← EReal.coe_mul, ← coe_sum, ← EReal.coe_neg]
  rw [Finset.sum_const, Finset.card_univ, Fintype.card_fin, one_smul]
  refine congrArg (fun x : ℝ => ((-x : ℝ) : EReal)) ?_
  unfold Args.delta
  rw [Finset.sum_div]
  refine Finset.sum_congr rfl fun j _ => ?_
  rw [← a.shifted_prob b h i j μ]
  field_simp

/-- The gradient of the scores. -/
theorem dscores_at (b : Fin 4) (h : Fin 8) (i j : Fin 2064) : dscores q k v d (ix4 b h i j) = ((a.dscore b h i j : ℝ) : EReal) := by
  obtain ⟨μ, hμ⟩ := top_at H b h i
  have ht : a.total b h i * Real.exp (-μ) ≠ 0 := (mul_pos (a.total_pos b h i) (Real.exp_pos _)).ne'
  pointwise [dscores, mask_at]
  rw [dprobs_at H, totals_at H b h i μ hμ, dtotals_at H b h i μ hμ, weights_at H b h i j μ hμ, Ideal.div_coe ht]
  simp only [← EReal.coe_mul, ← EReal.coe_add, decide_eq_true_eq]
  by_cases hj : j ≤ i
  · rw [if_pos hj, if_pos hj]
    refine congrArg (fun x : ℝ => (x : EReal)) ?_
    unfold Args.dscore
    rw [← a.shifted_prob b h i j μ, if_pos hj]
    field_simp
    ring
  · rw [if_neg hj]
    unfold Args.dscore Args.prob Args.weight
    rw [if_neg hj]; simp

/-- The gradient of the queries, in rows. -/
theorem dq_at (r : Fin 9216) (c : Fin 2048) : dq q k v d (ix2 r c) = ((rows 256 a.dq r c : ℝ) : EReal) := by
  pointwise [dq]
  simp only [dscores_at H, H.k, ← EReal.coe_mul, ← coe_sum]
  by_cases hc : 240 ≤ r.val % 2304 ∧ c.val % 256 < 192 ∧ c.val / 256 < 8
  · have hp : r.val / 2304 < 4 ∧ (240 ≤ r.val % 2304 ∧ r.val % 2304 - 240 < 2064) ∧ c.val / 256 < 8 ∧ c.val % 256 < 192 := by omega
    refine (dif_pos hp).trans (Eq.trans ?_ (congrArg (fun x : ℝ => (x : EReal)) (rows_pos hc).symm))
    unfold Args.dq
    rfl
  · have hp : ¬(r.val / 2304 < 4 ∧ (240 ≤ r.val % 2304 ∧ r.val % 2304 - 240 < 2064) ∧ c.val / 256 < 8 ∧ c.val % 256 < 192) := by omega
    exact (dif_neg hp).trans (sitofp_zero.trans (congrArg (fun x : ℝ => (x : EReal)) (rows_neg hc).symm))

/-- The gradient of the keys, in rows. -/
theorem dk_at (r : Fin 9216) (c : Fin 2048) : dk q k v d (ix2 r c) = ((rows 256 a.dk r c : ℝ) : EReal) := by
  pointwise [dk]
  simp only [dscores_at H, H.q, ← EReal.coe_mul, ← coe_sum]
  by_cases hc : 240 ≤ r.val % 2304 ∧ c.val % 256 < 192 ∧ c.val / 256 < 8
  · have hp : r.val / 2304 < 4 ∧ (240 ≤ r.val % 2304 ∧ r.val % 2304 - 240 < 2064) ∧ c.val / 256 < 8 ∧ c.val % 256 < 192 := by omega
    refine (dif_pos hp).trans (Eq.trans ?_ (congrArg (fun x : ℝ => (x : EReal)) (rows_pos hc).symm))
    unfold Args.dk
    rfl
  · have hp : ¬(r.val / 2304 < 4 ∧ (240 ≤ r.val % 2304 ∧ r.val % 2304 - 240 < 2064) ∧ c.val / 256 < 8 ∧ c.val % 256 < 192) := by omega
    exact (dif_neg hp).trans (sitofp_zero.trans (congrArg (fun x : ℝ => (x : EReal)) (rows_neg hc).symm))

/-- The gradient of the values, in rows. -/
theorem dv_at (r : Fin 9216) (c : Fin 1024) : dv q k d (ix2 r c) = ((rows 128 a.dv r c : ℝ) : EReal) := by
  pointwise [dv]
  simp only [probs_at H, H.d, ← EReal.coe_mul, ← coe_sum]
  by_cases hc : 240 ≤ r.val % 2304 ∧ c.val % 128 < 128 ∧ c.val / 128 < 8
  · have hp : r.val / 2304 < 4 ∧ (240 ≤ r.val % 2304 ∧ r.val % 2304 - 240 < 2064) ∧ c.val / 128 < 8 ∧ c.val % 128 < 128 := by omega
    refine (dif_pos hp).trans (Eq.trans ?_ (congrArg (fun x : ℝ => (x : EReal)) (rows_pos hc).symm))
    unfold Args.dv
    exact congrArg (fun x : ℝ => (x : EReal)) (Finset.sum_congr rfl fun i _ => mul_comm _ _)
  · have hp : ¬(r.val / 2304 < 4 ∧ (240 ≤ r.val % 2304 ∧ r.val % 2304 - 240 < 2064) ∧ c.val / 128 < 8 ∧ c.val % 128 < 128) := by omega
    exact (dif_neg hp).trans (sitofp_zero.trans (congrArg (fun x : ℝ => (x : EReal)) (rows_neg hc).symm))

end Cert.Proof.AttnBwd.Ref

end
-- ==== Proof.AttnBwd.Host.lean ====
/-
  The arrays the host code prepares for the call: what the call finds in each, and each read at an index as a real
  number where the four arguments are real.
-/
module

public import proofs.«01_k».proof.Proof.AttnBwd.Ref
public import proofs.«01_k».proof.Proof.Gen.KernelIdeal.Frame
public import Idealize.ShloMosaic.Lib.StableHlo.RunRead

@[expose] public section

set_option maxRecDepth 16384

noncomputable section

namespace Cert.Proof.AttnBwd

open Cert.KernelIdeal Cert.KernelIdeal.Gen
open Idealize.ShloMosaic Idealize.ShloMosaic.TcCoe

/-- An array of 192 columns in rows: 240 positions of zeros before each example's, each head padded to 256 columns. -/
def rows192 (x : FVec Ideal S4x2064x8x192 .f32) : FVec Ideal S9216x2048 .bf16 :=
  truncf .bf16 (shapeCast S9216x2048 (pad S4x2304x8x256 ![0, 240, 0, 0] ![0, 0, 0, 64] ![0, 0, 0, 0] x (sitofp .f32 (constantI S_ 32 0#32) : FVec Ideal S_ .f32) pads_S4x2064x8x192_S4x2304x8x256_000_24000_000_0640 h_S_) shapeCasts_S4x2304x8x256_S9216x2048) bitsLt_bf16_f32
/-- An array of 128 columns in rows. -/
def rows128 (x : FVec Ideal S4x2064x8x128 .f32) : FVec Ideal S9216x1024 .bf16 :=
  truncf .bf16 (shapeCast S9216x1024 (pad S4x2304x8x128 ![0, 240, 0, 0] ![0, 0, 0, 0] ![0, 0, 0, 0] x (sitofp .f32 (constantI S_ 32 0#32) : FVec Ideal S_ .f32) pads_S4x2064x8x128_S4x2304x8x128_000_24000_000_000 h_S_) shapeCasts_S4x2304x8x128_S9216x1024) bitsLt_bf16_f32
/-- The rows again, each example's tiles of 768 positions turned. -/
def turned (x : FVec Ideal S9216x2048 .bf16) : FVec Ideal S4x8x3x256x768 .bf16 :=
  transpose S4x8x3x256x768 [0, 3, 1, 4, 2] (shapeCast S4x3x768x8x256 x shapeCasts_S9216x2048_S4x3x768x8x256) transposes_S4x3x768x8x256_S4x8x3x256x768_0_3_1_4_2

variable (q k : FVec Ideal S4x2064x8x192 .f32) (v : FVec Ideal S4x2064x8x128 .f32)

/-- The largest score of each query. -/
def hostTop : FVec Ideal S4x8x2064x1 .f32 := broadcastInDim S4x8x2064x1 ![0, 1, 2] bcast_S4x8x2064_S4x8x2064x1_0_1_2 (Ref.top0 q k)
/-- The exponentials of the scores less the largest. -/
def hostWeights : FVec Ideal S4x8x2064x2064 .f32 :=
  Host.exp (subf (Ref.scores q k) (broadcastInDim S4x8x2064x2064 ![0, 1, 2, 3] bcast_S4x8x2064x1_S4x8x2064x2064_0_1_2_3 (hostTop q k)))
/-- Their sums. -/
def hostTotals : FVec Ideal S4x8x2064x1 .f32 :=
  broadcastInDim S4x8x2064x1 ![0, 1, 2] bcast_S4x8x2064_S4x8x2064x1_0_1_2 (Host.reduceAdd (hostWeights q k) (constant S_ .f32 0x00000000#32) reducesTo_S4x8x2064x2064_S4x8x2064_d3 h_S_)
/-- The attention's output. -/
def hostOut : FVec Ideal S4x2064x8x128 .f32 :=
  transpose S4x2064x8x128 [0, 3, 1, 2] (Host.dotGeneral dot_S4x2064x8x128_S4x8x2064x2064_S4x8x128x2064_1_3_3_2_02_01 none v (Host.divf (hostWeights q k) (broadcastInDim S4x8x2064x2064 ![0, 1, 2, 3] bcast_S4x8x2064x1_S4x8x2064x2064_0_1_2_3 (hostTotals q k)))) transposes_S4x8x128x2064_S4x2064x8x128_0_3_1_2
/-- The logarithm of the weights' sum, unshifted, position by position. -/
def hostLse : FVec Ideal S4x8x3x1x768 .f32 :=
  shapeCast S4x8x3x1x768 (pad S4x8x2304 ![0, 0, 240] ![0, 0, 0] ![0, 0, 0] (shapeCast S4x8x2064 (addf (hostTop q k) (Host.log (hostTotals q k))) shapeCasts_S4x8x2064x1_S4x8x2064) (sitofp .f32 (constantI S_ 32 0#32) : FVec Ideal S_ .f32) pads_S4x8x2064_S4x8x2304_000_000_24000 h_S_) shapeCasts_S4x8x2304_S4x8x3x1x768

variable (m : (ℓ : Loc nD τ sig) → Buf (Elt Ideal) ℓ) (c : Dev nD)

/-- The call finds the queries in rows, -/
theorem V_v2 : V m c main_v2 = rows192 (m ((c : Thread nD τ).loc main_arg0)) := by
  unfold V
  after_reads_simp
  rfl

/-- the keys in rows, -/
theorem V_v5 : V m c main_v5 = rows192 (m ((c : Thread nD τ).loc main_arg1)) := by
  unfold V
  after_reads_simp
  rfl

/-- the values in rows, -/
theorem V_v8 : V m c main_v8 = rows128 (m ((c : Thread nD τ).loc main_arg2)) := by
  unfold V
  after_reads_simp
  rfl

/-- the output's gradient in rows, -/
theorem V_v11 : V m c main_v11 = rows128 (m ((c : Thread nD τ).loc main_arg3)) := by
  unfold V
  after_reads_simp
  rfl

/-- the keys again, turned, -/
theorem V_v13 : V m c main_v13 = turned (rows192 (m ((c : Thread nD τ).loc main_arg1))) := by
  unfold V
  after_reads_simp
  rfl

/-- the output in rows, -/
theorem V_v35 : V m c main_v35 = rows128 (hostOut (m ((c : Thread nD τ).loc main_arg0)) (m ((c : Thread nD τ).loc main_arg1)) (m ((c : Thread nD τ).loc main_arg2))) := by
  unfold V
  after_reads_simp
  rfl

end Cert.Proof.AttnBwd

end
-- ==== Proof.AttnBwd.HostAt.lean ====
/-
  The arrays the host code prepares, read at an index as real numbers where the four arguments are real.
-/
module

public import proofs.«01_k».proof.Proof.AttnBwd.Host

@[expose] public section

set_option maxRecDepth 16384

noncomputable section

namespace Cert.Proof.AttnBwd

open Cert.KernelIdeal Cert.KernelIdeal.Gen
open Idealize.ShloMosaic

/-- An array in rows read at an index. -/
theorem rows192_at {x : FVec Ideal S4x2064x8x192 .f32} {t : Arr 192} (hx : ∀ b i h e, x (ix4 b i h e) = ((t b i h e : ℝ) : EReal)) (r : Fin 9216) (c : Fin 2048) :
    rows192 x (ix2 r c) = ((rows 256 t r c : ℝ) : EReal) := by
  pointwise [rows192]
  simp only [hx]
  by_cases hc : 240 ≤ r.val % 2304 ∧ c.val % 256 < 192 ∧ c.val / 256 < 8
  · have hp : r.val / 2304 < 4 ∧ (240 ≤ r.val % 2304 ∧ r.val % 2304 - 240 < 2064) ∧ c.val / 256 < 8 ∧ c.val % 256 < 192 := by omega
    exact (dif_pos hp).trans (congrArg (fun x : ℝ => (x : EReal)) (rows_pos hc).symm)
  · have hp : ¬(r.val / 2304 < 4 ∧ (240 ≤ r.val % 2304 ∧ r.val % 2304 - 240 < 2064) ∧ c.val / 256 < 8 ∧ c.val % 256 < 192) := by omega
    exact (dif_neg hp).trans (sitofp_zero.trans (congrArg (fun x : ℝ => (x : EReal)) (rows_neg hc).symm))

/-- An array in rows read at an index. -/
theorem rows128_at {x : FVec Ideal S4x2064x8x128 .f32} {t : Arr 128} (hx : ∀ b i h e, x (ix4 b i h e) = ((t b i h e : ℝ) : EReal)) (r : Fin 9216) (c : Fin 1024) :
    rows128 x (ix2 r c) = ((rows 128 t r c : ℝ) : EReal) := by
  pointwise [rows128]
  simp only [hx]
  by_cases hc : 240 ≤ r.val % 2304 ∧ c.val % 128 < 128 ∧ c.val / 128 < 8
  · have hp : r.val / 2304 < 4 ∧ (240 ≤ r.val % 2304 ∧ r.val % 2304 - 240 < 2064) ∧ c.val / 128 < 8 ∧ c.val % 128 < 128 := by omega
    exact (dif_pos hp).trans (congrArg (fun x : ℝ => (x : EReal)) (rows_pos hc).symm)
  · have hp : ¬(r.val / 2304 < 4 ∧ (240 ≤ r.val % 2304 ∧ r.val % 2304 - 240 < 2064) ∧ c.val / 128 < 8 ∧ c.val % 128 < 128) := by omega
    exact (dif_neg hp).trans (sitofp_zero.trans (congrArg (fun x : ℝ => (x : EReal)) (rows_neg hc).symm))

/-- The turned rows read at an index. -/
theorem turned_at (x : FVec Ideal S9216x2048 .bf16) (b : Fin 4) (h : Fin 8) (i : Fin 3) (e : Fin 256) (r : Fin 768) :
    turned x (ix5 b h i e r) = x (ix2 ⟨2304 * b.val + 768 * i.val + r.val, by omega⟩ ⟨256 * h.val + e.val, by omega⟩) := by
  pointwise [turned]
  congr 2 <;> exact Fin.ext (by simp only []; omega)

/-- The logarithms from the largest scores and the sums of the shifted weights. -/
def lseOf (y : FVec Ideal S4x8x2064 .f32) (z : FVec Ideal S4x8x2064x1 .f32) : FVec Ideal S4x8x3x1x768 .f32 :=
  shapeCast S4x8x3x1x768 (pad S4x8x2304 ![0, 0, 240] ![0, 0, 0] ![0, 0, 0] (shapeCast S4x8x2064 (addf (broadcastInDim S4x8x2064x1 ![0, 1, 2] bcast_S4x8x2064_S4x8x2064x1_0_1_2 y) (Host.log z)) shapeCasts_S4x8x2064x1_S4x8x2064) (sitofp .f32 (constantI S_ 32 0#32) : FVec Ideal S_ .f32) pads_S4x8x2064_S4x8x2304_000_000_24000 h_S_) shapeCasts_S4x8x2304_S4x8x3x1x768

/-- They are those the call finds. -/
theorem hostLse_eq (q k : FVec Ideal S4x2064x8x192 .f32) : hostLse q k = lseOf (Ref.top0 q k) (hostTotals q k) := by
  unfold hostLse lseOf hostTop
  rfl

/-- At a position before the first they are zero, and at the others the sum of the two. -/
theorem lseOf_at (y : FVec Ideal S4x8x2064 .f32) (z : FVec Ideal S4x8x2064x1 .f32) (b : Fin 4) (h : Fin 8) (t : Fin 3) (x : Fin 768) :
    lseOf y z (ix5 b h t 0 x) = if hQ : 240 ≤ 768 * t.val + x.val ∧ 768 * t.val + x.val < 2304 then
      y (ix3 b h ⟨768 * t.val + x.val - 240, by omega⟩) + Ideal.log (z (ix4 b h ⟨768 * t.val + x.val - 240, by omega⟩ 0)) else (0 : EReal) := by
  pointwise [lseOf]
  have e : t.val * 768 = 768 * t.val := Nat.mul_comm _ _
  by_cases hQ : 240 ≤ 768 * t.val + x.val ∧ 768 * t.val + x.val < 2304
  · have hp : 240 ≤ t.val * 768 + x.val ∧ t.val * 768 + x.val - 240 < 2064 := by omega
    refine (dif_pos hp).trans (Eq.trans ?_ (dif_pos hQ).symm)
    simp only [e]
  · have hp : ¬(240 ≤ t.val * 768 + x.val ∧ t.val * 768 + x.val - 240 < 2064) := by omega
    refine (dif_neg hp).trans (Eq.trans ?_ (dif_neg hQ).symm)
    exact sitofp_zero.trans EReal.coe_zero

variable {q k : FVec Ideal S4x2064x8x192 .f32} {v d : FVec Ideal S4x2064x8x128 .f32} {a : Args} (H : Ref.Are q k v d a)
include H

/-- The largest score is a real number `μ`. -/
theorem top0_at (b : Fin 4) (h : Fin 8) (i : Fin 2064) : ∃ μ : ℝ, Ref.top0 q k (ix3 b h i) = (μ : EReal) := by
  unfold Ref.top0
  refine reduce_max_real _ _ _ _ b h i negInf (fun x => ?_) i ?_
  · rw [Ref.scores_at H]; split <;> simp
  · rw [Ref.scores_at H, if_pos le_rfl]; simp

/-- The weights, shifted by `μ`. -/
theorem hostWeights_at (b : Fin 4) (h : Fin 8) (i j : Fin 2064) (μ : ℝ) (hμ : Ref.top0 q k (ix3 b h i) = (μ : EReal)) :
    hostWeights q k (ix4 b h i j) = ((if j ≤ i then Real.exp (a.score b h i j - μ) else 0 : ℝ) : EReal) := by
  pointwise [hostWeights, hostTop]
  rw [Ref.scores_at H, hμ]
  by_cases hj : j ≤ i
  · rw [if_pos hj, if_pos hj, ← EReal.coe_sub, Ideal.exp_coe]
  · rw [if_neg hj, if_neg hj]; simp

/-- Their sums. -/
theorem hostTotals_at (b : Fin 4) (h : Fin 8) (i : Fin 2064) (μ : ℝ) (hμ : Ref.top0 q k (ix3 b h i) = (μ : EReal)) :
    hostTotals q k (ix4 b h i 0) = ((a.total b h i * Real.exp (-μ) : ℝ) : EReal) := by
  pointwise [hostTotals]
  simp only [hostWeights_at H b h i _ μ hμ, ← coe_sum, a.shifted]

/-- The output. -/
theorem hostOut_at (b : Fin 4) (i : Fin 2064) (h : Fin 8) (e : Fin 128) : hostOut q k v (ix4 b i h e) = ((a.out b i h e : ℝ) : EReal) := by
  obtain ⟨μ, hμ⟩ := top0_at H b h i
  have ht : a.total b h i * Real.exp (-μ) ≠ 0 := (mul_pos (a.total_pos b h i) (Real.exp_pos _)).ne'
  pointwise [hostOut]
  simp only [H.v, hostWeights_at H b h i _ μ hμ, hostTotals_at H b h i μ hμ, Ideal.div_coe ht, ← EReal.coe_mul, ← coe_sum]
  refine congrArg (fun x : ℝ => (x : EReal)) ?_
  unfold Args.out
  refine Finset.sum_congr rfl fun j _ => ?_
  rw [mul_one_div, a.shifted_prob b h i j μ, mul_comm]

/-- The logarithm of the weights' sum, position by position: zero at the first positions. -/
theorem hostLse_at (b : Fin 4) (h : Fin 8) (t : Fin 3) (x : Fin 768) : hostLse q k (ix5 b h t 0 x) = ((a.lse b h (768 * t.val + x.val) : ℝ) : EReal) := by
  rw [hostLse_eq, lseOf_at]
  unfold Args.lse
  by_cases hQ : 240 ≤ 768 * t.val + x.val ∧ 768 * t.val + x.val < 2304
  · rw [dif_pos hQ, dif_pos hQ]
    obtain ⟨μ, hμ⟩ := top0_at H b h ⟨768 * t.val + x.val - 240, by omega⟩
    have h1 := a.total_pos b h ⟨768 * t.val + x.val - 240, by omega⟩
    rw [hostTotals_at H b h _ μ hμ, hμ, Ideal.log_coe, if_neg (not_le.mpr (mul_pos h1 (Real.exp_pos _))), ← EReal.coe_add]
    refine congrArg (fun x : ℝ => (x : EReal)) ?_
    rw [Real.log_mul h1.ne' (Real.exp_pos _).ne', Real.log_exp]
    ring
  · rw [dif_neg hQ, dif_neg hQ, EReal.coe_zero]

end Cert.Proof.AttnBwd

end
-- ==== Proof.AttnBwd.HostLse.lean ====
/-
  What the call finds in the array of the logarithms of the weights' sums.
-/
module

public import proofs.«01_k».proof.Proof.AttnBwd.Host
public import Idealize.ShloMosaic.Lib.Tactic.CleanTypes

@[expose] public section

set_option maxRecDepth 16384

noncomputable section

namespace Cert.Proof.AttnBwd

open Cert.KernelIdeal Cert.KernelIdeal.Gen
open Idealize.ShloMosaic Idealize.ShloMosaic.TcCoe

variable (m : (ℓ : Loc nD τ sig) → Buf (Elt Ideal) ℓ) (c : Dev nD)

/-- The call finds the logarithms of the weights' sums. -/
theorem V_v40 : V m c main_v40 = hostLse (m ((c : Thread nD τ).loc main_arg0)) (m ((c : Thread nD τ).loc main_arg1)) := by
  unfold V
  after_reads_simp
  simp -implicitDefEqProofs only [StableHlo.TRef.toBuf, StableHlo.TRef.ofBuf, cast_cast, cast_eq]
  unfold hostLse hostTop hostTotals hostWeights hostTop Ref.top0 Ref.scores Ref.mask
  clean_types
  rfl

end Cert.Proof.AttnBwd

end
-- ==== Proof.AttnBwd.Sums.lean ====
/-
  The gradient over the real numbers in padded positions: 240 positions without a query or key come first, and the
  sums over all 2304 positions are those over the 2064 real ones.
-/
module

public import proofs.«01_k».proof.Proof.AttnBwd.Spec
public import Mathlib.Algebra.BigOperators.Fin
public import Mathlib.Tactic.NormNum
public import Mathlib.Tactic.Ring

@[expose] public section

noncomputable section

namespace Cert.Proof.AttnBwd

open Finset

/-- A real position is read 240 places on, -/
theorem padded_pos {w : ℕ} (t : Arr w) (b : Fin 4) (h : Fin 8) (i : Fin 2064) (e : Fin w) : padded t b h (240 + i.val) e.val = t b i h e := by
  unfold padded
  rw [dif_pos ⟨by omega, by omega, e.isLt⟩]
  congr 2
  exact Nat.add_sub_cancel_left _ _

/-- before them all is zero, -/
theorem padded_first {w : ℕ} (t : Arr w) (b : Fin 4) (h : Fin 8) {Q : ℕ} (e : ℕ) (hQ : Q < 240) : padded t b h Q e = 0 := by
  unfold padded
  exact dif_neg (by omega)

/-- and so it is past the last column. -/
theorem padded_past {w : ℕ} (t : Arr w) (b : Fin 4) (h : Fin 8) (Q : ℕ) {e : ℕ} (he : w ≤ e) : padded t b h Q e = 0 := by
  unfold padded
  exact dif_neg (by omega)

/-- A sum over all positions of what is zero before the real ones. -/
theorem sum_positions (f : ℕ → ℝ) (h0 : ∀ K < 240, f K = 0) : ∑ K ∈ range 2304, f K = ∑ j : Fin 2064, f (240 + j.val) := by
  rw [show (2304 : ℕ) = 240 + 2064 from rfl, sum_range_add, sum_eq_zero fun K hK => h0 K (mem_range.mp hK), zero_add,
    Fin.sum_univ_eq_sum_range (fun j => f (240 + j)) 2064]

/-- A sum over all columns of what is zero past the last. -/
theorem sum_columns (f : ℕ → ℝ) (h0 : ∀ e, 192 ≤ e → f e = 0) : ∑ e : Fin 256, f e.val = ∑ e : Fin 192, f e.val := by
  rw [Fin.sum_univ_eq_sum_range f 256, Fin.sum_univ_eq_sum_range f 192, show (256 : ℕ) = 192 + 64 from rfl, sum_range_add,
    sum_eq_zero (s := range 64) fun e _ => h0 (192 + e) (by omega), add_zero]

namespace Args

variable (a : Args) (b : Fin 4) (h : Fin 8)

/-- The softmax of the query at `Q` at the key at `K`, unmasked. -/
def pexp (K Q : ℕ) : ℝ := Real.exp (∑ e : Fin 256, padded a.k b h K e.val * padded a.q b h Q e.val - a.lse b h Q)
/-- Masked: the key is a real one, and not after the query. -/
def pprob (K Q : ℕ) : ℝ := if 240 ≤ K ∧ K ≤ Q then a.pexp b h K Q else 0
/-- The output's product with its gradient. -/
def pdelta (Q : ℕ) : ℝ := ∑ e : Fin 128, padded a.d b h Q e.val * padded a.out b h Q e.val
/-- The gradient of the score. -/
def pscore (K Q : ℕ) : ℝ := a.pprob b h K Q * (∑ e : Fin 128, padded a.v b h K e.val * padded a.d b h Q e.val - a.pdelta b h Q)

/-- At real positions the masked softmax is the probability, -/
theorem pprob_pos (i j : Fin 2064) : a.pprob b h (240 + j.val) (240 + i.val) = a.prob b h i j := by
  unfold pprob prob weight
  by_cases hij : j ≤ i
  · have h1 : j.val ≤ i.val := hij
    rw [if_pos ⟨by omega, by omega⟩, if_pos hij]
    unfold pexp
    rw [sum_columns (fun e => padded a.k b h (240 + j.val) e * padded a.q b h (240 + i.val) e) fun e he => by rw [padded_past _ _ _ _ he, zero_mul]]
    simp only [padded_pos]
    have h2 : a.lse b h (240 + i.val) = Real.log (a.total b h i) := by
      unfold lse
      rw [dif_pos ⟨by omega, by omega⟩]
      congr 3
      exact Nat.add_sub_cancel_left _ _
    rw [h2, Real.exp_sub, Real.exp_log (a.total_pos b h i)]
    congr 2
    unfold score
    exact sum_congr rfl fun e _ => mul_comm _ _
  · have h1 : ¬j.val ≤ i.val := hij
    rw [if_neg (by omega), if_neg hij, zero_div]

/-- the output's product with its gradient the weighted sum, -/
theorem pdelta_pos (i : Fin 2064) : a.pdelta b h (240 + i.val) = a.delta b h i := by
  unfold pdelta
  simp only [padded_pos]
  exact a.sum_d_out b h i

/-- and the gradient of the score is the score's gradient. -/
theorem pscore_pos (i j : Fin 2064) : a.pscore b h (240 + j.val) (240 + i.val) = a.dscore b h i j := by
  unfold pscore dscore dprob
  rw [pprob_pos, pdelta_pos]
  simp only [padded_pos]
  congr 2
  exact sum_congr rfl fun e _ => mul_comm _ _

/-- A key before the real ones has no probability, -/
theorem pprob_first {K : ℕ} (Q : ℕ) (hK : K < 240) : a.pprob b h K Q = 0 := if_neg (by omega)
/-- nor has one after the query, -/
theorem pprob_after {K Q : ℕ} (hK : Q < K) : a.pprob b h K Q = 0 := if_neg (by omega)
/-- and so their scores have no gradient: -/
theorem pscore_first {K : ℕ} (Q : ℕ) (hK : K < 240) : a.pscore b h K Q = 0 := by unfold pscore; rw [pprob_first a b h Q hK, zero_mul]
/-- neither the one's nor the other's. -/
theorem pscore_after {K Q : ℕ} (hK : Q < K) : a.pscore b h K Q = 0 := by unfold pscore; rw [pprob_after a b h hK, zero_mul]

/-- A position below 2304 is one of the first 240 or a real one. -/
theorem position_cases {Q : ℕ} (hQ : Q < 2304) : Q < 240 ∨ ∃ i : Fin 2064, Q = 240 + i.val := by
  by_cases h : Q < 240
  · exact .inl h
  · exact .inr ⟨⟨Q - 240, by omega⟩, by simp only []; omega⟩

/-- The sum over all keys is the gradient of the queries, -/
theorem sum_dq {Q : ℕ} (hQ : Q < 2304) (e : ℕ) : ∑ K ∈ range 2304, padded a.k b h K e * a.pscore b h K Q = padded a.dq b h Q e := by
  by_cases he : e < 192
  · rcases position_cases hQ with h0 | ⟨i, rfl⟩
    · rw [padded_first _ _ _ _ h0]
      refine sum_eq_zero fun K _ => ?_
      by_cases hK : K < 240
      · rw [pscore_first a b h _ hK, mul_zero]
      · rw [pscore_after a b h (by omega), mul_zero]
    · rw [sum_positions _ fun K hK => by rw [pscore_first a b h _ hK, mul_zero], padded_pos a.dq b h i ⟨e, he⟩]
      unfold dq
      refine sum_congr rfl fun j _ => ?_
      rw [pscore_pos, padded_pos a.k b h j ⟨e, he⟩, mul_comm]
  · rw [padded_past _ _ _ _ (by omega)]
    refine sum_eq_zero fun K _ => ?_
    rw [padded_past _ _ _ _ (by omega), zero_mul]

/-- the sum over all queries that of the keys, -/
theorem sum_dk {K : ℕ} (hK : K < 2304) (e : ℕ) : ∑ Q ∈ range 2304, a.pscore b h K Q * padded a.q b h Q e = padded a.dk b h K e := by
  by_cases he : e < 192
  · rcases position_cases hK with h0 | ⟨j, rfl⟩
    · rw [padded_first _ _ _ _ h0]
      exact sum_eq_zero fun Q _ => by rw [pscore_first a b h _ h0, zero_mul]
    · rw [sum_positions _ fun Q hQ => by rw [padded_first _ _ _ _ hQ, mul_zero], padded_pos a.dk b h j ⟨e, he⟩]
      unfold dk
      refine sum_congr rfl fun i _ => ?_
      rw [pscore_pos, padded_pos a.q b h i ⟨e, he⟩]
  · rw [padded_past _ _ _ _ (by omega)]
    refine sum_eq_zero fun Q _ => ?_
    rw [padded_past _ _ _ _ (by omega), mul_zero]

/-- and with the probabilities that of the values. -/
theorem sum_dv {K : ℕ} (hK : K < 2304) (e : ℕ) : ∑ Q ∈ range 2304, a.pprob b h K Q * padded a.d b h Q e = padded a.dv b h K e := by
  by_cases he : e < 128
  · rcases position_cases hK with h0 | ⟨j, rfl⟩
    · rw [padded_first _ _ _ _ h0]
      exact sum_eq_zero fun Q _ => by rw [pprob_first a b h _ h0, zero_mul]
    · rw [sum_positions _ fun Q hQ => by rw [padded_first _ _ _ _ hQ, mul_zero], padded_pos a.dv b h j ⟨e, he⟩]
      unfold dv
      refine sum_congr rfl fun i _ => ?_
      rw [pprob_pos, padded_pos a.d b h i ⟨e, he⟩]
  · rw [padded_past _ _ _ _ (by omega)]
    refine sum_eq_zero fun Q _ => ?_
    rw [padded_past _ _ _ _ (by omega), mul_zero]

end Args

/-- A sum over one more tile. -/
theorem sum_tile (f : ℕ → ℝ) (i : ℕ) : ∑ K ∈ range (768 * (i + 1)), f K = ∑ K ∈ range (768 * i), f K + ∑ r : Fin 768, f (768 * i + r.val) := by
  rw [Nat.mul_succ, sum_range_add, Fin.sum_univ_eq_sum_range (fun r => f (768 * i + r)) 768]

end Cert.Proof.AttnBwd

end
-- ==== Proof.AttnBwd.Pay.lean ====
/-
  The values the body computes in one step, read at an index as real numbers: for one key tile against one query
  tile, the weights, the gradient of the scores, and what is added to the three accumulators.
-/
module

public import proofs.«01_k».proof.Proof.AttnBwd.Spec
public import proofs.«01_k».proof.Proof.Gen.KernelIdeal.Skeleton
public import Idealize.ShloMosaic.Lib.Pointwise
public import Idealize.ShloMosaic.Lib.WordCmp
public import Idealize.ShloMosaic.Lib.Pipeline.Value

@[expose] public section

set_option maxRecDepth 16384

noncomputable section

namespace Cert.Proof.AttnBwd

open Cert.KernelIdeal Cert.KernelIdeal.Gen
open Idealize.ShloMosaic

/-- One key tile and one query tile as real numbers: the keys and values by key, the queries, the output's gradient,
    the output and the logarithm of the weights' sum by query. -/
structure Tile where
  k : Fin 768 → Fin 256 → ℝ
  v : Fin 768 → Fin 128 → ℝ
  q : Fin 768 → Fin 256 → ℝ
  d : Fin 768 → Fin 128 → ℝ
  o : Fin 768 → Fin 128 → ℝ
  l : Fin 768 → ℝ

/-- The softmax of query `x` at key `r`, unmasked. -/
def Tile.ex (T : Tile) (r x : Fin 768) : ℝ := Real.exp (∑ e : Fin 256, T.k r e * T.q x e - T.l x)
/-- The output's product with its gradient, at query `x`. -/
def Tile.del (T : Tile) (x : Fin 768) : ℝ := ∑ e : Fin 128, T.d x e * T.o x e
/-- The gradient of the scores, for probabilities `p`. -/
def Tile.ds (T : Tile) (p : Fin 768 → Fin 768 → ℝ) (r x : Fin 768) : ℝ := p r x * (∑ e : Fin 128, T.v r e * T.d x e - T.del x)

/-- The tile's arrays, read at an index, are the real numbers of `T`. -/
structure TileIs (T : Tile) (q k : Vec Ideal S768x256 .bf16) (v d o : Vec Ideal S768x128 .bf16) (l : Vec Ideal S1x1x1x1x768 .f32) : Prop where
  q : ∀ x e, q (ix2 x e) = ((T.q x e : ℝ) : EReal)
  k : ∀ r e, k (ix2 r e) = ((T.k r e : ℝ) : EReal)
  v : ∀ r e, v (ix2 r e) = ((T.v r e : ℝ) : EReal)
  d : ∀ x e, d (ix2 x e) = ((T.d x e : ℝ) : EReal)
  o : ∀ x e, o (ix2 x e) = ((T.o x e : ℝ) : EReal)
  l : ∀ x, l (ix5 0 0 0 0 x) = ((T.l x : ℝ) : EReal)

/-- A number on the masked side is zero, on the other side itself. -/
theorem select_real {c : BitVec 1} {P : Prop} [Decidable P] (hc : c = BitVec.ofBool (decide P)) {x : EReal} {y : ℝ} (hx : x = (y : EReal)) :
    Scalar.select c x (0 : EReal) = ((if P then y else 0 : ℝ) : EReal) := by
  subst hc hx
  by_cases h : P <;> simp [h, Scalar.select]

/-- The word of a position is that of the tile's first position plus the place in the tile. -/
theorem word_pos (i : Fin 3) (r : Fin 768) :
    IntOp.addi (Scalar.muli (BitVec.ofNat 32 i.val) 768#32) (BitVec.ofNat 32 r.val) = BitVec.ofNat 32 (768 * i.val + r.val) := by
  show BitVec.ofNat 32 i.val * BitVec.ofNat 32 768 + BitVec.ofNat 32 r.val = _
  rw [← BitVec.ofNat_mul, ← BitVec.ofNat_add, Nat.mul_comm]

/-- The mask of the first positions. -/
theorem word_pad (i : Fin 3) (r : Fin 768) :
    IntOp.cmpi CmpIPredicate.sge (IntOp.addi (Scalar.muli (BitVec.ofNat 32 i.val) 768#32) (BitVec.ofNat 32 r.val)) 240#32
      = BitVec.ofBool (decide (240 ≤ 768 * i.val + r.val)) := by
  rw [word_pos]
  exact WordCmp.cmpi_sge_ofNat (by have := i.isLt; have := r.isLt; norm_num; omega) (by norm_num)

/-- The causal mask. -/
theorem word_le (i : Fin 3) (r x : Fin 768) :
    IntOp.cmpi CmpIPredicate.sle (IntOp.addi (Scalar.muli (BitVec.ofNat 32 i.val) 768#32) (BitVec.ofNat 32 r.val))
      (IntOp.addi (Scalar.muli (BitVec.ofNat 32 i.val) 768#32) (BitVec.ofNat 32 x.val))
      = BitVec.ofBool (decide (768 * i.val + r.val ≤ 768 * i.val + x.val)) := by
  rw [word_pos, word_pos]
  exact WordCmp.cmpi_sle_ofNat (by have := i.isLt; have := r.isLt; norm_num; omega) (by have := i.isLt; have := x.isLt; norm_num; omega)

/-- Ninety-six copies of eight rows stack to the tile's rows. -/
theorem lanes_stack : Shape.Concatenates (List.replicate 96 S8x768) S768x768 0 := by decide

/-- Ninety-six copies of eight rows, one under the other. -/
def lanes (y : FVec Ideal S8x768 .f32) : FVec Ideal S768x768 .f32 :=
  concatenate S768x768 0 (List.replicate 96 (⟨S8x768, y⟩ : (s : Shape) × (s.Idx → Ideal .f32))) (by rw [List.map_replicate]; exact lanes_stack)

/-- Each row of the stack is one of the eight. -/
theorem lanes_at (y : FVec Ideal S8x768 .f32) (r x : Fin 768) : lanes y (ix2 r x) = y (ix2 ⟨r.val % 8, Nat.mod_lt _ (by decide)⟩ x) := by
  refine concatenate_replicate_apply (t := S768x768) (s₁ := S8x768) 0 96 y _ rfl (ix2 r x) (ix2 ⟨r.val % 8, Nat.mod_lt _ (by decide)⟩ x) rfl fun b hb => ?_
  match b, hb with
  | ⟨0, _⟩, hb => exact absurd rfl hb
  | ⟨1, _⟩, _ => rfl

/-- The gradient of the scores from the values' product with the output's gradient, the output's product with its
    gradient, and the weights. -/
def dsOf (d v : FVec Ideal S768x128 .bf16) (e : FVec Ideal S8x768 .f32) (p : FVec Ideal S768x768 .f32) : FVec Ideal S768x768 .bf16 :=
  truncf .bf16 (mulf p (subf (matmul dot_S768x128_S768x128_S768x768_1_1_0_0_n_n none v d (constant S768x768 .f32 0x00000000#32)) (lanes e))) bitsLt_bf16_f32

/-- The gradient of the scores read at an index. -/
theorem dsOf_at (d v : FVec Ideal S768x128 .bf16) (e : FVec Ideal S8x768 .f32) (p : FVec Ideal S768x768 .f32) (r x : Fin 768) :
    dsOf d v e p (ix2 r x) = p (ix2 r x) * (∑ c, v (ix2 r c) * d (ix2 x c) - e (ix2 ⟨r.val % 8, Nat.mod_lt _ (by decide)⟩ x)) := by
  pointwise [dsOf]
  rw [lanes_at]

/-- The step with the first positions masked computes it, -/
theorem pay10_eq (d v : Vec Ideal S768x128 .bf16) (e p) : k0_pay10 (F := Ideal) d e p v = dsOf d (shapeCast S768x128 v shapeCasts_S768x128_S768x128) e p := rfl
/-- and so does the unmasked step, -/
theorem pay37_eq (d v : Vec Ideal S768x128 .bf16) (e p) : k0_pay37 (F := Ideal) d e p v = dsOf d (shapeCast S768x128 v shapeCasts_S768x128_S768x128) e p := rfl
/-- and the causal one. -/
theorem pay33_eq (i : BitVec 32) (q k : Vec Ideal S768x256 .bf16) (d v : Vec Ideal S768x128 .bf16) (e) (l : Vec Ideal S1x1x1x1x768 .f32) :
    k0_pay33 (F := Ideal) i q d e k l v = dsOf d (shapeCast S768x128 v shapeCasts_S768x128_S768x128) e (k0_pay31 i q k l) := rfl

/-- A cast to the same shape changes nothing. -/
theorem cast_v_at (v : Vec Ideal S768x128 .bf16) (r : Fin 768) (c : Fin 128) : shapeCast S768x128 v shapeCasts_S768x128_S768x128 (ix2 r c) = v (ix2 r c) := by
  pointwise

variable {T : Tile} {q k : Vec Ideal S768x256 .bf16} {v d o : Vec Ideal S768x128 .bf16} {l : Vec Ideal S1x1x1x1x768 .f32}

section Loads
variable (H : TileIs T q k v d o l)
include H

/-- The exponential both masks choose from. -/
theorem ex_eq (r x : Fin 768) : Ideal.exp (∑ e, k (ix2 r e) * q (ix2 x e) - l (ix5 0 0 0 0 x)) = ((T.ex r x : ℝ) : EReal) := by
  simp only [H.q, H.k, H.l, ← EReal.coe_mul, ← coe_sum, ← EReal.coe_sub, Ideal.exp_coe, Tile.ex]

/-- The output's product with its gradient, as a high part and a rest that is zero. -/
theorem del_eq (x : Fin 768) : ∑ e, d (ix2 x e) * o (ix2 x e) + ∑ e, (d (ix2 x e) * o (ix2 x e) - d (ix2 x e) * o (ix2 x e)) = ((T.del x : ℝ) : EReal) := by
  simp only [H.d, H.o, ← EReal.coe_mul, ← coe_sum, ← EReal.coe_sub, sub_self, Finset.sum_const_zero, EReal.coe_zero, add_zero, Tile.del]

/-- The unmasked weights. -/
theorem pay16_at (r x : Fin 768) : k0_pay16 q k l (ix2 r x) = ((T.ex r x : ℝ) : EReal) := by
  pointwise [k0_pay16, k0_pay13]
  exact ex_eq H r x

/-- The weights with the first positions masked. -/
theorem pay8_at (i : Fin 3) (r x : Fin 768) :
    k0_pay8 (BitVec.ofNat 32 i.val) q k l (ix2 r x) = ((if 240 ≤ 768 * i.val + r.val then T.ex r x else 0 : ℝ) : EReal) := by
  pointwise [k0_pay8, k0_pay5]
  exact select_real (word_pad i r) (ex_eq H r x)

/-- The weights with the first positions and the keys after the query masked. -/
theorem pay31_at (i : Fin 3) (r x : Fin 768) :
    k0_pay31 (BitVec.ofNat 32 i.val) (k0_pay27 q) (k0_pay30 k) l (ix2 r x)
      = ((if 768 * i.val + r.val ≤ 768 * i.val + x.val ∧ 240 ≤ 768 * i.val + r.val then T.ex r x else 0 : ℝ) : EReal) := by
  pointwise [k0_pay31, k0_pay27, k0_pay30]
  refine select_real ?_ (ex_eq H r x)
  rw [word_pad, word_le, WordCmp.andi_ofBool, Bool.decide_and]

/-- The output's product with its gradient, of the unmasked step, -/
theorem pay15_at (s : Fin 8) (x : Fin 768) : k0_pay15 k0_pay26 d o (ix2 s x) = ((T.del x : ℝ) : EReal) := by
  pointwise [k0_pay15, k0_pay14, k0_pay26]
  exact del_eq H x

/-- of the step with the first positions masked, -/
theorem pay7_at (s : Fin 8) (x : Fin 768) : k0_pay7 k0_pay26 d o (ix2 s x) = ((T.del x : ℝ) : EReal) := by
  pointwise [k0_pay7, k0_pay6, k0_pay26]
  exact del_eq H x

/-- of the causal step. -/
theorem pay29_at (s : Fin 8) (x : Fin 768) : k0_pay29 d o (ix2 s x) = ((T.del x : ℝ) : EReal) := by
  pointwise [k0_pay29, k0_pay28, k0_pay26]
  exact del_eq H x

end Loads

section Products

/-- The gradient of the scores, from weights `P`. -/
theorem ds_at (H : TileIs T q k v d o l) {e : FVec Ideal S8x768 .f32} (he : ∀ s x, e (ix2 s x) = ((T.del x : ℝ) : EReal))
    {p : FVec Ideal S768x768 .f32} {P : Fin 768 → Fin 768 → ℝ} (hp : ∀ r x, p (ix2 r x) = ((P r x : ℝ) : EReal)) (r x : Fin 768) :
    dsOf d (shapeCast S768x128 v shapeCasts_S768x128_S768x128) e p (ix2 r x) = ((T.ds P r x : ℝ) : EReal) := by
  have hv : ∀ r c, shapeCast S768x128 v shapeCasts_S768x128_S768x128 (ix2 r c) = ((T.v r c : ℝ) : EReal) := fun r c => (cast_v_at v r c).trans (H.v r c)
  rw [dsOf_at]
  simp only [hv, H.d, he, hp, ← EReal.coe_mul, ← coe_sum, ← EReal.coe_sub, Tile.ds]

variable {g : Fin 768 → Fin 768 → ℝ}
  {dv : Vec Ideal S1x768x128 .f32} {DV : Fin 768 → Fin 128 → ℝ} (hdv : ∀ r c, dv (ix3 0 r c) = ((DV r c : ℝ) : EReal))
  {dk : Vec Ideal S1x768x256 .f32} {DK : Fin 768 → Fin 256 → ℝ} (hdk : ∀ r c, dk (ix3 0 r c) = ((DK r c : ℝ) : EReal))
  {dq : Vec Ideal S1x1x256x768 .f32} {DQ : Fin 256 → Fin 768 → ℝ} (hdq : ∀ c x, dq (ix4 0 0 c x) = ((DQ c x : ℝ) : EReal))
  {kt : Vec Ideal S1x1x1x256x768 .bf16} {K : Fin 768 → Fin 256 → ℝ} (hkt : ∀ c r, kt (ix5 0 0 0 c r) = ((K r c : ℝ) : EReal))
  {Q : Fin 768 → Fin 256 → ℝ} (hq : ∀ x c, q (ix2 x c) = ((Q x c : ℝ) : EReal))
  {D : Fin 768 → Fin 128 → ℝ} (hd : ∀ x c, d (ix2 x c) = ((D x c : ℝ) : EReal))
  {w : FVec Ideal S768x768 .f32} (hw : ∀ r x, w (ix2 r x) = ((g r x : ℝ) : EReal))
  {y : FVec Ideal S768x768 .bf16} (hy : ∀ r x, y (ix2 r x) = ((g r x : ℝ) : EReal))

section
include hdv hd
/-- The addition to the gradient of the values in the step with the first positions masked, -/
theorem pay9_at (hw : ∀ r x, w (ix2 r x) = ((g r x : ℝ) : EReal)) (r : Fin 768) (c : Fin 128) :
    k0_pay9 (k0_pay6 d) w dv (ix3 0 r c) = ((DV r c + ∑ x, g r x * D x c : ℝ) : EReal) := by
  pointwise [k0_pay9, k0_pay6]
  simp only [hd, hw, hdv, ← EReal.coe_mul, ← coe_sum, ← EReal.coe_add]

/-- in the unmasked step, -/
theorem pay17_at (hw : ∀ r x, k0_pay16 q k l (ix2 r x) = ((g r x : ℝ) : EReal)) (r : Fin 768) (c : Fin 128) :
    k0_pay17 q d k l dv (ix3 0 r c) = ((DV r c + ∑ x, g r x * D x c : ℝ) : EReal) := by
  pointwise [k0_pay17, k0_pay14]
  simp only [hd, hw, hdv, ← EReal.coe_mul, ← coe_sum, ← EReal.coe_add]

/-- in the causal step. -/
theorem pay32_at (i : BitVec 32) (hw : ∀ r x, k0_pay31 i (k0_pay27 q) (k0_pay30 k) l (ix2 r x) = ((g r x : ℝ) : EReal)) (r : Fin 768) (c : Fin 128) :
    k0_pay32 i (k0_pay27 q) (k0_pay28 d) (k0_pay30 k) l dv (ix3 0 r c) = ((DV r c + ∑ x, g r x * D x c : ℝ) : EReal) := by
  pointwise [k0_pay32, k0_pay28]
  simp only [hd, hw, hdv, ← EReal.coe_mul, ← coe_sum, ← EReal.coe_add]
end

section
include hdk hq
/-- The addition to the gradient of the keys in the causal step, -/
theorem pay34_at (hy : ∀ r x, y (ix2 r x) = ((g r x : ℝ) : EReal)) (r : Fin 768) (c : Fin 256) :
    k0_pay34 (k0_pay27 q) y dk (ix3 0 r c) = ((DK r c + ∑ x, g r x * Q x c : ℝ) : EReal) := by
  pointwise [k0_pay34, k0_pay27]
  simp only [hq, hy, hdk, ← EReal.coe_mul, ← coe_sum, ← EReal.coe_add]

/-- in the step with the first positions masked, -/
theorem pay11_at {a e p} (hy : ∀ r x, k0_pay10 a e p v (ix2 r x) = ((g r x : ℝ) : EReal)) (r : Fin 768) (c : Fin 256) :
    k0_pay11 (k0_pay5 q) a e p v dk (ix3 0 r c) = ((DK r c + ∑ x, g r x * Q x c : ℝ) : EReal) := by
  pointwise [k0_pay11, k0_pay5]
  simp only [hq, hy, hdk, ← EReal.coe_mul, ← coe_sum, ← EReal.coe_add]

/-- in the unmasked step. -/
theorem pay38_at {a e p} (hy : ∀ r x, k0_pay37 a e p v (ix2 r x) = ((g r x : ℝ) : EReal)) (r : Fin 768) (c : Fin 256) :
    k0_pay38 (k0_pay13 q) a e p v dk (ix3 0 r c) = ((DK r c + ∑ x, g r x * Q x c : ℝ) : EReal) := by
  pointwise [k0_pay38, k0_pay13]
  simp only [hq, hy, hdk, ← EReal.coe_mul, ← coe_sum, ← EReal.coe_add]
end

section
include hdq hkt
/-- The addition to the gradient of the queries in the causal step, -/
theorem pay35_at (hy : ∀ r x, y (ix2 r x) = ((g r x : ℝ) : EReal)) (c : Fin 256) (x : Fin 768) :
    k0_pay35 y dq kt (ix4 0 0 c x) = ((DQ c x + ∑ r, K r c * g r x : ℝ) : EReal) := by
  pointwise [k0_pay35]
  simp only [hkt, hy, hdq, ← EReal.coe_mul, ← coe_sum, ← EReal.coe_add]

/-- in the step with the first positions masked, -/
theorem pay36_at {a e p} (hy : ∀ r x, k0_pay10 a e p v (ix2 r x) = ((g r x : ℝ) : EReal)) (c : Fin 256) (x : Fin 768) :
    k0_pay36 (k0_pay12 a e p v dq kt) (ix4 0 0 c x) = ((DQ c x + ∑ r, K r c * g r x : ℝ) : EReal) := by
  pointwise [k0_pay36, k0_pay12]
  simp only [hkt, hy, hdq, ← EReal.coe_mul, ← coe_sum, ← EReal.coe_add]

/-- in the unmasked step. -/
theorem pay39_at {a e p} (hy : ∀ r x, k0_pay37 a e p v (ix2 r x) = ((g r x : ℝ) : EReal)) (c : Fin 256) (x : Fin 768) :
    k0_pay39 a e p v dq kt (ix4 0 0 c x) = ((DQ c x + ∑ r, K r c * g r x : ℝ) : EReal) := by
  pointwise [k0_pay39]
  simp only [hkt, hy, hdq, ← EReal.coe_mul, ← coe_sum, ← EReal.coe_add]
end

end Products

end Cert.Proof.AttnBwd

end
-- ==== Proof.AttnBwd.Step.lean ====
/-
  What the body of the attention gradient does to its three accumulators, as pure functions of the values it
  loads: one key tile (`K`, `Kt`, `V`) against one query tile (`q`, `do`, `o`, the log-sum-exp row).
-/
module

public import proofs.«01_k».proof.Proof.Gen.KernelIdeal.Skeleton
public import Idealize.ShloMosaic.Lib.VecWindow

@[expose] public section

noncomputable section

namespace Cert.Proof.AttnBwd

open Cert.KernelIdeal Cert.KernelIdeal.Gen
open Idealize.ShloMosaic

variable {F : FTy → Type} [FloatOps F]

/-- The values of the seven input windows at one grid point. -/
structure Ins (F : FTy → Type) where
  q : Vec F S2304x256 .bf16
  k : Vec F S768x256 .bf16
  kt : Vec F S1x1x1x256x768 .bf16
  v : Vec F S768x128 .bf16
  o : Vec F S2304x128 .bf16
  d : Vec F S2304x128 .bf16
  l : Vec F S1x1x3x1x768 .f32

/-- The three accumulators: the gradient of `q`, transposed, one slab per query tile; of `k`; of `v`. -/
structure St (F : FTy → Type) where
  dq : Vec F S1x3x256x768 .f32
  dk : Vec F S1x768x256 .f32
  dv : Vec F S1x768x128 .f32

/-- The key tile's number, as the word the body computes with. -/
abbrev tileWord (i : grid0.Coords) : BitVec 32 := BitVec.ofNat 32 (i 2).val

/-- The accumulators the body starts a grid point with: those of `k` and `v` zero, that of `q` zero at the first key
    tile and carried at the others. -/
def start (dq : Vec F S1x3x256x768 .f32) : St F := ⟨dq, k0_pay24, k0_pay25⟩

/-- The causal step: the key tile against the query tile of the same number. -/
def stepDiag (i : grid0.Coords) (x : Ins F) (s : St F) : St F :=
  let q := VecWindow.window x.q (k0_off1 i) S768x256.size (k0_off1_inb i)
  let d := VecWindow.window x.d (k0_off2 i) S768x128.size (k0_off2_inb i)
  let o := VecWindow.window x.o (k0_off2 i) S768x128.size (k0_off2_inb i)
  let l := VecWindow.window x.l (k0_off3 i) S1x1x1x1x768.size (k0_off3_inb i)
  let ds := k0_pay33 (tileWord i) (k0_pay27 q) (k0_pay28 d) (k0_pay29 d o) (k0_pay30 x.k) l x.v
  ⟨VecWindow.put s.dq (k0_off4 i) S1x1x256x768.size (k0_pay35 ds (VecWindow.window s.dq (k0_off4 i) S1x1x256x768.size (k0_off4_inb i)) x.kt),
    k0_pay34 (k0_pay27 q) ds s.dk,
    k0_pay32 (tileWord i) (k0_pay27 q) (k0_pay28 d) (k0_pay30 x.k) l s.dv⟩

/-- A step of the first key tile against a later query tile: the keys before the first position are masked. -/
def stepPad (i : grid0.Coords) (h : k0_cond2 i = 1#1) (x : Ins F) (t : Fin k0_t1_loop.trips) (s : St F) : St F :=
  let q := VecWindow.window x.q (k0_off5 t) S768x256.size (k0_off5_inb i t h)
  let d := VecWindow.window x.d (k0_off6 t) S768x128.size (k0_off6_inb i t h)
  let o := VecWindow.window x.o (k0_off6 t) S768x128.size (k0_off6_inb i t h)
  let l := VecWindow.window x.l (k0_off7 t) S1x1x1x1x768.size (k0_off7_inb i t h)
  let p := k0_pay8 (tileWord i) q x.k l
  let e := k0_pay7 k0_pay26 d o
  ⟨VecWindow.put s.dq (k0_off8 t) S1x1x256x768.size (k0_pay36 (k0_pay12 (k0_pay6 d) e p x.v (VecWindow.window s.dq (k0_off8 t) S1x1x256x768.size (k0_off8_inb i t h)) x.kt)),
    k0_pay11 (k0_pay5 q) (k0_pay6 d) e p x.v s.dk,
    k0_pay9 (k0_pay6 d) p s.dv⟩

/-- A step of a later key tile against a still later query tile: nothing is masked. -/
def stepFull (i : grid0.Coords) (h : k0_cond3 i = 1#1) (x : Ins F) (t : Fin (k0_t2_loop i).trips) (s : St F) : St F :=
  let q := VecWindow.window x.q (k0_off9 i t) S768x256.size (k0_off9_inb i t h)
  let d := VecWindow.window x.d (k0_off10 i t) S768x128.size (k0_off10_inb i t h)
  let o := VecWindow.window x.o (k0_off10 i t) S768x128.size (k0_off10_inb i t h)
  let l := VecWindow.window x.l (k0_off11 i t) S1x1x1x1x768.size (k0_off11_inb i t h)
  let p := k0_pay16 q x.k l
  let e := k0_pay15 k0_pay26 d o
  ⟨VecWindow.put s.dq (k0_off12 i t) S1x1x256x768.size (k0_pay39 (k0_pay14 d) e p x.v (VecWindow.window s.dq (k0_off12 i t) S1x1x256x768.size (k0_off12_inb i t h)) x.kt),
    k0_pay38 (k0_pay13 q) (k0_pay14 d) e p x.v s.dk,
    k0_pay17 q d x.k l s.dv⟩

/-- The accumulators after the first `k` trips of the first key tile's loop. -/
def padTrips (i : grid0.Coords) (h : k0_cond2 i = 1#1) (x : Ins F) (s : St F) : ℕ → St F
  | 0 => s
  | k + 1 => if hk : k < k0_t1_loop.trips then stepPad i h x ⟨k, hk⟩ (padTrips i h x s k) else padTrips i h x s k

theorem padTrips_succ (i : grid0.Coords) (h : k0_cond2 i = 1#1) (x : Ins F) (s : St F) (k : Fin k0_t1_loop.trips) :
    padTrips i h x s (k.val + 1) = stepPad i h x k (padTrips i h x s k.val) := by
  rw [padTrips.eq_2]; exact dif_pos k.isLt

/-- The accumulators after the first `k` trips of a later key tile's loop. -/
def fullTrips (i : grid0.Coords) (h : k0_cond3 i = 1#1) (x : Ins F) (s : St F) : ℕ → St F
  | 0 => s
  | k + 1 => if hk : k < (k0_t2_loop i).trips then stepFull i h x ⟨k, hk⟩ (fullTrips i h x s k) else fullTrips i h x s k

theorem fullTrips_succ (i : grid0.Coords) (h : k0_cond3 i = 1#1) (x : Ins F) (s : St F) (k : Fin (k0_t2_loop i).trips) :
    fullTrips i h x s (k.val + 1) = stepFull i h x k (fullTrips i h x s k.val) := by
  rw [fullTrips.eq_2]; exact dif_pos k.isLt

end Cert.Proof.AttnBwd

end
-- ==== Proof.AttnBwd.StepAt.lean ====
/-
  The steps of the body on real numbers: where the input windows hold the arguments' values, each step adds one query
  tile's share to the gradients of the key tile's keys and values, and the key tile's share to that query tile's slab.
-/
module

public import proofs.«01_k».proof.Proof.AttnBwd.Sums
public import proofs.«01_k».proof.Proof.AttnBwd.Pay
public import proofs.«01_k».proof.Proof.AttnBwd.Step

@[expose] public section

set_option maxRecDepth 16384

noncomputable section

namespace Cert.Proof.AttnBwd

open Cert.KernelIdeal Cert.KernelIdeal.Gen
open Idealize.ShloMosaic
open Finset (range)

/-! ## Windows at an index -/

/-- A window of whole rows of a matrix, from row `A` on. -/
theorem window_rows {α : Type} {M N m : ℕ} (x : (⟨2, ![M, N]⟩ : Shape).Idx → α) (off : Fin 2 → ℕ) (inb : ∀ a, off a + (⟨2, ![m, N]⟩ : Shape).size a ≤ (⟨2, ![M, N]⟩ : Shape).size a)
    {A : ℕ} (ho : off = ![A, 0]) (r : Fin m) (e : Fin N) (h : A + r.val < M) :
    VecWindow.window x off (⟨2, ![m, N]⟩ : Shape).size inb (ix2 r e) = x (ix2 ⟨A + r.val, h⟩ e) := by
  subst ho
  refine congrArg x (funext fun a => ?_)
  match a with
  | ⟨0, _⟩ => exact Fin.ext (show A + 1 * r.val = A + r.val by omega)
  | ⟨1, _⟩ => exact Fin.ext (show 0 + 1 * e.val = e.val by omega)

/-- One query tile's row of the logarithms. -/
theorem window_lse {α : Type} (x : S1x1x3x1x768.Idx → α) (off : Fin 5 → ℕ) (inb : ∀ a, off a + S1x1x1x1x768.size a ≤ S1x1x3x1x768.size a)
    (c : Fin 3) (ho : off = ![0, 0, c.val, 0, 0]) (y : Fin 768) :
    VecWindow.window x off S1x1x1x1x768.size inb (ix5 0 0 0 0 y) = x (ix5 0 0 c 0 y) := by
  subst ho
  refine congrArg x (funext fun a => ?_)
  match a with
  | ⟨0, _⟩ => exact Fin.ext (show 0 + 1 * 0 = 0 by omega)
  | ⟨1, _⟩ => exact Fin.ext (show 0 + 1 * 0 = 0 by omega)
  | ⟨2, _⟩ => exact Fin.ext (show c.val + 1 * 0 = c.val by omega)
  | ⟨3, _⟩ => exact Fin.ext (show 0 + 1 * 0 = 0 by omega)
  | ⟨4, _⟩ => exact Fin.ext (show 0 + 1 * y.val = y.val by omega)

/-- One query tile's slab. -/
theorem window_slab {α : Type} (x : S1x3x256x768.Idx → α) (off : Fin 4 → ℕ) (inb : ∀ a, off a + S1x1x256x768.size a ≤ S1x3x256x768.size a)
    (c : Fin 3) (ho : off = ![0, c.val, 0, 0]) (e : Fin 256) (y : Fin 768) :
    VecWindow.window x off S1x1x256x768.size inb (ix4 0 0 e y) = x (ix4 0 c e y) := by
  subst ho
  refine congrArg x (funext fun a => ?_)
  match a with
  | ⟨0, _⟩ => exact Fin.ext (show 0 + 1 * 0 = 0 by omega)
  | ⟨1, _⟩ => exact Fin.ext (show c.val + 1 * 0 = c.val by omega)
  | ⟨2, _⟩ => exact Fin.ext (show 0 + 1 * e.val = e.val by omega)
  | ⟨3, _⟩ => exact Fin.ext (show 0 + 1 * y.val = y.val by omega)

/-- A slab just put is what was put, -/
theorem put_slab_same {α : Type} (x : S1x3x256x768.Idx → α) (off : Fin 4 → ℕ) (w : S1x1x256x768.Idx → α)
    (c : Fin 3) (ho : off = ![0, c.val, 0, 0]) (e : Fin 256) (y : Fin 768) :
    VecWindow.put x off S1x1x256x768.size w (ix4 0 c e y) = w (ix4 0 0 e y) := by
  have inb : ∀ a, off a + S1x1x256x768.size a ≤ S1x3x256x768.size a := by
    subst ho
    intro a
    have := c.isLt
    match a with
    | ⟨0, _⟩ => show 0 + 1 ≤ 1; omega
    | ⟨1, _⟩ => show c.val + 1 ≤ 3; omega
    | ⟨2, _⟩ => show 0 + 256 ≤ 256; omega
    | ⟨3, _⟩ => show 0 + 768 ≤ 768; omega
  exact (window_slab (VecWindow.put x off S1x1x256x768.size w) off inb c ho e y).symm.trans (congrFun (VecWindow.window_put_same x off S1x1x256x768.size inb w) _)

/-- and the other slabs are as before. -/
theorem put_slab_other {α : Type} (x : S1x3x256x768.Idx → α) (off : Fin 4 → ℕ) (w : S1x1x256x768.Idx → α)
    (c c' : Fin 3) (ho : off = ![0, c.val, 0, 0]) (hc : c' ≠ c) (e : Fin 256) (y : Fin 768) :
    VecWindow.put x off S1x1x256x768.size w (ix4 0 c' e y) = x (ix4 0 c' e y) := by
  subst ho
  refine dif_neg fun h => hc (Fin.ext ?_)
  have h1 : c.val ≤ c'.val ∧ c'.val < c.val + 1 := h 1
  omega

/-! ## The input windows as real numbers -/

/-- The input windows hold the arguments' values: example `b`, head `h`, key tile `i`. -/
structure InsIs (a : Args) (b : Fin 4) (h : Fin 8) (i : Fin 3) (x : Ins Ideal) : Prop where
  q : ∀ (Q : Fin 2304) (e : Fin 256), x.q (ix2 Q e) = ((padded a.q b h Q.val e.val : ℝ) : EReal)
  k : ∀ (r : Fin 768) (e : Fin 256), x.k (ix2 r e) = ((padded a.k b h (768 * i.val + r.val) e.val : ℝ) : EReal)
  kt : ∀ (e : Fin 256) (r : Fin 768), x.kt (ix5 0 0 0 e r) = ((padded a.k b h (768 * i.val + r.val) e.val : ℝ) : EReal)
  v : ∀ (r : Fin 768) (e : Fin 128), x.v (ix2 r e) = ((padded a.v b h (768 * i.val + r.val) e.val : ℝ) : EReal)
  d : ∀ (Q : Fin 2304) (e : Fin 128), x.d (ix2 Q e) = ((padded a.d b h Q.val e.val : ℝ) : EReal)
  o : ∀ (Q : Fin 2304) (e : Fin 128), x.o (ix2 Q e) = ((padded a.out b h Q.val e.val : ℝ) : EReal)
  l : ∀ (c : Fin 3) (y : Fin 768), x.l (ix5 0 0 c 0 y) = ((a.lse b h (768 * c.val + y.val) : ℝ) : EReal)

/-- Key tile `i` and query tile `c`. -/
def tileAt (a : Args) (b : Fin 4) (h : Fin 8) (i c : Fin 3) : Tile where
  k r e := padded a.k b h (768 * i.val + r.val) e.val
  v r e := padded a.v b h (768 * i.val + r.val) e.val
  q y e := padded a.q b h (768 * c.val + y.val) e.val
  d y e := padded a.d b h (768 * c.val + y.val) e.val
  o y e := padded a.out b h (768 * c.val + y.val) e.val
  l y := a.lse b h (768 * c.val + y.val)

variable {a : Args} {b : Fin 4} {h : Fin 8} {i : Fin 3} {x : Ins Ideal}

/-- The windows loaded for query tile `c` hold the tile. -/
theorem tile_is (H : InsIs a b h i x) (c : Fin 3) {oq od : Fin 2 → ℕ} {ol : Fin 5 → ℕ}
    (iq : ∀ a, oq a + S768x256.size a ≤ S2304x256.size a) (id : ∀ a, od a + S768x128.size a ≤ S2304x128.size a)
    (il : ∀ a, ol a + S1x1x1x1x768.size a ≤ S1x1x3x1x768.size a)
    (hq : oq = ![768 * c.val, 0]) (hd : od = ![768 * c.val, 0]) (hl : ol = ![0, 0, c.val, 0, 0]) :
    TileIs (tileAt a b h i c) (VecWindow.window x.q oq S768x256.size iq) x.k x.v (VecWindow.window x.d od S768x128.size id)
      (VecWindow.window x.o od S768x128.size id) (VecWindow.window x.l ol S1x1x1x1x768.size il) where
  q y e := (window_rows x.q oq iq hq y e (by omega)).trans (H.q _ e)
  k r e := H.k r e
  v r e := H.v r e
  d y e := (window_rows x.d od id hd y e (by omega)).trans (H.d _ e)
  o y e := (window_rows x.o od id hd y e (by omega)).trans (H.o _ e)
  l y := (window_lse x.l ol il c hl y).trans (H.l c y)

/-- The masked probabilities of the tile. -/
def tileProb (a : Args) (b : Fin 4) (h : Fin 8) (i c : Fin 3) (r y : Fin 768) : ℝ := a.pprob b h (768 * i.val + r.val) (768 * c.val + y.val)

/-- The tile's gradient of the scores. -/
theorem tile_ds (c : Fin 3) (r y : Fin 768) :
    (tileAt a b h i c).ds (tileProb a b h i c) r y = a.pscore b h (768 * i.val + r.val) (768 * c.val + y.val) := rfl

/-! ## The accumulators as sums -/

/-- The accumulators of key tile `i` when the query tiles before the `n`th are done: the keys' and values' gradients hold
    the sums over the queries so far; the slabs of those query tiles the sums over the keys up to this tile's, the others'
    over the keys before. -/
structure Upto (a : Args) (b : Fin 4) (h : Fin 8) (i : Fin 3) (n : ℕ) (s : St Ideal) : Prop where
  dq : ∀ (c : Fin 3) (e : Fin 256) (y : Fin 768), s.dq (ix4 0 c e y)
    = ((∑ K ∈ range (768 * if c.val < n then i.val + 1 else i.val), padded a.k b h K e.val * a.pscore b h K (768 * c.val + y.val) : ℝ) : EReal)
  dk : ∀ (r : Fin 768) (e : Fin 256), s.dk (ix3 0 r e)
    = ((∑ Q ∈ range (768 * n), a.pscore b h (768 * i.val + r.val) Q * padded a.q b h Q e.val : ℝ) : EReal)
  dv : ∀ (r : Fin 768) (e : Fin 128), s.dv (ix3 0 r e)
    = ((∑ Q ∈ range (768 * n), a.pprob b h (768 * i.val + r.val) Q * padded a.d b h Q e.val : ℝ) : EReal)

/-- The queries' gradient as carried to key tile `i`: the sums over the keys before. -/
def DqIs (a : Args) (b : Fin 4) (h : Fin 8) (n : ℕ) (dq : Vec Ideal S1x3x256x768 .f32) : Prop :=
  ∀ (c : Fin 3) (e : Fin 256) (y : Fin 768), dq (ix4 0 c e y)
    = ((∑ K ∈ range (768 * n), padded a.k b h K e.val * a.pscore b h K (768 * c.val + y.val) : ℝ) : EReal)

/-- The zeros are the sums over no key. -/
theorem dq_zero : DqIs a b h 0 (k0_pay23 (F := Ideal)) := by
  intro c e y
  rw [Nat.mul_zero, Finset.sum_range_zero, EReal.coe_zero]
  pointwise [k0_pay23]

/-- The body starts with the query tiles before the key tile done: their queries do not see its keys. -/
theorem start_upto {dq : Vec Ideal S1x3x256x768 .f32} (hd : DqIs a b h i.val dq) : Upto a b h i i.val (start dq) where
  dq c e y := by
    show dq _ = _
    rw [hd c e y]
    by_cases hc : c.val < i.val
    · rw [if_pos hc, sum_tile, Finset.sum_eq_zero (s := Finset.univ) fun r _ => by
        rw [a.pscore_after b h (by omega), mul_zero], add_zero]
    · rw [if_neg hc]
  dk r e := by
    rw [Finset.sum_eq_zero fun Q hQ => by rw [a.pscore_after b h (by have := Finset.mem_range.mp hQ; omega), zero_mul], EReal.coe_zero]
    show k0_pay24 (F := Ideal) (ix3 0 r e) = 0
    pointwise [k0_pay24]
  dv r e := by
    rw [Finset.sum_eq_zero fun Q hQ => by rw [a.pprob_after b h (by have := Finset.mem_range.mp hQ; omega), zero_mul], EReal.coe_zero]
    show k0_pay25 (F := Ideal) (ix3 0 r e) = 0
    pointwise [k0_pay25]

/-- With all query tiles done the slabs hold the sums up to the key tile's keys. -/
theorem upto_dq {s : St Ideal} (H : Upto a b h i 3 s) : DqIs a b h (i.val + 1) s.dq := by
  intro c e y
  rw [H.dq c e y, if_pos c.isLt]

/-- A step for query tile `c`. -/
theorem upto_step {s s' : St Ideal} (c : Fin 3) (H : Upto a b h i c.val s)
    (hq : ∀ (e : Fin 256) (y : Fin 768), s'.dq (ix4 0 c e y)
      = ((∑ K ∈ range (768 * i.val), padded a.k b h K e.val * a.pscore b h K (768 * c.val + y.val)
          + ∑ r : Fin 768, padded a.k b h (768 * i.val + r.val) e.val * a.pscore b h (768 * i.val + r.val) (768 * c.val + y.val) : ℝ) : EReal))
    (hq' : ∀ (c' : Fin 3) (e : Fin 256) (y : Fin 768), c' ≠ c → s'.dq (ix4 0 c' e y) = s.dq (ix4 0 c' e y))
    (hk : ∀ (r : Fin 768) (e : Fin 256), s'.dk (ix3 0 r e)
      = ((∑ Q ∈ range (768 * c.val), a.pscore b h (768 * i.val + r.val) Q * padded a.q b h Q e.val
          + ∑ y : Fin 768, a.pscore b h (768 * i.val + r.val) (768 * c.val + y.val) * padded a.q b h (768 * c.val + y.val) e.val : ℝ) : EReal))
    (hv : ∀ (r : Fin 768) (e : Fin 128), s'.dv (ix3 0 r e)
      = ((∑ Q ∈ range (768 * c.val), a.pprob b h (768 * i.val + r.val) Q * padded a.d b h Q e.val
          + ∑ y : Fin 768, a.pprob b h (768 * i.val + r.val) (768 * c.val + y.val) * padded a.d b h (768 * c.val + y.val) e.val : ℝ) : EReal)) :
    Upto a b h i (c.val + 1) s' where
  dq c' e y := by
    by_cases hc : c' = c
    · subst hc
      rw [hq e y, if_pos (Nat.lt_succ_self _), sum_tile]
    · rw [hq' c' e y hc, H.dq c' e y]
      have hc' : c'.val ≠ c.val := fun e => hc (Fin.ext e)
      by_cases h1 : c'.val < c.val
      · rw [if_pos h1, if_pos (by omega)]
      · rw [if_neg h1, if_neg (by omega)]
  dk r e := by rw [hk r e, sum_tile]
  dv r e := by rw [hv r e, sum_tile]

/-! ## The tile's probabilities and gradients -/

section Tiles

variable {q k : Vec Ideal S768x256 .bf16} {v d o : Vec Ideal S768x128 .bf16} {l : Vec Ideal S1x1x1x1x768 .f32} {c : Fin 3}

/-- Of the causal step: the probabilities, -/
theorem diag_prob (T : TileIs (tileAt a b h i i) q k v d o l) (w : BitVec 32) (hw : w = BitVec.ofNat 32 i.val) (r y : Fin 768) :
    k0_pay31 w (k0_pay27 q) (k0_pay30 k) l (ix2 r y) = ((tileProb a b h i i r y : ℝ) : EReal) := by
  subst hw
  refine (pay31_at T i r y).trans (congrArg (fun z : ℝ => (z : EReal)) ?_)
  unfold tileProb Args.pprob
  exact if_congr and_comm rfl rfl

/-- and the gradient of the scores. -/
theorem diag_score (T : TileIs (tileAt a b h i i) q k v d o l) (w : BitVec 32) (hw : w = BitVec.ofNat 32 i.val) (r y : Fin 768) :
    k0_pay33 w (k0_pay27 q) (k0_pay28 d) (k0_pay29 d o) (k0_pay30 k) l v (ix2 r y)
      = ((a.pscore b h (768 * i.val + r.val) (768 * i.val + y.val) : ℝ) : EReal) := by
  have hd : k0_pay28 d = d := shapeCast_self _ _
  rw [hd, pay33_eq]
  exact ds_at T (pay29_at T) (diag_prob T w hw) r y

/-- Of a step of the first key tile: the probabilities, -/
theorem pad_prob (T : TileIs (tileAt a b h i c) q k v d o l) (hc : i.val < c.val) (w : BitVec 32) (hw : w = BitVec.ofNat 32 i.val) (r y : Fin 768) :
    k0_pay8 w q k l (ix2 r y) = ((tileProb a b h i c r y : ℝ) : EReal) := by
  subst hw
  refine (pay8_at T i r y).trans (congrArg (fun z : ℝ => (z : EReal)) ?_)
  unfold tileProb Args.pprob
  exact if_congr ⟨fun h => ⟨h, by omega⟩, fun h => h.1⟩ rfl rfl

/-- and the gradient of the scores. -/
theorem pad_score (T : TileIs (tileAt a b h i c) q k v d o l) (hc : i.val < c.val) (w : BitVec 32) (hw : w = BitVec.ofNat 32 i.val) (r y : Fin 768) :
    k0_pay10 (k0_pay6 d) (k0_pay7 k0_pay26 d o) (k0_pay8 w q k l) v (ix2 r y)
      = ((a.pscore b h (768 * i.val + r.val) (768 * c.val + y.val) : ℝ) : EReal) := by
  have hd : k0_pay6 d = d := shapeCast_self _ _
  rw [hd, pay10_eq]
  exact ds_at T (pay7_at T) (pad_prob T hc w hw) r y

/-- Of a step of a later key tile: the probabilities, -/
theorem full_prob (T : TileIs (tileAt a b h i c) q k v d o l) (h0 : 0 < i.val) (hc : i.val < c.val) (r y : Fin 768) :
    k0_pay16 q k l (ix2 r y) = ((tileProb a b h i c r y : ℝ) : EReal) := by
  refine (pay16_at T r y).trans (congrArg (fun z : ℝ => (z : EReal)) ?_)
  unfold tileProb Args.pprob
  exact (if_pos ⟨by omega, by omega⟩).symm

/-- and the gradient of the scores. -/
theorem full_score (T : TileIs (tileAt a b h i c) q k v d o l) (h0 : 0 < i.val) (hc : i.val < c.val) (r y : Fin 768) :
    k0_pay37 (k0_pay14 d) (k0_pay15 k0_pay26 d o) (k0_pay16 q k l) v (ix2 r y)
      = ((a.pscore b h (768 * i.val + r.val) (768 * c.val + y.val) : ℝ) : EReal) := by
  have hd : k0_pay14 d = d := shapeCast_self _ _
  rw [hd, pay37_eq]
  exact ds_at T (pay15_at T) (full_prob T h0 hc) r y

end Tiles

/-- The slab a step for query tile `c` loads holds the sums over the keys before. -/
theorem slab_at {s : St Ideal} (c : Fin 3) (hs : Upto a b h i c.val s) (off : Fin 4 → ℕ) (inb : ∀ a, off a + S1x1x256x768.size a ≤ S1x3x256x768.size a)
    (ho : off = ![0, c.val, 0, 0]) (e : Fin 256) (y : Fin 768) : VecWindow.window s.dq off S1x1x256x768.size inb (ix4 0 0 e y)
      = ((∑ K ∈ range (768 * i.val), padded a.k b h K e.val * a.pscore b h K (768 * c.val + y.val) : ℝ) : EReal) := by
  refine (window_slab s.dq off inb c ho e y).trans ((hs.dq c e y).trans ?_)
  rw [if_neg (Nat.lt_irrefl _)]

/-! ## The three steps -/

variable {j : grid0.Coords} (H : InsIs a b h i x)
include H

/-- The causal step. -/
theorem diag_upto {s : St Ideal} (hs : Upto a b h i i.val s) (hi : (j 2).val = i.val) (h1 : k0_off1 j = ![768 * i.val, 0])
    (h2 : k0_off2 j = ![768 * i.val, 0]) (h3 : k0_off3 j = ![0, 0, i.val, 0, 0]) (h4 : k0_off4 j = ![0, i.val, 0, 0]) :
    Upto a b h i (i.val + 1) (stepDiag j x s) := by
  have T := tile_is H i (k0_off1_inb j) (k0_off2_inb j) (k0_off3_inb j) h1 h2 h3
  have hw : tileWord j = BitVec.ofNat 32 i.val := congrArg (BitVec.ofNat 32) hi
  have hp := diag_prob T _ hw
  have hy := diag_score T _ hw
  have hsl := slab_at i hs (k0_off4 j) (k0_off4_inb j) h4
  exact upto_step i hs
    (fun e y => (put_slab_same s.dq (k0_off4 j) _ i h4 e y).trans (pay35_at hsl H.kt hy e y))
    (fun c' e y hc => put_slab_other s.dq (k0_off4 j) _ i c' h4 hc e y)
    (fun r e => pay34_at hs.dk T.q hy r e)
    (fun r e => pay32_at hs.dv T.d _ hp r e)

/-- A step of the first key tile for query tile `c`. -/
theorem pad_upto {s : St Ideal} (c : Fin 3) (hc : i.val < c.val) (hs : Upto a b h i c.val s) (hi : (j 2).val = i.val) (h2 : k0_cond2 j = 1#1)
    (t : Fin k0_t1_loop.trips) (h5 : k0_off5 t = ![768 * c.val, 0]) (h6 : k0_off6 t = ![768 * c.val, 0])
    (h7 : k0_off7 t = ![0, 0, c.val, 0, 0]) (h8 : k0_off8 t = ![0, c.val, 0, 0]) : Upto a b h i (c.val + 1) (stepPad j h2 x t s) := by
  have T := tile_is H c (k0_off5_inb j t h2) (k0_off6_inb j t h2) (k0_off7_inb j t h2) h5 h6 h7
  have hw : tileWord j = BitVec.ofNat 32 i.val := congrArg (BitVec.ofNat 32) hi
  have hp := pad_prob T hc _ hw
  have hy := pad_score T hc _ hw
  have hsl := slab_at c hs (k0_off8 t) (k0_off8_inb j t h2) h8
  exact upto_step c hs
    (fun e y => (put_slab_same s.dq (k0_off8 t) _ c h8 e y).trans (pay36_at hsl H.kt hy e y))
    (fun c' e y hc => put_slab_other s.dq (k0_off8 t) _ c c' h8 hc e y)
    (fun r e => pay11_at hs.dk T.q hy r e)
    (fun r e => pay9_at hs.dv T.d hp r e)

/-- A step of a later key tile for query tile `c`. -/
theorem full_upto {s : St Ideal} (c : Fin 3) (h0 : 0 < i.val) (hc : i.val < c.val) (hs : Upto a b h i c.val s) (h3 : k0_cond3 j = 1#1)
    (t : Fin (k0_t2_loop j).trips) (h9 : k0_off9 j t = ![768 * c.val, 0]) (h10 : k0_off10 j t = ![768 * c.val, 0])
    (h11 : k0_off11 j t = ![0, 0, c.val, 0, 0]) (h12 : k0_off12 j t = ![0, c.val, 0, 0]) : Upto a b h i (c.val + 1) (stepFull j h3 x t s) := by
  have T := tile_is H c (k0_off9_inb j t h3) (k0_off10_inb j t h3) (k0_off11_inb j t h3) h9 h10 h11
  have hp := full_prob T h0 hc
  have hy := full_score T h0 hc
  have hsl := slab_at c hs (k0_off12 j t) (k0_off12_inb j t h3) h12
  exact upto_step c hs
    (fun e y => (put_slab_same s.dq (k0_off12 j t) _ c h12 e y).trans (pay39_at hsl H.kt hy e y))
    (fun c' e y hc => put_slab_other s.dq (k0_off12 j t) _ c c' h12 hc e y)
    (fun r e => pay38_at hs.dk T.q hy r e)
    (fun r e => pay17_at hs.dv T.d hp r e)

end Cert.Proof.AttnBwd

end
-- ==== Proof.AttnBwd.Trips.lean ====
/-
  The loops of the attention gradient's body over the later query tiles: one trip's region takes the accumulators
  at any values to the step's (`Step.lean`), so before trip `k` they hold the first `k` steps.
-/
module

public import proofs.«01_k».proof.Proof.AttnBwd.Step
public import Idealize.ShloMosaic.Lib.Tactic
public import Idealize.ShloMosaic.Lib.Exec
public import Idealize.ShloMosaic.Lib.Pipeline.Kit

@[expose] public section

set_option maxRecDepth 8192
set_option warn.classDefReducibility false

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg3 : Memref sig .tc .vmem S2304x256 .bf16) (harg3 : arg3.IsWhole) (arg4 : Memref sig .tc .vmem S768x256 .bf16) (harg4 : arg4.IsWhole)
  (arg5 : Memref sig .tc .vmem S1x1x1x256x768 .bf16) (harg5 : arg5.IsWhole) (arg6 : Memref sig .tc .vmem S768x128 .bf16) (harg6 : arg6.IsWhole)
  (arg7 : Memref sig .tc .vmem S2304x128 .bf16) (harg7 : arg7.IsWhole) (arg8 : Memref sig .tc .vmem S2304x128 .bf16) (harg8 : arg8.IsWhole)
  (arg9 : Memref sig .tc .vmem S1x1x3x1x768 .f32) (harg9 : arg9.IsWhole) (arg10 : Memref sig .tc .vmem S2304x256 .bf16) (harg10 : arg10.IsWhole)
  (arg11 : Memref sig .tc .vmem S768x256 .bf16) (harg11 : arg11.IsWhole) (arg12 : Memref sig .tc .vmem S768x128 .bf16) (harg12 : arg12.IsWhole)
  (arg13 : Memref sig .tc .vmem S1x3x256x768 .f32) (harg13 : arg13.IsWhole) (arg14 : Memref sig .tc .vmem S1x768x256 .f32) (harg14 : arg14.IsWhole)
  (arg15 : Memref sig .tc .vmem S1x768x128 .f32) (harg15 : arg15.IsWhole)

/-- What one trip reads and writes: the input windows at their values, the accumulators at theirs. -/
abbrev Trip (x : Ins F) (s : St F) : sProp 𝕄 :=
  iprop((arg3.view.loc (c : Thread nD τ) ↦[arg3.view.set]{fullShare} arg3.view.rep x.q)
    ∗ (arg4.view.loc (c : Thread nD τ) ↦[arg4.view.set]{fullShare} arg4.view.rep x.k)
    ∗ (arg5.view.loc (c : Thread nD τ) ↦[arg5.view.set]{fullShare} arg5.view.rep x.kt)
    ∗ (arg6.view.loc (c : Thread nD τ) ↦[arg6.view.set]{fullShare} arg6.view.rep x.v)
    ∗ (arg7.view.loc (c : Thread nD τ) ↦[arg7.view.set]{fullShare} arg7.view.rep x.o)
    ∗ (arg8.view.loc (c : Thread nD τ) ↦[arg8.view.set]{fullShare} arg8.view.rep x.d)
    ∗ (arg9.view.loc (c : Thread nD τ) ↦[arg9.view.set]{fullShare} arg9.view.rep x.l)
    ∗ (arg13.view.loc (c : Thread nD τ) ↦[arg13.view.set]{fullShare} arg13.view.rep s.dq)
    ∗ (arg14.view.loc (c : Thread nD τ) ↦[arg14.view.set]{fullShare} arg14.view.rep s.dk)
    ∗ (arg15.view.loc (c : Thread nD τ) ↦[arg15.view.set]{fullShare} arg15.view.rep s.dv))

/-- A buffer whose contents read as `X` is held at the values `X`. -/
theorem rep_of_read {sp : Space} {sh : Shape} {e : EltTy} (m : Memref sig .tc sp sh e) (X : sh.Idx → Elt F e) :
    (iprop(∃ f, ⌜m.view.read (Elt F) f = X⌝ ∗ (m.view.loc (c : Thread nD τ) ↦[m.view.set]{fullShare} f)) : sProp 𝕄)
      ⊢ m.view.loc (c : Thread nD τ) ↦[m.view.set]{fullShare} m.view.rep X := by
  iintro ⟨%f, %h, H⟩
  iapply (pointsTo_rep_of_read (c : Thread nD τ) m f fullShare X h)
  iexact H

/-- One trip of the first key tile's loop. -/
theorem trip_pad (E : Set ℕ) (v16 : FVec F S768x256 .bf16) (v74 : FVec F S768x768 .bf16) (h : k0_cond2 i = 1#1) (x : Ins F) (s : St F) (k : Fin k0_t1_loop.trips) :
    Trip c arg3 arg4 arg5 arg6 arg7 arg8 arg9 arg13 arg14 arg15 x s
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 (tileWord i) k0_pay26 v16 v74 h k PUnit.unit)
          (fun _ => Trip c arg3 arg4 arg5 arg6 arg7 arg8 arg9 arg13 arg14 arg15 x (stepPad i h x k s)) := by
  have hk : k.val < 2 := Nat.lt_of_lt_of_le k.isLt k0_t1_abs.2.1
  unfold k0_t1_body
  iintro ⟨H3, H4, H5, H6, H7, H8, H9, H13, H14, H15⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]
  · iapply rep_of_read
    iexists _; isplitr
    swap; · iexact H13
    ipureintro
    rw [View.read_writes_rep_unit _ _ _ _ rfl]
    unfold stepPad
    delta trip_pad.sl.r_4 trip_pad.sl.r_3 trip_pad.sl.r_2 trip_pad.sl.r_1 trip_pad.sl.r
    dsimp only
    rw [View.readAt_rep_unit arg3.view x.q (k0_off5_inb i k h) rfl (k0_off5_inb i k h), View.readAt_rep_unit arg8.view x.d (k0_off6_inb i k h) rfl (k0_off6_inb i k h), View.readAt_rep_unit arg7.view x.o (k0_off6_inb i k h) rfl (k0_off6_inb i k h), View.readAt_rep_unit arg9.view x.l (k0_off7_inb i k h) rfl (k0_off7_inb i k h), View.readAt_rep_full arg4.view x.k, View.readAt_rep_full arg6.view x.v, View.readAt_rep_full arg5.view x.kt, View.readAt_rep_unit arg13.view s.dq (k0_off8_inb i k h) rfl (k0_off8_inb i k h)]
  isplitl [H14]
  · iapply rep_of_read
    iexists _; isplitr
    swap; · iexact H14
    ipureintro
    rw [View.read_writes_full]
    unfold stepPad
    delta trip_pad.sl.r_4 trip_pad.sl.r_3 trip_pad.sl.r_2 trip_pad.sl.r_1 trip_pad.sl.r
    dsimp only
    rw [View.readAt_rep_unit arg3.view x.q (k0_off5_inb i k h) rfl (k0_off5_inb i k h), View.readAt_rep_unit arg8.view x.d (k0_off6_inb i k h) rfl (k0_off6_inb i k h), View.readAt_rep_unit arg7.view x.o (k0_off6_inb i k h) rfl (k0_off6_inb i k h), View.readAt_rep_unit arg9.view x.l (k0_off7_inb i k h) rfl (k0_off7_inb i k h), View.readAt_rep_full arg4.view x.k, View.readAt_rep_full arg6.view x.v, View.readAt_rep_full arg14.view s.dk]
  · iapply rep_of_read
    iexists _; isplitr
    swap; · iexact H15
    ipureintro
    rw [View.read_writes_full]
    unfold stepPad
    delta trip_pad.sl.r_4 trip_pad.sl.r_3 trip_pad.sl.r_2 trip_pad.sl.r_1 trip_pad.sl.r
    dsimp only
    rw [View.readAt_rep_unit arg3.view x.q (k0_off5_inb i k h) rfl (k0_off5_inb i k h), View.readAt_rep_unit arg8.view x.d (k0_off6_inb i k h) rfl (k0_off6_inb i k h), View.readAt_rep_unit arg9.view x.l (k0_off7_inb i k h) rfl (k0_off7_inb i k h), View.readAt_rep_full arg4.view x.k, View.readAt_rep_full arg15.view s.dv]

/-- One trip of a later key tile's loop. -/
theorem trip_full (E : Set ℕ) (v16 : FVec F S768x256 .bf16) (v74 : FVec F S768x768 .bf16) (h : k0_cond3 i = 1#1) (v111 : BitVec 32) (x : Ins F) (s : St F) (k : Fin (k0_t2_loop i).trips) :
    Trip c arg3 arg4 arg5 arg6 arg7 arg8 arg9 arg13 arg14 arg15 x s
      ⊢ wp frame (wpE (defs₀ (F := F)) Variants.none (c : Thread nD τ) none) E
          (k0_t2_body (F := F) i arg3 harg3 arg4 harg4 arg5 harg5 arg6 harg6 arg7 harg7 arg8 harg8 arg9 harg9 arg10 harg10 arg11 harg11 arg12 harg12 arg13 harg13 arg14 harg14 arg15 harg15 (tileWord i) k0_pay26 v16 v74 h v111 k PUnit.unit)
          (fun _ => Trip c arg3 arg4 arg5 arg6 arg7 arg8 arg9 arg13 arg14 arg15 x (stepFull i h x k s)) := by
  have hk : k.val < 2 := Nat.lt_of_lt_of_le k.isLt (k0_t2_abs i).2.1
  unfold k0_t2_body
  iintro ⟨H3, H4, H5, H6, H7, H8, H9, H13, H14, H15⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]
  · iapply rep_of_read
    iexists _; isplitr
    swap; · iexact H13
    ipureintro
    rw [View.read_writes_rep_unit _ _ _ _ rfl]
    unfold stepFull
    delta trip_full.sl.r_4 trip_full.sl.r_3 trip_full.sl.r_2 trip_full.sl.r_1 trip_full.sl.r
    dsimp only
    rw [View.readAt_rep_unit arg3.view x.q (k0_off9_inb i k h) rfl (k0_off9_inb i k h), View.readAt_rep_unit arg8.view x.d (k0_off10_inb i k h) rfl (k0_off10_inb i k h), View.readAt_rep_unit arg7.view x.o (k0_off10_inb i k h) rfl (k0_off10_inb i k h), View.readAt_rep_unit arg9.view x.l (k0_off11_inb i k h) rfl (k0_off11_inb i k h), View.readAt_rep_full arg4.view x.k, View.readAt_rep_full arg6.view x.v, View.readAt_rep_full arg5.view x.kt, View.readAt_rep_unit arg13.view s.dq (k0_off12_inb i k h) rfl (k0_off12_inb i k h)]
  isplitl [H14]
  · iapply rep_of_read
    iexists _; isplitr
    swap; · iexact H14
    ipureintro
    rw [View.read_writes_full]
    unfold stepFull
    delta trip_full.sl.r_4 trip_full.sl.r_3 trip_full.sl.r_2 trip_full.sl.r_1 trip_full.sl.r
    dsimp only
    rw [View.readAt_rep_unit arg3.view x.q (k0_off9_inb i k h) rfl (k0_off9_inb i k h), View.readAt_rep_unit arg8.view x.d (k0_off10_inb i k h) rfl (k0_off10_inb i k h), View.readAt_rep_unit arg7.view x.o (k0_off10_inb i k h) rfl (k0_off10_inb i k h), View.readAt_rep_unit arg9.view x.l (k0_off11_inb i k h) rfl (k0_off11_inb i k h), View.readAt_rep_full arg4.view x.k, View.readAt_rep_full arg6.view x.v, View.readAt_rep_full arg14.view s.dk]
  · iapply rep_of_read
    iexists _; isplitr
    swap; · iexact H15
    ipureintro
    rw [View.read_writes_full]
    unfold stepFull
    delta trip_full.sl.r_4 trip_full.sl.r_3 trip_full.sl.r_2 trip_full.sl.r_1 trip_full.sl.r
    dsimp only
    rw [View.readAt_rep_unit arg3.view x.q (k0_off9_inb i k h) rfl (k0_off9_inb i k h), View.readAt_rep_unit arg8.view x.d (k0_off10_inb i k h) rfl (k0_off10_inb i k h), View.readAt_rep_unit arg9.view x.l (k0_off11_inb i k h) rfl (k0_off11_inb i k h), View.readAt_rep_full arg4.view x.k, View.readAt_rep_full arg15.view s.dv]

/-- The first key tile's loop: before trip `k` the accumulators hold the first `k` steps. -/
@[sl_loop] def loopInv_pad (E : Set ℕ) (v16 : FVec F S768x256 .bf16) (v74 : FVec F S768x768 .bf16) (h : k0_cond2 i = 1#1)
    (x3 : Vec F S2304x256 .bf16) (x4 : Vec F S768x256 .bf16) (x5 : Vec F S1x1x1x256x768 .bf16) (x6 : Vec F S768x128 .bf16) (x7 : Vec F S2304x128 .bf16)
    (x8 : Vec F S2304x128 .bf16) (x9 : Vec F S1x1x3x1x768 .f32) (s13 : Vec F S1x3x256x768 .f32) (s14 : Vec F S1x768x256 .f32) (s15 : Vec F S1x768x128 .f32) :
    LoopInv (M := 𝕄) Idealize.ShloMosaic.frame (wpE (defs₀ (F := F)) Variants.none (c : Thread nD τ) none) E
      k0_t1_loop.lb k0_t1_loop.ub k0_t1_loop.st (k0_t1_ok i h) () (k0_t1_body (F := F) i arg3 harg3 arg4 harg4 arg5 harg5 arg6 harg6 arg7 harg7 arg8 harg8 arg9 harg9 arg10 harg10 arg11 harg11 arg12 harg12 arg13 harg13 arg14 harg14 arg15 harg15 (tileWord i) k0_pay26 v16 v74 h ) where
  inv k _ := Trip c arg3 arg4 arg5 arg6 arg7 arg8 arg9 arg13 arg14 arg15 ⟨x3, x4, x5, x6, x7, x8, x9⟩ (padTrips i h ⟨x3, x4, x5, x6, x7, x8, x9⟩ ⟨s13, s14, s15⟩ k)
  step k _ := by
    rw [padTrips_succ]
    exact trip_pad c i arg3 harg3 arg4 harg4 arg5 harg5 arg6 harg6 arg7 harg7 arg8 harg8 arg9 harg9 arg10 harg10 arg11 harg11 arg12 harg12 arg13 harg13 arg14 harg14 arg15 harg15 E v16 v74 h _ _ k

/-- A later key tile's loop: before trip `k` the accumulators hold the first `k` steps. -/
@[sl_loop] def loopInv_full (E : Set ℕ) (v16 : FVec F S768x256 .bf16) (v74 : FVec F S768x768 .bf16) (h : k0_cond3 i = 1#1) (v111 : BitVec 32)
    (x3 : Vec F S2304x256 .bf16) (x4 : Vec F S768x256 .bf16) (x5 : Vec F S1x1x1x256x768 .bf16) (x6 : Vec F S768x128 .bf16) (x7 : Vec F S2304x128 .bf16)
    (x8 : Vec F S2304x128 .bf16) (x9 : Vec F S1x1x3x1x768 .f32) (s13 : Vec F S1x3x256x768 .f32) (s14 : Vec F S1x768x256 .f32) (s15 : Vec F S1x768x128 .f32) :
    LoopInv (M := 𝕄) Idealize.ShloMosaic.frame (wpE (defs₀ (F := F)) Variants.none (c : Thread nD τ) none) E
      (k0_t2_loop i).lb (k0_t2_loop i).ub (k0_t2_loop i).st (k0_t2_ok i h) () (k0_t2_body (F := F) i arg3 harg3 arg4 harg4 arg5 harg5 arg6 harg6 arg7 harg7 arg8 harg8 arg9 harg9 arg10 harg10 arg11 harg11 arg12 harg12 arg13 harg13 arg14 harg14 arg15 harg15 (tileWord i) k0_pay26 v16 v74 h v111) where
  inv k _ := Trip c arg3 arg4 arg5 arg6 arg7 arg8 arg9 arg13 arg14 arg15 ⟨x3, x4, x5, x6, x7, x8, x9⟩ (fullTrips i h ⟨x3, x4, x5, x6, x7, x8, x9⟩ ⟨s13, s14, s15⟩ k)
  step k _ := by
    rw [fullTrips_succ]
    exact trip_full c i arg3 harg3 arg4 harg4 arg5 harg5 arg6 harg6 arg7 harg7 arg8 harg8 arg9 harg9 arg10 harg10 arg11 harg11 arg12 harg12 arg13 harg13 arg14 harg14 arg15 harg15 E v16 v74 h v111 _ _ k

end Cert.Proof.AttnBwd

end
-- ==== Proof.AttnBwd.Body.lean ====
/-
  The body of the attention gradient, case by case over the key tile's number: it takes the input windows at any
  values and the accumulators to `diag`, then the loop's steps (`Step.lean`), and stores the gradients of `k` and
  `v` at every grid point and that of `q` at the last key tile.
-/
module

public import proofs.«01_k».proof.Proof.AttnBwd.Trips
public import Idealize.ShloMosaic.Lib.Tactic
public import Idealize.ShloMosaic.Lib.Exec
public import Idealize.ShloMosaic.Lib.Pipeline.Kit

@[expose] public section

set_option maxRecDepth 8192
set_option warn.classDefReducibility false

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulators at the end of a grid point of the first key tile. -/
def accFirst (i : grid0.Coords) (h : k0_cond2 i = 1#1) (x : Ins F) : St F :=
  padTrips i h x (stepDiag i x (start k0_pay23)) k0_t1_loop.trips

/-- The accumulators at the end of a grid point of a later key tile, from the gradient of `q` carried there. -/
def accLater (i : grid0.Coords) (h : k0_cond3 i = 1#1) (x : Ins F) (dq : Vec F S1x3x256x768 .f32) : St F :=
  fullTrips i h x (stepDiag i x (start dq)) (k0_t2_loop i).trips

/-- The gradient of `q` the last key tile stores: each slab transposed, one under the other. -/
def dqOut (dq : Vec F S1x3x256x768 .f32) : Vec F S2304x256 .bf16 :=
  View.canon [⟨Rect.unit (s := S2304x256) ![1536, 0] S768x256.size inb_S2304x256_S768x256_1536_0,
      k0_pay4 (VecWindow.window dq ![0, 2, 0, 0] S1x1x256x768.size inb_S1x3x256x768_S1x1x256x768_0_2_0_0)⟩,
    ⟨Rect.unit (s := S2304x256) ![768, 0] S768x256.size inb_S2304x256_S768x256_768_0,
      k0_pay3 (VecWindow.window dq ![0, 1, 0, 0] S1x1x256x768.size inb_S1x3x256x768_S1x1x256x768_0_1_0_0)⟩,
    ⟨Rect.unit (s := S2304x256) ![0, 0] S768x256.size inb_S2304x256_S768x256_0_0,
      k0_pay2 (VecWindow.window dq ![0, 0, 0, 0] S1x1x256x768.size inb_S1x3x256x768_S1x1x256x768_0_0_0_0)⟩]

/-- The three stores cover the window. -/
theorem dq_cover (p0 p1 p2 : Vec F S768x256 .bf16) (y : S2304x256.Idx) :
    ∃ pc ∈ ([⟨Rect.unit (s := S2304x256) ![1536, 0] S768x256.size inb_S2304x256_S768x256_1536_0, p2⟩,
      ⟨Rect.unit (s := S2304x256) ![768, 0] S768x256.size inb_S2304x256_S768x256_768_0, p1⟩,
      ⟨Rect.unit (s := S2304x256) ![0, 0] S768x256.size inb_S2304x256_S768x256_0_0, p0⟩] : List (View.Piece (Elt F) S2304x256 .bf16)), y ∈ pc.1.set :=
  View.cover_of_tiled [⟨Rect.unit (s := S2304x256) ![1536, 0] S768x256.size inb_S2304x256_S768x256_1536_0, p2⟩,
      ⟨Rect.unit (s := S2304x256) ![768, 0] S768x256.size inb_S2304x256_S768x256_768_0, p1⟩,
      ⟨Rect.unit (s := S2304x256) ![0, 0] S768x256.size inb_S2304x256_S768x256_0_0, p0⟩] S768x256.size (by rfl) y

variable (c : Dev nD) (i : grid0.Coords)
  (arg3 : Memref sig .tc .vmem S2304x256 .bf16) (harg3 : arg3.IsWhole) (arg4 : Memref sig .tc .vmem S768x256 .bf16) (harg4 : arg4.IsWhole)
  (arg5 : Memref sig .tc .vmem S1x1x1x256x768 .bf16) (harg5 : arg5.IsWhole) (arg6 : Memref sig .tc .vmem S768x128 .bf16) (harg6 : arg6.IsWhole)
  (arg7 : Memref sig .tc .vmem S2304x128 .bf16) (harg7 : arg7.IsWhole) (arg8 : Memref sig .tc .vmem S2304x128 .bf16) (harg8 : arg8.IsWhole)
  (arg9 : Memref sig .tc .vmem S1x1x3x1x768 .f32) (harg9 : arg9.IsWhole) (arg10 : Memref sig .tc .vmem S2304x256 .bf16) (harg10 : arg10.IsWhole)
  (arg11 : Memref sig .tc .vmem S768x256 .bf16) (harg11 : arg11.IsWhole) (arg12 : Memref sig .tc .vmem S768x128 .bf16) (harg12 : arg12.IsWhole)
  (arg13 : Memref sig .tc .vmem S1x3x256x768 .f32) (harg13 : arg13.IsWhole) (arg14 : Memref sig .tc .vmem S1x768x256 .f32) (harg14 : arg14.IsWhole)
  (arg15 : Memref sig .tc .vmem S1x768x128 .f32) (harg15 : arg15.IsWhole)

/-- The remainder loop of a later key tile makes no trip. -/
@[sl_loop] def loopInv_none (E : Set ℕ) (v16 : FVec F S768x256 .bf16) (v74 : FVec F S768x768 .bf16) (h : k0_cond3 i = 1#1) (v116 : BitVec 32)
    (G : BufTy.Contents (Elt F) arg13.view.ty) :
    LoopInv (M := 𝕄) Idealize.ShloMosaic.frame (wpE (defs₀ (F := F)) Variants.none (c : Thread nD τ) none) E
      (k0_t3_loop i).lb (k0_t3_loop i).ub (k0_t3_loop i).st (k0_t3_ok i h) () (k0_t3_body (F := F) i arg3 harg3 arg4 harg4 arg5 harg5 arg6 harg6 arg7 harg7 arg8 harg8 arg9 harg9 arg10 harg10 arg11 harg11 arg12 harg12 arg13 harg13 arg14 harg14 arg15 harg15 (tileWord i) k0_pay26 v16 v74 h v116) where
  inv _ _ := iprop(arg13.view.loc (c : Thread nD τ) ↦[arg13.view.set]{fullShare} G)
  step k _ := absurd k.isLt (Nat.not_lt.2 (Nat.le_trans (k0_t3_abs i).2.1 (Nat.zero_le _)))

/-- The zeros just stored over the accumulator of `k` are what a load of all of it reads. -/
theorem read_zero_dk : (arg14.view.readCov [⟨Rect.unit (s := S1x768x256) ![0, 0, 0] S1x768x256.size inb_S1x768x256_S1x768x256_0_0_0, k0_pay24⟩]
    (Rect.unit (s := S1x768x256) ![0, 0, 0] S1x768x256.size inb_S1x768x256_S1x768x256_0_0_0).toLoadRect : Vec F S1x768x256 .f32) = k0_pay24 :=
  View.readCov_full (Val := Elt F) arg14.view inb_S1x768x256_S1x768x256_0_0_0 inb_S1x768x256_S1x768x256_0_0_0 (k0_pay24 (F := F)) []

/-- The zeros just stored over the accumulator of `v` are what a load of all of it reads. -/
theorem read_zero_dv : (arg15.view.readCov [⟨Rect.unit (s := S1x768x128) ![0, 0, 0] S1x768x128.size inb_S1x768x128_S1x768x128_0_0_0, k0_pay25⟩]
    (Rect.unit (s := S1x768x128) ![0, 0, 0] S1x768x128.size inb_S1x768x128_S1x768x128_0_0_0).toLoadRect : Vec F S1x768x128 .f32) = k0_pay25 :=
  View.readCov_full (Val := Elt F) arg15.view inb_S1x768x128_S1x768x128_0_0_0 inb_S1x768x128_S1x768x128_0_0_0 (k0_pay25 (F := F)) []

/-- What the body holds: the input windows at their values, the output windows and the accumulators at contents. -/
abbrev Held (x : Ins F) (o10 : sProp 𝕄) (o11 : Vec F S768x256 .bf16) (o12 : Vec F S768x128 .bf16) (s : St F) : sProp 𝕄 :=
  iprop((arg3.view.loc (c : Thread nD τ) ↦[arg3.view.set]{fullShare} arg3.view.rep x.q)
    ∗ (arg4.view.loc (c : Thread nD τ) ↦[arg4.view.set]{fullShare} arg4.view.rep x.k)
    ∗ (arg5.view.loc (c : Thread nD τ) ↦[arg5.view.set]{fullShare} arg5.view.rep x.kt)
    ∗ (arg6.view.loc (c : Thread nD τ) ↦[arg6.view.set]{fullShare} arg6.view.rep x.v)
    ∗ (arg7.view.loc (c : Thread nD τ) ↦[arg7.view.set]{fullShare} arg7.view.rep x.o)
    ∗ (arg8.view.loc (c : Thread nD τ) ↦[arg8.view.set]{fullShare} arg8.view.rep x.d)
    ∗ (arg9.view.loc (c : Thread nD τ) ↦[arg9.view.set]{fullShare} arg9.view.rep x.l)
    ∗ o10
    ∗ (arg11.view.loc (c : Thread nD τ) ↦[arg11.view.set]{fullShare} arg11.view.rep o11)
    ∗ (arg12.view.loc (c : Thread nD τ) ↦[arg12.view.set]{fullShare} arg12.view.rep o12)
    ∗ (arg13.view.loc (c : Thread nD τ) ↦[arg13.view.set]{fullShare} arg13.view.rep s.dq)
    ∗ (arg14.view.loc (c : Thread nD τ) ↦[arg14.view.set]{fullShare} arg14.view.rep s.dk)
    ∗ (arg15.view.loc (c : Thread nD τ) ↦[arg15.view.set]{fullShare} arg15.view.rep s.dv))

/-- A grid point of the first key tile. -/
theorem body_first (E : Set ℕ) (h2 : k0_cond2 i = 1#1) (h3 : ¬k0_cond3 i = 1#1) (h4 : ¬k0_cond4 i = 1#1) (x : Ins F) (f13 : BufTy.Contents (Elt F) arg13.view.ty)
    (f10 : BufTy.Contents (Elt F) arg10.view.ty) (f11 : BufTy.Contents (Elt F) arg11.view.ty) (f12 : BufTy.Contents (Elt F) arg12.view.ty)
    (f14 : BufTy.Contents (Elt F) arg14.view.ty) (f15 : BufTy.Contents (Elt F) arg15.view.ty) :
    iprop((arg3.view.loc (c : Thread nD τ) ↦[arg3.view.set]{fullShare} arg3.view.rep x.q)
      ∗ (arg4.view.loc (c : Thread nD τ) ↦[arg4.view.set]{fullShare} arg4.view.rep x.k)
      ∗ (arg5.view.loc (c : Thread nD τ) ↦[arg5.view.set]{fullShare} arg5.view.rep x.kt)
      ∗ (arg6.view.loc (c : Thread nD τ) ↦[arg6.view.set]{fullShare} arg6.view.rep x.v)
      ∗ (arg7.view.loc (c : Thread nD τ) ↦[arg7.view.set]{fullShare} arg7.view.rep x.o)
      ∗ (arg8.view.loc (c : Thread nD τ) ↦[arg8.view.set]{fullShare} arg8.view.rep x.d)
      ∗ (arg9.view.loc (c : Thread nD τ) ↦[arg9.view.set]{fullShare} arg9.view.rep x.l)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15)
          (fun _ => Held c arg3 arg4 arg5 arg6 arg7 arg8 arg9 arg11 arg12 arg13 arg14 arg15 x (iprop(arg10.view.loc (c : Thread nD τ) ↦[arg10.view.set]{fullShare} f10))
            (k0_pay43 (accFirst i h2 x).dk) (k0_pay1 (accFirst i h2 x).dv) (accFirst i h2 x)) := by
  simp only [cc0_attn_bwd_eq_skeleton]; unfold cc0_attn_bwd_skel
  unfold accFirst
  obtain ⟨S, hS⟩ : ∃ S, stepDiag i x (start k0_pay23) = S := ⟨_, rfl⟩
  rw [hS]
  iintro ⟨H3, H4, H5, H6, H7, H8, H9, H10, H11, H12, H13, H14, H15⟩
  sl_exec (disch := first | exact h2 | exact h3 | exact h4)
  ihave H13 := (rep_of_read c arg13 S.dq) $$ [H13]
  · iexists _; isplitr
    swap; · iexact H13
    ipureintro
    rw [← hS]
    unfold stepDiag start
    delta body_first.sl.r_4 body_first.sl.r_3 body_first.sl.r_2 body_first.sl.r_1 body_first.sl.r body_first.sl.H13_1
    dsimp only
    rw [View.read_writes_cons_put _ _ _ _ _ rfl, View.read_writes_full, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v, View.readAt_rep_full arg5.view x.kt, View.readAt_unit arg13.view _ (k0_off4_inb i) rfl (k0_off4_inb i), View.read_writes_full]
  ihave H14 := (rep_of_read c arg14 S.dk) $$ [H14]
  · iexists _; isplitr
    swap; · iexact H14
    ipureintro
    rw [← hS]
    unfold stepDiag start
    delta body_first.sl.H14_2 body_first.sl.v75 body_first.sl.r_4 body_first.sl.r_3 body_first.sl.r_2 body_first.sl.r_1 body_first.sl.r body_first.sl.H14_1
    dsimp only
    rw [View.read_writes_full, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v]
    exact congrArg _ (read_zero_dk arg14)
  ihave H15 := (rep_of_read c arg15 S.dv) $$ [H15]
  · iexists _; isplitr
    swap; · iexact H15
    ipureintro
    rw [← hS]
    unfold stepDiag start
    delta body_first.sl.H15_2 body_first.sl.v60 body_first.sl.r_4 body_first.sl.r_3 body_first.sl.r_2 body_first.sl.r_1 body_first.sl.r body_first.sl.H15_1
    dsimp only
    rw [View.read_writes_full, View.readAt_rep_unit arg3.view x.q (k0_off1_inb i) rfl (k0_off1_inb i), View.readAt_rep_unit arg8.view x.d (k0_off2_inb i) rfl (k0_off2_inb i), View.readAt_rep_unit arg9.view x.l (k0_off3_inb i) rfl (k0_off3_inb i), View.readAt_rep_full arg4.view x.k]
    exact congrArg _ (read_zero_dv arg15)
  sl_exec (disch := first | exact h2 | exact h3 | exact h4)
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply rep_of_read
    iexists _; isplitr
    swap; · iexact H11
    ipureintro
    rw [View.read_writes_full]
    delta body_first.sl.r_5 body_first.sl.v100
    rw [View.readAt_rep_full arg14.view (padTrips i h2 x S k0_t1_loop.trips).dk]
  isplitl [H12]
  · iapply rep_of_read
    iexists _; isplitr
    swap; · iexact H12
    ipureintro
    rw [View.read_writes_full]
    delta body_first.sl.v104
    rw [View.readAt_rep_full arg15.view (padTrips i h2 x S k0_t1_loop.trips).dv]
  isplitl [H13]; · iexact H13
  isplitl [H14]; · iexact H14
  iexact H15

/-- A grid point of a key tile neither first nor last. -/
theorem body_mid (E : Set ℕ) (h2 : ¬k0_cond2 i = 1#1) (h3 : k0_cond3 i = 1#1) (h4 : ¬k0_cond4 i = 1#1) (x : Ins F) (dq : Vec F S1x3x256x768 .f32)
    (f10 : BufTy.Contents (Elt F) arg10.view.ty) (f11 : BufTy.Contents (Elt F) arg11.view.ty) (f12 : BufTy.Contents (Elt F) arg12.view.ty)
    (f14 : BufTy.Contents (Elt F) arg14.view.ty) (f15 : BufTy.Contents (Elt F) arg15.view.ty) :
    iprop((arg3.view.loc (c : Thread nD τ) ↦[arg3.view.set]{fullShare} arg3.view.rep x.q)
      ∗ (arg4.view.loc (c : Thread nD τ) ↦[arg4.view.set]{fullShare} arg4.view.rep x.k)
      ∗ (arg5.view.loc (c : Thread nD τ) ↦[arg5.view.set]{fullShare} arg5.view.rep x.kt)
      ∗ (arg6.view.loc (c : Thread nD τ) ↦[arg6.view.set]{fullShare} arg6.view.rep x.v)
      ∗ (arg7.view.loc (c : Thread nD τ) ↦[arg7.view.set]{fullShare} arg7.view.rep x.o)
      ∗ (arg8.view.loc (c : Thread nD τ) ↦[arg8.view.set]{fullShare} arg8.view.rep x.d)
      ∗ (arg9.view.loc (c : Thread nD τ) ↦[arg9.view.set]{fullShare} arg9.view.rep x.l)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} (arg13.view.rep dq))
      ∗ (arg14.view.loc (c : Thread nD τ) ↦[arg14.view.set]{fullShare} f14)
      ∗ (arg15.view.loc (c : Thread nD τ) ↦[arg15.view.set]{fullShare} f15))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15)
          (fun _ => Held c arg3 arg4 arg5 arg6 arg7 arg8 arg9 arg11 arg12 arg13 arg14 arg15 x (iprop(arg10.view.loc (c : Thread nD τ) ↦[arg10.view.set]{fullShare} f10))
            (k0_pay43 (accLater i h3 x dq).dk) (k0_pay1 (accLater i h3 x dq).dv) (accLater i h3 x dq)) := by
  simp only [cc0_attn_bwd_eq_skeleton]; unfold cc0_attn_bwd_skel
  unfold accLater
  obtain ⟨S, hS⟩ : ∃ S, stepDiag i x (start dq) = S := ⟨_, rfl⟩
  rw [hS]
  iintro ⟨H3, H4, H5, H6, H7, H8, H9, H10, H11, H12, H13, H14, H15⟩
  sl_exec (disch := first | exact h2 | exact h3 | exact h4)
  ihave H13 := (rep_of_read c arg13 S.dq) $$ [H13]
  · iexists _; isplitr
    swap; · iexact H13
    ipureintro
    rw [← hS]
    unfold stepDiag start
    delta body_mid.sl.r_4 body_mid.sl.r_3 body_mid.sl.r_2 body_mid.sl.r_1 body_mid.sl.r
    dsimp only
    rw [View.read_writes_rep_unit _ _ _ _ rfl, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v, View.readAt_rep_full arg5.view x.kt, View.readAt_rep_unit arg13.view dq (k0_off4_inb i) rfl (k0_off4_inb i)]
  ihave H14 := (rep_of_read c arg14 S.dk) $$ [H14]
  · iexists _; isplitr
    swap; · iexact H14
    ipureintro
    rw [← hS]
    unfold stepDiag start
    delta body_mid.sl.H14_2 body_mid.sl.v75 body_mid.sl.r_4 body_mid.sl.r_3 body_mid.sl.r_2 body_mid.sl.r_1 body_mid.sl.r body_mid.sl.H14_1
    dsimp only
    rw [View.read_writes_full, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v]
    exact congrArg _ (read_zero_dk arg14)
  ihave H15 := (rep_of_read c arg15 S.dv) $$ [H15]
  · iexists _; isplitr
    swap; · iexact H15
    ipureintro
    rw [← hS]
    unfold stepDiag start
    delta body_mid.sl.H15_2 body_mid.sl.v60 body_mid.sl.r_4 body_mid.sl.r_3 body_mid.sl.r_2 body_mid.sl.r_1 body_mid.sl.r body_mid.sl.H15_1
    dsimp only
    rw [View.read_writes_full, View.readAt_rep_unit arg3.view x.q (k0_off1_inb i) rfl (k0_off1_inb i), View.readAt_rep_unit arg8.view x.d (k0_off2_inb i) rfl (k0_off2_inb i), View.readAt_rep_unit arg9.view x.l (k0_off3_inb i) rfl (k0_off3_inb i), View.readAt_rep_full arg4.view x.k]
    exact congrArg _ (read_zero_dv arg15)
  sl_exec (disch := first | exact h2 | exact h3 | exact h4)
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply rep_of_read
    iexists _; isplitr
    swap; · iexact H11
    ipureintro
    rw [View.read_writes_full]
    delta body_mid.sl.r_5 body_mid.sl.v100
    rw [View.readAt_rep_full arg14.view (fullTrips i h3 x S (k0_t2_loop i).trips).dk]
  isplitl [H12]
  · iapply rep_of_read
    iexists _; isplitr
    swap; · iexact H12
    ipureintro
    rw [View.read_writes_full]
    delta body_mid.sl.v104
    rw [View.readAt_rep_full arg15.view (fullTrips i h3 x S (k0_t2_loop i).trips).dv]
  isplitl [H13]; · iexact H13
  isplitl [H14]; · iexact H14
  iexact H15

/-- A grid point of the last key tile. -/
theorem body_last (E : Set ℕ) (h2 : ¬k0_cond2 i = 1#1) (h3 : k0_cond3 i = 1#1) (h4 : k0_cond4 i = 1#1) (x : Ins F) (dq : Vec F S1x3x256x768 .f32)
    (f10 : BufTy.Contents (Elt F) arg10.view.ty) (f11 : BufTy.Contents (Elt F) arg11.view.ty) (f12 : BufTy.Contents (Elt F) arg12.view.ty)
    (f14 : BufTy.Contents (Elt F) arg14.view.ty) (f15 : BufTy.Contents (Elt F) arg15.view.ty) :
    iprop((arg3.view.loc (c : Thread nD τ) ↦[arg3.view.set]{fullShare} arg3.view.rep x.q)
      ∗ (arg4.view.loc (c : Thread nD τ) ↦[arg4.view.set]{fullShare} arg4.view.rep x.k)
      ∗ (arg5.view.loc (c : Thread nD τ) ↦[arg5.view.set]{fullShare} arg5.view.rep x.kt)
      ∗ (arg6.view.loc (c : Thread nD τ) ↦[arg6.view.set]{fullShare} arg6.view.rep x.v)
      ∗ (arg7.view.loc (c : Thread nD τ) ↦[arg7.view.set]{fullShare} arg7.view.rep x.o)
      ∗ (arg8.view.loc (c : Thread nD τ) ↦[arg8.view.set]{fullShare} arg8.view.rep x.d)
      ∗ (arg9.view.loc (c : Thread nD τ) ↦[arg9.view.set]{fullShare} arg9.view.rep x.l)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} (arg13.view.rep dq))
      ∗ (arg14.view.loc (c : Thread nD τ) ↦[arg14.view.set]{fullShare} f14)
      ∗ (arg15.view.loc (c : Thread nD τ) ↦[arg15.view.set]{fullShare} f15))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15)
          (fun _ => Held c arg3 arg4 arg5 arg6 arg7 arg8 arg9 arg11 arg12 arg13 arg14 arg15 x (iprop(arg10.view.loc (c : Thread nD τ) ↦[arg10.view.set]{fullShare} arg10.view.rep (dqOut (accLater i h3 x dq).dq)))
            (k0_pay43 (accLater i h3 x dq).dk) (k0_pay1 (accLater i h3 x dq).dv) (accLater i h3 x dq)) := by
  simp only [cc0_attn_bwd_eq_skeleton]; unfold cc0_attn_bwd_skel
  unfold accLater
  obtain ⟨S, hS⟩ : ∃ S, stepDiag i x (start dq) = S := ⟨_, rfl⟩
  rw [hS]
  iintro ⟨H3, H4, H5, H6, H7, H8, H9, H10, H11, H12, H13, H14, H15⟩
  sl_exec (disch := first | exact h2 | exact h3 | exact h4)
  ihave H13 := (rep_of_read c arg13 S.dq) $$ [H13]
  · iexists _; isplitr
    swap; · iexact H13
    ipureintro
    rw [← hS]
    unfold stepDiag start
    delta body_last.sl.r_4 body_last.sl.r_3 body_last.sl.r_2 body_last.sl.r_1 body_last.sl.r
    dsimp only
    rw [View.read_writes_rep_unit _ _ _ _ rfl, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v, View.readAt_rep_full arg5.view x.kt, View.readAt_rep_unit arg13.view dq (k0_off4_inb i) rfl (k0_off4_inb i)]
  ihave H14 := (rep_of_read c arg14 S.dk) $$ [H14]
  · iexists _; isplitr
    swap; · iexact H14
    ipureintro
    rw [← hS]
    unfold stepDiag start
    delta body_last.sl.H14_2 body_last.sl.v75 body_last.sl.r_4 body_last.sl.r_3 body_last.sl.r_2 body_last.sl.r_1 body_last.sl.r body_last.sl.H14_1
    dsimp only
    rw [View.read_writes_full, View.readAt_rep_unit arg3.view x.q (k0_off1_inb i) rfl (k0_off1_inb i), View.readAt_rep_unit arg8.view x.d (k0_off2_inb i) rfl (k0_off2_inb i), View.readAt_rep_unit arg7.view x.o (k0_off2_inb i) rfl (k0_off2_inb i), View.readAt_rep_unit arg9.view x.l (k0_off3_inb i) rfl (k0_off3_inb i), View.readAt_rep_full arg4.view x.k, View.readAt_rep_full arg6.view x.v]
    exact congrArg _ (read_zero_dk arg14)
  ihave H15 := (rep_of_read c arg15 S.dv) $$ [H15]
  · iexists _; isplitr
    swap; · iexact H15
    ipureintro
    rw [← hS]
    unfold stepDiag start
    delta body_last.sl.H15_2 body_last.sl.v60 body_last.sl.r_4 body_last.sl.r_3 body_last.sl.r_2 body_last.sl.r_1 body_last.sl.r body_last.sl.H15_1
    dsimp only
    rw [View.read_writes_full, View.readAt_rep_unit arg3.view x.q (k0_off1_inb i) rfl (k0_off1_inb i), View.readAt_rep_unit arg8.view x.d (k0_off2_inb i) rfl (k0_off2_inb i), View.readAt_rep_unit arg9.view x.l (k0_off3_inb i) rfl (k0_off3_inb i), View.readAt_rep_full arg4.view x.k]
    exact congrArg _ (read_zero_dv arg15)
  sl_exec (disch := first | exact h2 | exact h3 | exact h4)
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply rep_of_read
    iexists _; isplitr
    swap; · iexact H10
    ipureintro
    refine (View.read_writes_eq_canon _ _ _ (dq_cover _ _ _)).trans ?_
    unfold dqOut
    delta body_last.sl.v121 body_last.sl.v116_1 body_last.sl.v111_1
    rw [View.readAt_rep_unit arg13.view (fullTrips i h3 x S (k0_t2_loop i).trips).dq inb_S1x3x256x768_S1x1x256x768_0_2_0_0 rfl inb_S1x3x256x768_S1x1x256x768_0_2_0_0,
      View.readAt_rep_unit arg13.view (fullTrips i h3 x S (k0_t2_loop i).trips).dq inb_S1x3x256x768_S1x1x256x768_0_1_0_0 rfl inb_S1x3x256x768_S1x1x256x768_0_1_0_0,
      View.readAt_rep_unit arg13.view (fullTrips i h3 x S (k0_t2_loop i).trips).dq inb_S1x3x256x768_S1x1x256x768_0_0_0_0 rfl inb_S1x3x256x768_S1x1x256x768_0_0_0_0]
  isplitl [H11]
  · iapply rep_of_read
    iexists _; isplitr
    swap; · iexact H11
    ipureintro
    rw [View.read_writes_full]
    delta body_last.sl.r_5 body_last.sl.v100
    rw [View.readAt_rep_full arg14.view (fullTrips i h3 x S (k0_t2_loop i).trips).dk]
  isplitl [H12]
  · iapply rep_of_read
    iexists _; isplitr
    swap; · iexact H12
    ipureintro
    rw [View.read_writes_full]
    delta body_last.sl.v104
    rw [View.readAt_rep_full arg15.view (fullTrips i h3 x S (k0_t2_loop i).trips).dv]
  isplitl [H13]; · iexact H13
  isplitl [H14]; · iexact H14
  iexact H15

end Cert.Proof.AttnBwd

end
-- ==== Proof.AttnBwd.Point.lean ====
/-
  The body of the attention gradient at a grid point, on owned memrefs: what it finds in its windows and scratch and
  what it leaves there, in each of the three cases of the key tile's number.
-/
module

public import proofs.«01_k».proof.Proof.AttnBwd.Body
public import Idealize.ShloMosaic.Lib.Pipeline.TableIdle

@[expose] public section

set_option maxRecDepth 8192

noncomputable section

namespace Cert.Proof.AttnBwd

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg3 : Memref sig .tc .vmem S2304x256 .bf16) (harg3 : arg3.IsWhole) (arg4 : Memref sig .tc .vmem S768x256 .bf16) (harg4 : arg4.IsWhole)
  (arg5 : Memref sig .tc .vmem S1x1x1x256x768 .bf16) (harg5 : arg5.IsWhole) (arg6 : Memref sig .tc .vmem S768x128 .bf16) (harg6 : arg6.IsWhole)
  (arg7 : Memref sig .tc .vmem S2304x128 .bf16) (harg7 : arg7.IsWhole) (arg8 : Memref sig .tc .vmem S2304x128 .bf16) (harg8 : arg8.IsWhole)
  (arg9 : Memref sig .tc .vmem S1x1x3x1x768 .f32) (harg9 : arg9.IsWhole) (arg10 : Memref sig .tc .vmem S2304x256 .bf16) (harg10 : arg10.IsWhole)
  (arg11 : Memref sig .tc .vmem S768x256 .bf16) (harg11 : arg11.IsWhole) (arg12 : Memref sig .tc .vmem S768x128 .bf16) (harg12 : arg12.IsWhole)
  (arg13 : Memref sig .tc .vmem S1x3x256x768 .f32) (harg13 : arg13.IsWhole) (arg14 : Memref sig .tc .vmem S1x768x256 .f32) (harg14 : arg14.IsWhole)
  (arg15 : Memref sig .tc .vmem S1x768x128 .f32) (harg15 : arg15.IsWhole)

/-- A grid point of the first key tile: the gradient of `q` is zeroed, the window it goes to left alone. -/
theorem point_first (E : Set ℕ) (h2 : k0_cond2 i = 1#1) (h3 : ¬k0_cond3 i = 1#1) (h4 : ¬k0_cond4 i = 1#1) (x : Ins F) (D : Vec F S2304x256 .bf16) (K : PUnit → sProp 𝕄) :
    iprop(owns (c : Thread nD τ) arg3 fullShare x.q
      ∗ owns (c : Thread nD τ) arg4 fullShare x.k
      ∗ owns (c : Thread nD τ) arg5 fullShare x.kt
      ∗ owns (c : Thread nD τ) arg6 fullShare x.v
      ∗ owns (c : Thread nD τ) arg7 fullShare x.o
      ∗ owns (c : Thread nD τ) arg8 fullShare x.d
      ∗ owns (c : Thread nD τ) arg9 fullShare x.l
      ∗ owns (c : Thread nD τ) arg10 fullShare D
      ∗ (∃ d, owns (c : Thread nD τ) arg11 fullShare d) ∗ (∃ d, owns (c : Thread nD τ) arg12 fullShare d)
      ∗ (∃ d, owns (c : Thread nD τ) arg13 fullShare d)
      ∗ (∃ d, owns (c : Thread nD τ) arg14 fullShare d) ∗ (∃ d, owns (c : Thread nD τ) arg15 fullShare d)
      ∗ (iprop(owns (c : Thread nD τ) arg3 fullShare x.q
          ∗ owns (c : Thread nD τ) arg4 fullShare x.k
          ∗ owns (c : Thread nD τ) arg5 fullShare x.kt
          ∗ owns (c : Thread nD τ) arg6 fullShare x.v
          ∗ owns (c : Thread nD τ) arg7 fullShare x.o
          ∗ owns (c : Thread nD τ) arg8 fullShare x.d
          ∗ owns (c : Thread nD τ) arg9 fullShare x.l
          ∗ owns (c : Thread nD τ) arg10 fullShare D
          ∗ owns (c : Thread nD τ) arg11 fullShare (k0_pay43 (accFirst i h2 x).dk)
          ∗ owns (c : Thread nD τ) arg12 fullShare (k0_pay1 (accFirst i h2 x).dv)
          ∗ owns (c : Thread nD τ) arg13 fullShare (accFirst i h2 x).dq
          ∗ owns (c : Thread nD τ) arg14 fullShare (accFirst i h2 x).dk
          ∗ owns (c : Thread nD τ) arg15 fullShare (accFirst i h2 x).dv) -∗ K ⟨⟩))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15) K := by
  iintro ⟨H3, H4, H5, H6, H7, H8, H9, H10, ⟨%d11, H11⟩, ⟨%d12, H12⟩, ⟨%d13, H13⟩, ⟨%d14, H14⟩, ⟨%d15, H15⟩, Hk⟩
  ihave H3 := (rep_of_owns (c : Thread nD τ) arg3 fullShare _) $$ H3
  ihave H4 := (rep_of_owns (c : Thread nD τ) arg4 fullShare _) $$ H4
  ihave H5 := (rep_of_owns (c : Thread nD τ) arg5 fullShare _) $$ H5
  ihave H6 := (rep_of_owns (c : Thread nD τ) arg6 fullShare _) $$ H6
  ihave H7 := (rep_of_owns (c : Thread nD τ) arg7 fullShare _) $$ H7
  ihave H8 := (rep_of_owns (c : Thread nD τ) arg8 fullShare _) $$ H8
  ihave H9 := (rep_of_owns (c : Thread nD τ) arg9 fullShare _) $$ H9
  ihave H10 := (rep_of_owns (c : Thread nD τ) arg10 fullShare _) $$ H10
  ihave H11 := (rep_of_owns (c : Thread nD τ) arg11 fullShare _) $$ H11
  ihave H12 := (rep_of_owns (c : Thread nD τ) arg12 fullShare _) $$ H12
  ihave H13 := (rep_of_owns (c : Thread nD τ) arg13 fullShare _) $$ H13
  ihave H14 := (rep_of_owns (c : Thread nD τ) arg14 fullShare _) $$ H14
  ihave H15 := (rep_of_owns (c : Thread nD τ) arg15 fullShare _) $$ H15
  iapply wp_wand_r
  isplitr [Hk]
  · iapply (body_first c i arg3 harg3 arg4 harg4 arg5 harg5 arg6 harg6 arg7 harg7 arg8 harg8 arg9 harg9 arg10 harg10 arg11 harg11 arg12 harg12 arg13 harg13 arg14 harg14 arg15 harg15 E h2 h3 h4 x _ _ _ _ _ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %v ⟨H3, H4, H5, H6, H7, H8, H9, H10, H11, H12, H13, H14, H15⟩
  iapply Hk
  isplitl [H3]; · iapply (owns_of_rep (c : Thread nD τ) arg3 fullShare _); iexact H3
  isplitl [H4]; · iapply (owns_of_rep (c : Thread nD τ) arg4 fullShare _); iexact H4
  isplitl [H5]; · iapply (owns_of_rep (c : Thread nD τ) arg5 fullShare _); iexact H5
  isplitl [H6]; · iapply (owns_of_rep (c : Thread nD τ) arg6 fullShare _); iexact H6
  isplitl [H7]; · iapply (owns_of_rep (c : Thread nD τ) arg7 fullShare _); iexact H7
  isplitl [H8]; · iapply (owns_of_rep (c : Thread nD τ) arg8 fullShare _); iexact H8
  isplitl [H9]; · iapply (owns_of_rep (c : Thread nD τ) arg9 fullShare _); iexact H9
  isplitl [H10]; · iapply (owns_of_rep (c : Thread nD τ) arg10 fullShare _); iexact H10
  isplitl [H11]; · iapply (owns_of_rep (c : Thread nD τ) arg11 fullShare _); iexact H11
  isplitl [H12]; · iapply (owns_of_rep (c : Thread nD τ) arg12 fullShare _); iexact H12
  isplitl [H13]; · iapply (owns_of_rep (c : Thread nD τ) arg13 fullShare _); iexact H13
  isplitl [H14]; · iapply (owns_of_rep (c : Thread nD τ) arg14 fullShare _); iexact H14
  iapply (owns_of_rep (c : Thread nD τ) arg15 fullShare _); iexact H15

/-- A grid point of a key tile between: the gradient of `q` is carried, the window it goes to left alone. -/
theorem point_mid (E : Set ℕ) (h2 : ¬k0_cond2 i = 1#1) (h3 : k0_cond3 i = 1#1) (h4 : ¬k0_cond4 i = 1#1) (x : Ins F) (dq : Vec F S1x3x256x768 .f32) (D : Vec F S2304x256 .bf16) (K : PUnit → sProp 𝕄) :
    iprop(owns (c : Thread nD τ) arg3 fullShare x.q
      ∗ owns (c : Thread nD τ) arg4 fullShare x.k
      ∗ owns (c : Thread nD τ) arg5 fullShare x.kt
      ∗ owns (c : Thread nD τ) arg6 fullShare x.v
      ∗ owns (c : Thread nD τ) arg7 fullShare x.o
      ∗ owns (c : Thread nD τ) arg8 fullShare x.d
      ∗ owns (c : Thread nD τ) arg9 fullShare x.l
      ∗ owns (c : Thread nD τ) arg10 fullShare D
      ∗ (∃ d, owns (c : Thread nD τ) arg11 fullShare d) ∗ (∃ d, owns (c : Thread nD τ) arg12 fullShare d)
      ∗ owns (c : Thread nD τ) arg13 fullShare dq
      ∗ (∃ d, owns (c : Thread nD τ) arg14 fullShare d) ∗ (∃ d, owns (c : Thread nD τ) arg15 fullShare d)
      ∗ (iprop(owns (c : Thread nD τ) arg3 fullShare x.q
          ∗ owns (c : Thread nD τ) arg4 fullShare x.k
          ∗ owns (c : Thread nD τ) arg5 fullShare x.kt
          ∗ owns (c : Thread nD τ) arg6 fullShare x.v
          ∗ owns (c : Thread nD τ) arg7 fullShare x.o
          ∗ owns (c : Thread nD τ) arg8 fullShare x.d
          ∗ owns (c : Thread nD τ) arg9 fullShare x.l
          ∗ owns (c : Thread nD τ) arg10 fullShare D
          ∗ owns (c : Thread nD τ) arg11 fullShare (k0_pay43 (accLater i h3 x dq).dk)
          ∗ owns (c : Thread nD τ) arg12 fullShare (k0_pay1 (accLater i h3 x dq).dv)
          ∗ owns (c : Thread nD τ) arg13 fullShare (accLater i h3 x dq).dq
          ∗ owns (c : Thread nD τ) arg14 fullShare (accLater i h3 x dq).dk
          ∗ owns (c : Thread nD τ) arg15 fullShare (accLater i h3 x dq).dv) -∗ K ⟨⟩))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15) K := by
  iintro ⟨H3, H4, H5, H6, H7, H8, H9, H10, ⟨%d11, H11⟩, ⟨%d12, H12⟩, H13, ⟨%d14, H14⟩, ⟨%d15, H15⟩, Hk⟩
  ihave H3 := (rep_of_owns (c : Thread nD τ) arg3 fullShare _) $$ H3
  ihave H4 := (rep_of_owns (c : Thread nD τ) arg4 fullShare _) $$ H4
  ihave H5 := (rep_of_owns (c : Thread nD τ) arg5 fullShare _) $$ H5
  ihave H6 := (rep_of_owns (c : Thread nD τ) arg6 fullShare _) $$ H6
  ihave H7 := (rep_of_owns (c : Thread nD τ) arg7 fullShare _) $$ H7
  ihave H8 := (rep_of_owns (c : Thread nD τ) arg8 fullShare _) $$ H8
  ihave H9 := (rep_of_owns (c : Thread nD τ) arg9 fullShare _) $$ H9
  ihave H10 := (rep_of_owns (c : Thread nD τ) arg10 fullShare _) $$ H10
  ihave H11 := (rep_of_owns (c : Thread nD τ) arg11 fullShare _) $$ H11
  ihave H12 := (rep_of_owns (c : Thread nD τ) arg12 fullShare _) $$ H12
  ihave H13 := (rep_of_owns (c : Thread nD τ) arg13 fullShare _) $$ H13
  ihave H14 := (rep_of_owns (c : Thread nD τ) arg14 fullShare _) $$ H14
  ihave H15 := (rep_of_owns (c : Thread nD τ) arg15 fullShare _) $$ H15
  iapply wp_wand_r
  isplitr [Hk]
  · iapply (body_mid c i arg3 harg3 arg4 harg4 arg5 harg5 arg6 harg6 arg7 harg7 arg8 harg8 arg9 harg9 arg10 harg10 arg11 harg11 arg12 harg12 arg13 harg13 arg14 harg14 arg15 harg15 E h2 h3 h4 x dq _ _ _ _ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %v ⟨H3, H4, H5, H6, H7, H8, H9, H10, H11, H12, H13, H14, H15⟩
  iapply Hk
  isplitl [H3]; · iapply (owns_of_rep (c : Thread nD τ) arg3 fullShare _); iexact H3
  isplitl [H4]; · iapply (owns_of_rep (c : Thread nD τ) arg4 fullShare _); iexact H4
  isplitl [H5]; · iapply (owns_of_rep (c : Thread nD τ) arg5 fullShare _); iexact H5
  isplitl [H6]; · iapply (owns_of_rep (c : Thread nD τ) arg6 fullShare _); iexact H6
  isplitl [H7]; · iapply (owns_of_rep (c : Thread nD τ) arg7 fullShare _); iexact H7
  isplitl [H8]; · iapply (owns_of_rep (c : Thread nD τ) arg8 fullShare _); iexact H8
  isplitl [H9]; · iapply (owns_of_rep (c : Thread nD τ) arg9 fullShare _); iexact H9
  isplitl [H10]; · iapply (owns_of_rep (c : Thread nD τ) arg10 fullShare _); iexact H10
  isplitl [H11]; · iapply (owns_of_rep (c : Thread nD τ) arg11 fullShare _); iexact H11
  isplitl [H12]; · iapply (owns_of_rep (c : Thread nD τ) arg12 fullShare _); iexact H12
  isplitl [H13]; · iapply (owns_of_rep (c : Thread nD τ) arg13 fullShare _); iexact H13
  isplitl [H14]; · iapply (owns_of_rep (c : Thread nD τ) arg14 fullShare _); iexact H14
  iapply (owns_of_rep (c : Thread nD τ) arg15 fullShare _); iexact H15

/-- A grid point of the last key tile: the gradient of `q` is carried and stored. -/
theorem point_last (E : Set ℕ) (h2 : ¬k0_cond2 i = 1#1) (h3 : k0_cond3 i = 1#1) (h4 : k0_cond4 i = 1#1) (x : Ins F) (dq : Vec F S1x3x256x768 .f32) (D : Vec F S2304x256 .bf16) (K : PUnit → sProp 𝕄) :
    iprop(owns (c : Thread nD τ) arg3 fullShare x.q
      ∗ owns (c : Thread nD τ) arg4 fullShare x.k
      ∗ owns (c : Thread nD τ) arg5 fullShare x.kt
      ∗ owns (c : Thread nD τ) arg6 fullShare x.v
      ∗ owns (c : Thread nD τ) arg7 fullShare x.o
      ∗ owns (c : Thread nD τ) arg8 fullShare x.d
      ∗ owns (c : Thread nD τ) arg9 fullShare x.l
      ∗ owns (c : Thread nD τ) arg10 fullShare D
      ∗ (∃ d, owns (c : Thread nD τ) arg11 fullShare d) ∗ (∃ d, owns (c : Thread nD τ) arg12 fullShare d)
      ∗ owns (c : Thread nD τ) arg13 fullShare dq
      ∗ (∃ d, owns (c : Thread nD τ) arg14 fullShare d) ∗ (∃ d, owns (c : Thread nD τ) arg15 fullShare d)
      ∗ (iprop(owns (c : Thread nD τ) arg3 fullShare x.q
          ∗ owns (c : Thread nD τ) arg4 fullShare x.k
          ∗ owns (c : Thread nD τ) arg5 fullShare x.kt
          ∗ owns (c : Thread nD τ) arg6 fullShare x.v
          ∗ owns (c : Thread nD τ) arg7 fullShare x.o
          ∗ owns (c : Thread nD τ) arg8 fullShare x.d
          ∗ owns (c : Thread nD τ) arg9 fullShare x.l
          ∗ owns (c : Thread nD τ) arg10 fullShare (dqOut (accLater i h3 x dq).dq)
          ∗ owns (c : Thread nD τ) arg11 fullShare (k0_pay43 (accLater i h3 x dq).dk)
          ∗ owns (c : Thread nD τ) arg12 fullShare (k0_pay1 (accLater i h3 x dq).dv)
          ∗ owns (c : Thread nD τ) arg13 fullShare (accLater i h3 x dq).dq
          ∗ owns (c : Thread nD τ) arg14 fullShare (accLater i h3 x dq).dk
          ∗ owns (c : Thread nD τ) arg15 fullShare (accLater i h3 x dq).dv) -∗ K ⟨⟩))
      ⊢ wp frame (wpE (defs₀ (F := F)) Variants.none (c : Thread nD τ) none) E
          (cc0_attn_bwd (F := F) i arg3 harg3 arg4 harg4 arg5 harg5 arg6 harg6 arg7 harg7 arg8 harg8 arg9 harg9 arg10 harg10 arg11 harg11 arg12 harg12 arg13 harg13 arg14 harg14 arg15 harg15) K := by
  iintro ⟨H3, H4, H5, H6, H7, H8, H9, H10, ⟨%d11, H11⟩, ⟨%d12, H12⟩, H13, ⟨%d14, H14⟩, ⟨%d15, H15⟩, Hk⟩
  ihave H3 := (rep_of_owns (c : Thread nD τ) arg3 fullShare _) $$ H3
  ihave H4 := (rep_of_owns (c : Thread nD τ) arg4 fullShare _) $$ H4
  ihave H5 := (rep_of_owns (c : Thread nD τ) arg5 fullShare _) $$ H5
  ihave H6 := (rep_of_owns (c : Thread nD τ) arg6 fullShare _) $$ H6
  ihave H7 := (rep_of_owns (c : Thread nD τ) arg7 fullShare _) $$ H7
  ihave H8 := (rep_of_owns (c : Thread nD τ) arg8 fullShare _) $$ H8
  ihave H9 := (rep_of_owns (c : Thread nD τ) arg9 fullShare _) $$ H9
  ihave H10 := (rep_of_owns (c : Thread nD τ) arg10 fullShare _) $$ H10
  ihave H11 := (rep_of_owns (c : Thread nD τ) arg11 fullShare _) $$ H11
  ihave H12 := (rep_of_owns (c : Thread nD τ) arg12 fullShare _) $$ H12
  ihave H13 := (rep_of_owns (c : Thread nD τ) arg13 fullShare _) $$ H13
  ihave H14 := (rep_of_owns (c : Thread nD τ) arg14 fullShare _) $$ H14
  ihave H15 := (rep_of_owns (c : Thread nD τ) arg15 fullShare _) $$ H15
  iapply wp_wand_r
  isplitr [Hk]
  · iapply (body_last c i arg3 harg3 arg4 harg4 arg5 harg5 arg6 harg6 arg7 harg7 arg8 harg8 arg9 harg9 arg10 harg10 arg11 harg11 arg12 harg12 arg13 harg13 arg14 harg14 arg15 harg15 E h2 h3 h4 x dq _ _ _ _ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %v ⟨H3, H4, H5, H6, H7, H8, H9, H10, H11, H12, H13, H14, H15⟩
  iapply Hk
  isplitl [H3]; · iapply (owns_of_rep (c : Thread nD τ) arg3 fullShare _); iexact H3
  isplitl [H4]; · iapply (owns_of_rep (c : Thread nD τ) arg4 fullShare _); iexact H4
  isplitl [H5]; · iapply (owns_of_rep (c : Thread nD τ) arg5 fullShare _); iexact H5
  isplitl [H6]; · iapply (owns_of_rep (c : Thread nD τ) arg6 fullShare _); iexact H6
  isplitl [H7]; · iapply (owns_of_rep (c : Thread nD τ) arg7 fullShare _); iexact H7
  isplitl [H8]; · iapply (owns_of_rep (c : Thread nD τ) arg8 fullShare _); iexact H8
  isplitl [H9]; · iapply (owns_of_rep (c : Thread nD τ) arg9 fullShare _); iexact H9
  isplitl [H10]; · iapply (owns_of_rep (c : Thread nD τ) arg10 fullShare _); iexact H10
  isplitl [H11]; · iapply (owns_of_rep (c : Thread nD τ) arg11 fullShare _); iexact H11
  isplitl [H12]; · iapply (owns_of_rep (c : Thread nD τ) arg12 fullShare _); iexact H12
  isplitl [H13]; · iapply (owns_of_rep (c : Thread nD τ) arg13 fullShare _); iexact H13
  isplitl [H14]; · iapply (owns_of_rep (c : Thread nD τ) arg14 fullShare _); iexact H14
  iapply (owns_of_rep (c : Thread nD τ) arg15 fullShare _); iexact H15

end Cert.Proof.AttnBwd

end
-- ==== Proof.AttnBwd.Run.lean ====
/-
  The run of the attention gradient's call: the gradient of `q` carried from key tile to key tile in scratch, the three
  results stored window by window; every execution terminates, and the argument arrays end as they were.
-/
module

public import proofs.«01_k».proof.Proof.AttnBwd.Point
public import proofs.«01_k».proof.Proof.Gen.KernelIdeal.Frame
public import Idealize.ShloMosaic.Lib.Claim

@[expose] public section

set_option maxRecDepth 16384

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases of a grid point -/

/-- The gradient of `q` is zeroed at the first key tile, -/
theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)
/-- the unmasked loop runs at the later ones, -/
theorem cond3_iff : ∀ t : Fin cfg0.N, k0_cond3 (grid0.coords t) = 1#1 ↔ t.val % 3 ≠ 0 :=
  (by decide +kernel : ∀ t : Fin grid0.N, k0_cond3 (grid0.coords t) = 1#1 ↔ t.val % 3 ≠ 0)
/-- and the gradient of `q` is stored at the last. -/
theorem cond4_iff : ∀ t : Fin cfg0.N, k0_cond4 (grid0.coords t) = 1#1 ↔ t.val % 3 = 2 :=
  (by decide +kernel : ∀ t : Fin grid0.N, k0_cond4 (grid0.coords t) = 1#1 ↔ t.val % 3 = 2)

/-! ## What the scratch carries -/

/-- The input windows' blocks at a point. -/
def ins (c : Dev nD) (t : Fin cfg0.N) : Ins F where
  q := iblk m c 0 t
  k := iblk m c 1 t
  kt := iblk m c 2 t
  v := iblk m c 3 t
  o := iblk m c 4 t
  d := iblk m c 5 t
  l := iblk m c 6 t

/-- The accumulators at a point's end, from the gradient of `q` found there. -/
def accPt (i : grid0.Coords) (x : Ins F) (dq : Vec F S1x3x256x768 .f32) : St F :=
  if h2 : k0_cond2 i = 1#1 then accFirst i h2 x else if h3 : k0_cond3 i = 1#1 then accLater i h3 x dq else start dq

/-- The gradient of `q` in scratch when `n` points have run. -/
def dqBefore (c : Dev nD) : ℕ → Vec F S1x3x256x768 .f32
  | 0 => k0_pay23
  | n + 1 => if h : n < cfg0.N then (accPt (grid0.coords ⟨n, h⟩) (ins m c ⟨n, h⟩) (dqBefore c n)).dq else k0_pay23

/-- The accumulators at the end of point `t`. -/
def acc (c : Dev nD) (t : Fin cfg0.N) : St F := accPt (grid0.coords t) (ins m c t) (dqBefore m c t.val)

theorem dqBefore_succ (c : Dev nD) (t : Fin cfg0.N) : dqBefore m c (t.val + 1) = (acc m c t).dq := by
  unfold acc; rw [dqBefore, dif_pos t.isLt]

theorem acc_first (c : Dev nD) (t : Fin cfg0.N) (h2 : k0_cond2 (grid0.coords t) = 1#1) :
    acc m c t = accFirst (grid0.coords t) h2 (ins m c t) := by
  unfold acc accPt; rw [dif_pos h2]

theorem acc_later (c : Dev nD) (t : Fin cfg0.N) (h2 : ¬k0_cond2 (grid0.coords t) = 1#1) (h3 : k0_cond3 (grid0.coords t) = 1#1) :
    acc m c t = accLater (grid0.coords t) h3 (ins m c t) (dqBefore m c t.val) := by
  unfold acc accPt; rw [dif_neg h2, dif_pos h3]

/-- The scratch between points: the gradient of `q` at what is carried, but for a first key tile's, and the other
    two accumulators at anything. -/
def carried (c : Dev nD) (n : ℕ) : sProp 𝕄 :=
  iprop((∃ d : Vec F S1x3x256x768 .f32, ⌜n % 3 ≠ 0 → d = dqBefore m c n⌝ ∗ owns (c : Thread nD τ) (Memref.whole cc0_scratch0) fullShare d)
    ∗ (∃ d : Vec F S1x768x256 .f32, owns (c : Thread nD τ) (Memref.whole cc0_scratch1) fullShare d)
    ∗ (∃ d : Vec F S1x768x128 .f32, owns (c : Thread nD τ) (Memref.whole cc0_scratch2) fullShare d)
    ∗ ∃ r, prngReg c r)

/-- Scratch at anything is the carried scratch before a first key tile, -/
theorem carried_intro (c : Dev nD) : (Pipeline.ΦA spec0 c : sProp 𝕄) ⊢ carried m c 0 := by
  unfold Pipeline.ΦA carried
  rw [scopedRest0_eq]
  iintro ⟨⟨⟨%f0, H0⟩, ⟨%f1, H1⟩, ⟨%f2, H2⟩⟩, Hr⟩
  isplitl [H0]
  · iexists f0; isplitr; · ipureintro; exact fun h => absurd rfl h
    rw [owns_whole]; iexact H0
  isplitl [H1]; · iexists f1; rw [owns_whole]; iexact H1
  isplitl [H2]; · iexists f2; rw [owns_whole]; iexact H2
  iexact Hr

/-- and the carried scratch is scratch at anything. -/
theorem carried_elim (c : Dev nD) (n : ℕ) : carried m c n ⊢ (Pipeline.ΦA spec0 c : sProp 𝕄) := by
  unfold Pipeline.ΦA carried
  rw [scopedRest0_eq]
  iintro ⟨⟨%f0, %h, H0⟩, ⟨%f1, H1⟩, ⟨%f2, H2⟩, Hr⟩
  ihave H0 := (Entails.of_eq (owns_whole _ _ _ _)) $$ H0
  ihave H1 := (Entails.of_eq (owns_whole _ _ _ _)) $$ H1
  ihave H2 := (Entails.of_eq (owns_whole _ _ _ _)) $$ H2
  isplitr [Hr]
  · isplitl [H0]; · iexists f0; iexact H0
    isplitl [H1]; · iexists f1; iexact H1
    iexists f2; iexact H2
  iexact Hr

/-! ## The proof data -/

/-- The arrays as the region finds them; each input window left at its block, each output's at what the body stores;
    the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (acc m c t).dq
    | ⟨8, _⟩ => k0_pay43 (acc m c t).dk
    | ⟨9, _⟩ => k0_pay1 (acc m c t).dv
  Φ t := carried m c t.val
  q _ := fullShare
  owed _ := 0

theorem A_eq (c : Dev nD) (w : Fin cfg0.W) : (dats m 0 c).A w = V m c (Pipeline.arrRef spec0 w) := by
  dsimp only [dats]

/-- The invariant at a point's start and at its end. -/
theorem Φ_start (c : Dev nD) (t : Fin cfg0.N) : (dats m 0 c).Φ t.castSucc = carried m c t.val := by dsimp only [dats, Fin.val_castSucc]
theorem Φ_end (c : Dev nD) (t : Fin cfg0.N) : (dats m 0 c).Φ t.succ = carried m c (t.val + 1) := by dsimp only [dats, Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqOut (acc m c t).dq := by dsimp only [dats]
theorem after0_8 (c : Dev nD) (t : Fin cfg0.N) : (dats m 0 c).after 8 t = k0_pay43 (acc m c t).dk := by dsimp only [dats]
theorem after0_9 (c : Dev nD) (t : Fin cfg0.N) : (dats m 0 c).after 9 t = k0_pay1 (acc m c t).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- what it returns where the gradient of `q` is not stored, -/
def bodyPostIdle (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((dats m 0 c).before 7 t d))
    ∗ owns (c : Thread nD τ) (st0_8 t) fullShare ((dats m 0 c).after 8 t)
    ∗ owns (c : Thread nD τ) (st0_9 t) fullShare ((dats m 0 c).after 9 t))

/-- and what it returns where it is. -/
def bodyPostFull (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- A first key tile. -/
theorem sound_first (c : Dev nD) (t : Fin cfg0.N) (h : t.val % 3 = 0) :
    bodyPre m c t ⊢ wp frame (wpE (defs₀ (F := F)) Variants.none c none) Set.univ (bodyAt0 t) (fun _ => bodyPostIdle m c t) := by
  have h2 := (cond2_iff t).mpr h
  have h3 : ¬k0_cond3 (grid0.coords t) = 1#1 := fun e => (cond3_iff t).mp e h
  have h4 : ¬k0_cond4 (grid0.coords t) = 1#1 := fun e => by have := (cond4_iff t).mp e; omega
  have hn : True := trivial
  have hs := dqBefore_succ m c t
  unfold bodyPre bodyPostIdle bodyAt0
  simp only [before0_0, before0_1, before0_2, before0_3, before0_4, before0_5, before0_6]
  rw [Φ_start, Φ_end, show (dats m 0 c).owesAt () t.succ = (dats m 0 c).owesAt () t.castSucc from rfl,
    after0_0, after0_1, after0_2, after0_3, after0_4, after0_5, after0_6, after0_8, after0_9]
  rw [acc_first m c t h2] at hs
  rw [acc_first m c t h2]
  unfold carried
  iintro ⟨⟨⟨%s0, %hs0, S0⟩, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point_first c (grid0.coords t) _ _ _ _ _ _ _ _ _ _ _ _ _ _ _ _ _ _ _ _ _ _ _ _ _ _ Set.univ h2 h3 h4 (ins m c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexists _; iexact S0
  isplitl [S1]; · iexact S1
  isplitl [S2]; · iexact S2
  iintro ⟨H0, H1, H2, H3, H4, H5, H6, H7, H8, H9, S0, S1, S2⟩
  isplitl [S0 S1 S2 Hr]
  · isplitl [S0]
    · iexists _; isplitr; swap; · iexact S0
      ipureintro; exact fun _ => hs.symm
    isplitl [S1]; · iexists _; iexact S1
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  iexact H9

set_option maxHeartbeats 1600000 in
/-- A key tile between. -/
theorem sound_mid (c : Dev nD) (t : Fin cfg0.N) (h : t.val % 3 = 1) :
    bodyPre m c t ⊢ wp frame (wpE (defs₀ (F := F)) Variants.none c none) Set.univ (bodyAt0 t) (fun _ => bodyPostIdle m c t) := by
  have h2 : ¬k0_cond2 (grid0.coords t) = 1#1 := fun e => by have := (cond2_iff t).mp e; omega
  have h3 := (cond3_iff t).mpr (by omega)
  have h4 : ¬k0_cond4 (grid0.coords t) = 1#1 := fun e => by have := (cond4_iff t).mp e; omega
  have hn : t.val % 3 ≠ 0 := (cond3_iff t).mp h3
  have hs := dqBefore_succ m c t
  unfold bodyPre bodyPostIdle bodyAt0
  simp only [before0_0, before0_1, before0_2, before0_3, before0_4, before0_5, before0_6]
  rw [Φ_start, Φ_end, show (dats m 0 c).owesAt () t.succ = (dats m 0 c).owesAt () t.castSucc from rfl,
    after0_0, after0_1, after0_2, after0_3, after0_4, after0_5, after0_6, after0_8, after0_9]
  rw [acc_later m c t h2 h3] at hs
  rw [acc_later m c t h2 h3]
  unfold carried
  iintro ⟨⟨⟨%s0, %hs0, S0⟩, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := hs0 hn
  iapply (point_mid c (grid0.coords t) _ _ _ _ _ _ _ _ _ _ _ _ _ _ _ _ _ _ _ _ _ _ _ _ _ _ Set.univ h2 h3 h4 (ins m c t) (dqBefore m c t.val) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  iintro ⟨H0, H1, H2, H3, H4, H5, H6, H7, H8, H9, S0, S1, S2⟩
  isplitl [S0 S1 S2 Hr]
  · isplitl [S0]
    · iexists _; isplitr; swap; · iexact S0
      ipureintro; exact fun _ => hs.symm
    isplitl [S1]; · iexists _; iexact S1
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  iexact H9

set_option maxHeartbeats 1600000 in
/-- A last key tile. -/
theorem sound_last (c : Dev nD) (t : Fin cfg0.N) (h : t.val % 3 = 2) :
    bodyPre m c t ⊢ wp frame (wpE (defs₀ (F := F)) Variants.none c none) Set.univ (bodyAt0 t) (fun _ => bodyPostFull m c t) := by
  have h2 : ¬k0_cond2 (grid0.coords t) = 1#1 := fun e => by have := (cond2_iff t).mp e; omega
  have h3 := (cond3_iff t).mpr (by omega)
  have h4 := (cond4_iff t).mpr h
  have hn : t.val % 3 ≠ 0 := (cond3_iff t).mp h3
  have hs := dqBefore_succ m c t
  unfold bodyPre bodyPostFull bodyAt0
  simp only [before0_0, before0_1, before0_2, before0_3, before0_4, before0_5, before0_6]
  rw [Φ_start, Φ_end, show (dats m 0 c).owesAt () t.succ = (dats m 0 c).owesAt () t.castSucc from rfl,
    after0_0, after0_1, after0_2, after0_3, after0_4, after0_5, after0_6, after0_7, after0_8, after0_9]
  rw [acc_later m c t h2 h3] at hs
  rw [acc_later m c t h2 h3]
  unfold carried
  iintro ⟨⟨⟨%s0, %hs0, S0⟩, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := hs0 hn
  iapply (point_last c (grid0.coords t) _ _ _ _ _ _ _ _ _ _ _ _ _ _ _ _ _ _ _ _ _ _ _ _ _ _ Set.univ h2 h3 h4 (ins m c t) (dqBefore m c t.val) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  iintro ⟨H0, H1, H2, H3, H4, H5, H6, H7, H8, H9, S0, S1, S2⟩
  isplitl [S0 S1 S2 Hr]
  · isplitl [S0]
    · iexists _; isplitr; swap; · iexact S0
      ipureintro; exact fun _ => hs.symm
    isplitl [S1]; · iexists _; iexact S1
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The window of the gradient of `q` is idle but at the last key tile. -/
theorem idle_eq (t : Fin cfg0.N) (h : ¬t.val % 3 = 2) : cfg0.idle 7 (cfg0.grid.coords t) = true := by
  have h4 : ¬k0_cond4 (grid0.coords t) = 1#1 := fun e => h ((cond4_iff t).mp e)
  show (!(k0_cond4 (grid0.coords t) == 1#1)) = true
  simpa using h4

theorem busy_eq (t : Fin cfg0.N) (h : t.val % 3 = 2) : cfg0.idle 7 (cfg0.grid.coords t) = false := by
  show (!(k0_cond4 (grid0.coords t) == 1#1)) = false
  simpa using (cond4_iff t).mpr h

theorem flush_eq (t : Fin cfg0.N) (h : ¬t.val % 3 = 2) : (cfg0.win 7).flush t = false := by
  rw [Bool.eq_false_iff]; exact fun e => h ((flush0_7 t).mp e)

/-- The library's body obligation, at every point. -/
theorem body_obligation (c : Dev nD) : BodyObligation (dats (F := F) m 0 c) (defs₀ (F := F)) Variants.none () Set.univ := fun t => by
  rw [bigSep_W0, bigSep_W0, defs₀_row]
  by_cases h : t.val % 3 = 2
  · rw [busy_eq t h]
    exact triple_restated (sound_last m c t h) rfl .rfl fun _ => .rfl
  · rw [idle_eq t h, flush_eq t h]
    by_cases h0 : t.val % 3 = 0
    · exact triple_restated (sound_first m c t h0) rfl .rfl fun _ => .rfl
    · exact triple_restated (sound_mid m c t (by omega)) rfl .rfl fun _ => .rfl

/-! ## The run and the frame -/

set_option backward.isDefEq.respectTransparency.types false in
/-- Every execution terminates with the arrays at what the proof data say and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_intro m c) (hout := fun c => carried_elim m c _)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.AttnBwd

end
-- ==== Proof.AttnBwd.AccAt.lean ====
/-
  The accumulators at the end of a grid point as real numbers: the key tile's gradients of the keys and values are the
  sums over all queries, and the gradient of the queries is the sum over the keys of the tiles so far.
-/
module

public import proofs.«01_k».proof.Proof.AttnBwd.StepAt
public import proofs.«01_k».proof.Proof.AttnBwd.Run

@[expose] public section

set_option maxRecDepth 16384

noncomputable section

namespace Cert.Proof.AttnBwd

open Cert.KernelIdeal Cert.KernelIdeal.Gen
open Idealize.ShloMosaic Idealize.ShloMosaic.TcCoe

/-- A point's example, head and key tile. -/
abbrev ptB (t : Fin cfg0.N) : Fin 4 := ⟨t.val / 24, by have : t.val < 96 := t.isLt; omega⟩
abbrev ptH (t : Fin cfg0.N) : Fin 8 := ⟨t.val / 3 % 8, by omega⟩
abbrev ptI (t : Fin cfg0.N) : Fin 3 := ⟨t.val % 3, by omega⟩

/-! ## Where the steps load and store -/

theorem coord_2 : ∀ t : Fin cfg0.N, (grid0.coords t 2).val = t.val % 3 :=
  (by decide +kernel : ∀ t : Fin grid0.N, (grid0.coords t 2).val = t.val % 3)
theorem off1_eq : ∀ t : Fin cfg0.N, k0_off1 (grid0.coords t) = ![768 * (t.val % 3), 0] :=
  (by decide +kernel : ∀ t : Fin grid0.N, k0_off1 (grid0.coords t) = ![768 * (t.val % 3), 0])
theorem off2_eq : ∀ t : Fin cfg0.N, k0_off2 (grid0.coords t) = ![768 * (t.val % 3), 0] :=
  (by decide +kernel : ∀ t : Fin grid0.N, k0_off2 (grid0.coords t) = ![768 * (t.val % 3), 0])
theorem off3_eq : ∀ t : Fin cfg0.N, k0_off3 (grid0.coords t) = ![0, 0, t.val % 3, 0, 0] :=
  (by decide +kernel : ∀ t : Fin grid0.N, k0_off3 (grid0.coords t) = ![0, 0, t.val % 3, 0, 0])
theorem off4_eq : ∀ t : Fin cfg0.N, k0_off4 (grid0.coords t) = ![0, t.val % 3, 0, 0] :=
  (by decide +kernel : ∀ t : Fin grid0.N, k0_off4 (grid0.coords t) = ![0, t.val % 3, 0, 0])
theorem trips1_eq : k0_t1_loop.trips = 2 := by decide +kernel
theorem off5_eq : ∀ u : Fin k0_t1_loop.trips, k0_off5 u = ![768 * (1 + u.val), 0] := by decide +kernel
theorem off6_eq : ∀ u : Fin k0_t1_loop.trips, k0_off6 u = ![768 * (1 + u.val), 0] := by decide +kernel
theorem off7_eq : ∀ u : Fin k0_t1_loop.trips, k0_off7 u = ![0, 0, 1 + u.val, 0, 0] := by decide +kernel
theorem off8_eq : ∀ u : Fin k0_t1_loop.trips, k0_off8 u = ![0, 1 + u.val, 0, 0] := by decide +kernel
theorem trips2_eq : ∀ t : Fin cfg0.N, (k0_t2_loop (grid0.coords t)).trips = 2 - t.val % 3 :=
  (by decide +kernel : ∀ t : Fin grid0.N, (k0_t2_loop (grid0.coords t)).trips = 2 - t.val % 3)
theorem off9_eq : ∀ (t : Fin cfg0.N) (u : Fin (k0_t2_loop (grid0.coords t)).trips), k0_off9 (grid0.coords t) u = ![768 * (t.val % 3 + 1 + u.val), 0] :=
  (by decide +kernel : ∀ (t : Fin grid0.N) (u : Fin (k0_t2_loop (grid0.coords t)).trips), k0_off9 (grid0.coords t) u = ![768 * (t.val % 3 + 1 + u.val), 0])
theorem off10_eq : ∀ (t : Fin cfg0.N) (u : Fin (k0_t2_loop (grid0.coords t)).trips), k0_off10 (grid0.coords t) u = ![768 * (t.val % 3 + 1 + u.val), 0] :=
  (by decide +kernel : ∀ (t : Fin grid0.N) (u : Fin (k0_t2_loop (grid0.coords t)).trips), k0_off10 (grid0.coords t) u = ![768 * (t.val % 3 + 1 + u.val), 0])
theorem off11_eq : ∀ (t : Fin cfg0.N) (u : Fin (k0_t2_loop (grid0.coords t)).trips), k0_off11 (grid0.coords t) u = ![0, 0, t.val % 3 + 1 + u.val, 0, 0] :=
  (by decide +kernel : ∀ (t : Fin grid0.N) (u : Fin (k0_t2_loop (grid0.coords t)).trips), k0_off11 (grid0.coords t) u = ![0, 0, t.val % 3 + 1 + u.val, 0, 0])
theorem off12_eq : ∀ (t : Fin cfg0.N) (u : Fin (k0_t2_loop (grid0.coords t)).trips), k0_off12 (grid0.coords t) u = ![0, t.val % 3 + 1 + u.val, 0, 0] :=
  (by decide +kernel : ∀ (t : Fin grid0.N) (u : Fin (k0_t2_loop (grid0.coords t)).trips), k0_off12 (grid0.coords t) u = ![0, t.val % 3 + 1 + u.val, 0, 0])

variable {a : Args} {b : Fin 4} {h : Fin 8} (t : Fin cfg0.N) {x : Ins Ideal}

/-- The causal step leaves the next query tile to be done. -/
theorem diag_pt (H : InsIs a b h (ptI t) x) {dq : Vec Ideal S1x3x256x768 .f32} (hd : DqIs a b h (t.val % 3) dq) :
    Upto a b h (ptI t) (t.val % 3 + 1) (stepDiag (grid0.coords t) x (start dq)) :=
  diag_upto (i := ptI t) H (start_upto (i := ptI t) hd) (coord_2 t) (off1_eq t) (off2_eq t) (off3_eq t) (off4_eq t)

/-- The loop of a first key tile, trip by trip. -/
theorem pad_pt (H : InsIs a b h (ptI t) x) (h2 : k0_cond2 (grid0.coords t) = 1#1) {s : St Ideal} (hs : Upto a b h (ptI t) 1 s) :
    ∀ k, k ≤ k0_t1_loop.trips → Upto a b h (ptI t) (1 + k) (padTrips (grid0.coords t) h2 x s k)
  | 0, _ => hs
  | k + 1, hk => by
    have h0 : t.val % 3 = 0 := (cond2_iff t).mp h2
    have h1 : k0_t1_loop.trips = 2 := trips1_eq
    have IH := pad_pt H h2 hs k (by omega)
    rw [show padTrips (grid0.coords t) h2 x s (k + 1) = _ from padTrips_succ (grid0.coords t) h2 x s ⟨k, hk⟩]
    exact pad_upto H ⟨1 + k, by omega⟩ (show t.val % 3 < 1 + k by omega) IH (coord_2 t) h2 ⟨k, hk⟩ (off5_eq _) (off6_eq _) (off7_eq _) (off8_eq _)

/-- The loop of a later key tile, trip by trip. -/
theorem full_pt (H : InsIs a b h (ptI t) x) (h3 : k0_cond3 (grid0.coords t) = 1#1) {s : St Ideal} (hs : Upto a b h (ptI t) (t.val % 3 + 1) s) :
    ∀ k, k ≤ (k0_t2_loop (grid0.coords t)).trips → Upto a b h (ptI t) (t.val % 3 + 1 + k) (fullTrips (grid0.coords t) h3 x s k)
  | 0, _ => hs
  | k + 1, hk => by
    have h0 : t.val % 3 ≠ 0 := (cond3_iff t).mp h3
    have h1 := trips2_eq t
    have IH := full_pt H h3 hs k (by omega)
    rw [show fullTrips (grid0.coords t) h3 x s (k + 1) = _ from fullTrips_succ (grid0.coords t) h3 x s ⟨k, hk⟩]
    exact full_upto H ⟨t.val % 3 + 1 + k, by omega⟩ (show 0 < t.val % 3 by omega) (show t.val % 3 < t.val % 3 + 1 + k by omega) IH h3 ⟨k, hk⟩
      (off9_eq t _) (off10_eq t _) (off11_eq t _) (off12_eq t _)

variable (m : (ℓ : Loc nD τ sig) → Buf (Elt Ideal) ℓ) (c : Dev nD)

/-- At a point's end all query tiles are done. -/
theorem acc_pt (H : InsIs a b h (ptI t) (ins m c t)) (hd : t.val % 3 ≠ 0 → DqIs a b h (t.val % 3) (dqBefore m c t.val)) :
    Upto a b h (ptI t) 3 (acc m c t) := by
  by_cases h0 : t.val % 3 = 0
  · have h2 := (cond2_iff t).mpr h0
    rw [acc_first m c t h2]
    unfold accFirst
    have hz : DqIs a b h (t.val % 3) (k0_pay23 (F := Ideal)) := by rw [h0]; exact dq_zero
    have h1 := diag_pt t H hz
    rw [h0] at h1
    have h4 := pad_pt t H h2 h1 k0_t1_loop.trips le_rfl
    rw [trips1_eq] at h4 ⊢
    exact h4
  · have h2 : ¬k0_cond2 (grid0.coords t) = 1#1 := fun e => h0 ((cond2_iff t).mp e)
    have h3 := (cond3_iff t).mpr h0
    rw [acc_later m c t h2 h3]
    unfold accLater
    have h4 := full_pt t H h3 (diag_pt t H (hd h0)) _ le_rfl
    have h5 : t.val % 3 + 1 + (k0_t2_loop (grid0.coords t)).trips = 3 := by rw [trips2_eq]; omega
    rw [h5] at h4
    exact h4

/-- What the scratch carries to a later key tile: the sums over the keys before. -/
theorem carried_pt (H : ∀ t : Fin cfg0.N, InsIs a (ptB t) (ptH t) (ptI t) (ins m c t)) :
    ∀ n (hn : n < cfg0.N), n % 3 ≠ 0 → DqIs a (ptB ⟨n, hn⟩) (ptH ⟨n, hn⟩) (n % 3) (dqBefore m c n)
  | 0, _, h0 => absurd rfl h0
  | n + 1, hn, h0 => by
    have hn' : n < cfg0.N := by omega
    have h1 := acc_pt ⟨n, hn'⟩ m c (H ⟨n, hn'⟩) (carried_pt H n hn')
    have h2 := upto_dq h1
    have h3 : n < 96 := hn'
    have eb : ptB ⟨n + 1, hn⟩ = ptB ⟨n, hn'⟩ := Fin.ext (show (n + 1) / 24 = n / 24 by omega)
    have eh : ptH ⟨n + 1, hn⟩ = ptH ⟨n, hn'⟩ := Fin.ext (show (n + 1) / 3 % 8 = n / 3 % 8 by omega)
    have ei : (n + 1) % 3 = n % 3 + 1 := by omega
    rw [eb, eh, ei, show dqBefore m c (n + 1) = _ from dqBefore_succ m c ⟨n, hn'⟩]
    exact h2

/-- The accumulators at every point's end. -/
theorem acc_at (H : ∀ t : Fin cfg0.N, InsIs a (ptB t) (ptH t) (ptI t) (ins m c t)) (t : Fin cfg0.N) : Upto a (ptB t) (ptH t) (ptI t) 3 (acc m c t) :=
  acc_pt t m c (H t) (carried_pt m c H t.val t.isLt)

end Cert.Proof.AttnBwd

end
-- ==== Proof.AttnBwd.Blocks.lean ====
/-
  The input windows' blocks at a grid point as real numbers: point `t` is example `t / 24`, head `t / 3 % 8`, key tile
  `t % 3`.
-/
module

public import proofs.«01_k».proof.Proof.AttnBwd.HostAt
public import proofs.«01_k».proof.Proof.AttnBwd.HostLse
public import proofs.«01_k».proof.Proof.AttnBwd.StepAt
public import proofs.«01_k».proof.Proof.AttnBwd.AccAt
public import Idealize.ShloMosaic.Lib.Pipeline.ValueKit

@[expose] public section

set_option maxRecDepth 16384

noncomputable section

namespace Cert.Proof.AttnBwd

open Cert.KernelIdeal Cert.KernelIdeal.Gen
open Idealize.ShloMosaic Idealize.ShloMosaic.TcCoe

/-! ## The windows' places -/

/-- The place of the queries's block. -/
theorem idx_0 : ∀ t : Fin cfg0.N, win0_0.index t = ![t.val / 24, t.val / 3 % 8] :=
  (by decide +kernel : ∀ t : Fin grid0.N, win0_0.index t = ![t.val / 24, t.val / 3 % 8])
/-- The place of the keys's block. -/
theorem idx_1 : ∀ t : Fin cfg0.N, win0_1.index t = ![3 * (t.val / 24) + t.val % 3, t.val / 3 % 8] :=
  (by decide +kernel : ∀ t : Fin grid0.N, win0_1.index t = ![3 * (t.val / 24) + t.val % 3, t.val / 3 % 8])
/-- The place of the turned keys's block. -/
theorem idx_2 : ∀ t : Fin cfg0.N, win0_2.index t = ![t.val / 24, t.val / 3 % 8, t.val % 3, 0, 0] :=
  (by decide +kernel : ∀ t : Fin grid0.N, win0_2.index t = ![t.val / 24, t.val / 3 % 8, t.val % 3, 0, 0])
/-- The place of the values's block. -/
theorem idx_3 : ∀ t : Fin cfg0.N, win0_3.index t = ![3 * (t.val / 24) + t.val % 3, t.val / 3 % 8] :=
  (by decide +kernel : ∀ t : Fin grid0.N, win0_3.index t = ![3 * (t.val / 24) + t.val % 3, t.val / 3 % 8])
/-- The place of the output's block. -/
theorem idx_4 : ∀ t : Fin cfg0.N, win0_4.index t = ![t.val / 24, t.val / 3 % 8] :=
  (by decide +kernel : ∀ t : Fin grid0.N, win0_4.index t = ![t.val / 24, t.val / 3 % 8])
/-- The place of the output's gradient's block. -/
theorem idx_5 : ∀ t : Fin cfg0.N, win0_5.index t = ![t.val / 24, t.val / 3 % 8] :=
  (by decide +kernel : ∀ t : Fin grid0.N, win0_5.index t = ![t.val / 24, t.val / 3 % 8])
/-- The place of the logarithms's block. -/
theorem idx_6 : ∀ t : Fin cfg0.N, win0_6.index t = ![t.val / 24, t.val / 3 % 8, 0, 0, 0] :=
  (by decide +kernel : ∀ t : Fin grid0.N, win0_6.index t = ![t.val / 24, t.val / 3 % 8, 0, 0, 0])
/-- The place of the queries' gradient's block. -/
theorem idx_7 : ∀ t : Fin cfg0.N, win0_7.index t = ![t.val / 24, t.val / 3 % 8] :=
  (by decide +kernel : ∀ t : Fin grid0.N, win0_7.index t = ![t.val / 24, t.val / 3 % 8])
/-- The place of the keys' gradient's block. -/
theorem idx_8 : ∀ t : Fin cfg0.N, win0_8.index t = ![3 * (t.val / 24) + t.val % 3, t.val / 3 % 8] :=
  (by decide +kernel : ∀ t : Fin grid0.N, win0_8.index t = ![3 * (t.val / 24) + t.val % 3, t.val / 3 % 8])
/-- The place of the values' gradient's block. -/
theorem idx_9 : ∀ t : Fin cfg0.N, win0_9.index t = ![3 * (t.val / 24) + t.val % 3, t.val / 3 % 8] :=
  (by decide +kernel : ∀ t : Fin grid0.N, win0_9.index t = ![3 * (t.val / 24) + t.val % 3, t.val / 3 % 8])

/-! ## The blocks of any array -/

section
variable (t : Fin cfg0.N)

theorem q_blk (X : Vec Ideal S9216x2048 .bf16) (Q : Fin 2304) (e : Fin 256) : ((cfg0.win 0).blk t).view.read (Elt Ideal) X (ix2 Q e) = X (ix2 ⟨2304 * (ptB t).val + Q.val, by omega⟩ ⟨256 * (ptH t).val + e.val, by omega⟩) := by
  blk_simp
  refine congrArg X ?_
  blk_ext [idx_0 t]

theorem k_blk (X : Vec Ideal S9216x2048 .bf16) (r : Fin 768) (e : Fin 256) : ((cfg0.win 1).blk t).view.read (Elt Ideal) X (ix2 r e) = X (ix2 ⟨2304 * (ptB t).val + (768 * (ptI t).val + r.val), by omega⟩ ⟨256 * (ptH t).val + e.val, by omega⟩) := by
  blk_simp
  refine congrArg X ?_
  blk_ext [idx_1 t]

theorem kt_blk (X : Vec Ideal S4x8x3x256x768 .bf16) (e : Fin 256) (r : Fin 768) : ((cfg0.win 2).blk t).view.read (Elt Ideal) X (ix5 0 0 0 e r) = X (ix5 (ptB t) (ptH t) (ptI t) e r) := by
  blk_simp
  refine congrArg X ?_
  blk_ext [idx_2 t]

theorem v_blk (X : Vec Ideal S9216x1024 .bf16) (r : Fin 768) (e : Fin 128) : ((cfg0.win 3).blk t).view.read (Elt Ideal) X (ix2 r e) = X (ix2 ⟨2304 * (ptB t).val + (768 * (ptI t).val + r.val), by omega⟩ ⟨128 * (ptH t).val + e.val, by omega⟩) := by
  blk_simp
  refine congrArg X ?_
  blk_ext [idx_3 t]

theorem o_blk (X : Vec Ideal S9216x1024 .bf16) (Q : Fin 2304) (e : Fin 128) : ((cfg0.win 4).blk t).view.read (Elt Ideal) X (ix2 Q e) = X (ix2 ⟨2304 * (ptB t).val + Q.val, by omega⟩ ⟨128 * (ptH t).val + e.val, by omega⟩) := by
  blk_simp
  refine congrArg X ?_
  blk_ext [idx_4 t]

theorem d_blk (X : Vec Ideal S9216x1024 .bf16) (Q : Fin 2304) (e : Fin 128) : ((cfg0.win 5).blk t).view.read (Elt Ideal) X (ix2 Q e) = X (ix2 ⟨2304 * (ptB t).val + Q.val, by omega⟩ ⟨128 * (ptH t).val + e.val, by omega⟩) := by
  blk_simp
  refine congrArg X ?_
  blk_ext [idx_5 t]

theorem l_blk (X : Vec Ideal S4x8x3x1x768 .f32) (i : Fin 3) (y : Fin 768) : ((cfg0.win 6).blk t).view.read (Elt Ideal) X (ix5 0 0 i 0 y) = X (ix5 (ptB t) (ptH t) i 0 y) := by
  blk_simp
  refine congrArg X ?_
  blk_ext [idx_6 t]

end

/-! ## The blocks the body finds -/

variable (m : (ℓ : Loc nD τ sig) → Buf (Elt Ideal) ℓ) (c : Dev nD) (t : Fin cfg0.N)

/-- The arguments of device `c`. -/
abbrev argQ : FVec Ideal S4x2064x8x192 .f32 := m ((c : Thread nD τ).loc main_arg0)
abbrev argK : FVec Ideal S4x2064x8x192 .f32 := m ((c : Thread nD τ).loc main_arg1)
abbrev argV : FVec Ideal S4x2064x8x128 .f32 := m ((c : Thread nD τ).loc main_arg2)
abbrev argD : FVec Ideal S4x2064x8x128 .f32 := m ((c : Thread nD τ).loc main_arg3)

theorem q_iblk : iblk m c 0 t = ((cfg0.win 0).blk t).view.read (Elt Ideal) (rows192 (argQ m c)) := congrArg (((cfg0.win 0).blk t).view.read (Elt Ideal)) (V_v2 m c)
theorem k_iblk : iblk m c 1 t = ((cfg0.win 1).blk t).view.read (Elt Ideal) (rows192 (argK m c)) := congrArg (((cfg0.win 1).blk t).view.read (Elt Ideal)) (V_v5 m c)
theorem kt_iblk : iblk m c 2 t = ((cfg0.win 2).blk t).view.read (Elt Ideal) (turned (rows192 (argK m c))) := congrArg (((cfg0.win 2).blk t).view.read (Elt Ideal)) (V_v13 m c)
theorem v_iblk : iblk m c 3 t = ((cfg0.win 3).blk t).view.read (Elt Ideal) (rows128 (argV m c)) := congrArg (((cfg0.win 3).blk t).view.read (Elt Ideal)) (V_v8 m c)
theorem o_iblk : iblk m c 4 t = ((cfg0.win 4).blk t).view.read (Elt Ideal) (rows128 (hostOut (argQ m c) (argK m c) (argV m c))) := congrArg (((cfg0.win 4).blk t).view.read (Elt Ideal)) (V_v35 m c)
theorem d_iblk : iblk m c 5 t = ((cfg0.win 5).blk t).view.read (Elt Ideal) (rows128 (argD m c)) := congrArg (((cfg0.win 5).blk t).view.read (Elt Ideal)) (V_v11 m c)
theorem l_iblk : iblk m c 6 t = ((cfg0.win 6).blk t).view.read (Elt Ideal) (hostLse (argQ m c) (argK m c)) := congrArg (((cfg0.win 6).blk t).view.read (Elt Ideal)) (V_v40 m c)

section
variable {a : Args} (H : Ref.Are (argQ m c) (argK m c) (argV m c) (argD m c) a)
include H

theorem ins_q (Q : Fin 2304) (e : Fin 256) : iblk m c 0 t (ix2 Q e) = ((padded a.q (ptB t) (ptH t) Q.val e.val : ℝ) : EReal) := by
  refine (congrFun (q_iblk m c t) _).trans ((q_blk t _ Q e).trans ((rows192_at H.q _ _).trans ?_))
  exact congrArg (fun z : ℝ => (z : EReal)) (rows_padded a.q _ _ _ _ Q.isLt e.isLt _ _ rfl rfl)

theorem ins_k (r : Fin 768) (e : Fin 256) : iblk m c 1 t (ix2 r e) = ((padded a.k (ptB t) (ptH t) (768 * (ptI t).val + r.val) e.val : ℝ) : EReal) := by
  refine (congrFun (k_iblk m c t) _).trans ((k_blk t _ r e).trans ((rows192_at H.k _ _).trans ?_))
  exact congrArg (fun z : ℝ => (z : EReal)) (rows_padded a.k _ _ _ _ (by omega) e.isLt _ _ rfl rfl)

theorem ins_kt (e : Fin 256) (r : Fin 768) : iblk m c 2 t (ix5 0 0 0 e r) = ((padded a.k (ptB t) (ptH t) (768 * (ptI t).val + r.val) e.val : ℝ) : EReal) := by
  refine (congrFun (kt_iblk m c t) _).trans ((kt_blk t _ e r).trans ((turned_at _ _ _ _ e r).trans ((rows192_at H.k _ _).trans ?_)))
  exact congrArg (fun z : ℝ => (z : EReal)) (rows_padded a.k _ _ _ _ (by omega) e.isLt _ _ (Nat.add_assoc _ _ _) rfl)

theorem ins_v (r : Fin 768) (e : Fin 128) : iblk m c 3 t (ix2 r e) = ((padded a.v (ptB t) (ptH t) (768 * (ptI t).val + r.val) e.val : ℝ) : EReal) := by
  refine (congrFun (v_iblk m c t) _).trans ((v_blk t _ r e).trans ((rows128_at H.v _ _).trans ?_))
  exact congrArg (fun z : ℝ => (z : EReal)) (rows_padded a.v _ _ _ _ (by omega) e.isLt _ _ rfl rfl)

theorem ins_d (Q : Fin 2304) (e : Fin 128) : iblk m c 5 t (ix2 Q e) = ((padded a.d (ptB t) (ptH t) Q.val e.val : ℝ) : EReal) := by
  refine (congrFun (d_iblk m c t) _).trans ((d_blk t _ Q e).trans ((rows128_at H.d _ _).trans ?_))
  exact congrArg (fun z : ℝ => (z : EReal)) (rows_padded a.d _ _ _ _ Q.isLt e.isLt _ _ rfl rfl)

theorem rows_out (r : Fin 9216) (e : Fin 1024) : rows128 (hostOut (argQ m c) (argK m c) (argV m c)) (ix2 r e) = ((rows 128 a.out r e.val : ℝ) : EReal) :=
  rows128_at (fun b i h e => hostOut_at H b i h e) r e

theorem ins_o (Q : Fin 2304) (e : Fin 128) : iblk m c 4 t (ix2 Q e) = ((padded a.out (ptB t) (ptH t) Q.val e.val : ℝ) : EReal) := by
  refine (congrFun (o_iblk m c t) _).trans ((o_blk t _ Q e).trans ((rows_out m c H _ _).trans ?_))
  exact congrArg (fun z : ℝ => (z : EReal)) (rows_padded a.out _ _ _ _ Q.isLt e.isLt _ _ rfl rfl)

theorem ins_l (i : Fin 3) (y : Fin 768) : iblk m c 6 t (ix5 0 0 i 0 y) = ((a.lse (ptB t) (ptH t) (768 * i.val + y.val) : ℝ) : EReal) :=
  (congrFun (l_iblk m c t) _).trans ((l_blk t _ i y).trans (hostLse_at H _ _ i y))

end

/-- Windows given one by one hold the arguments' values where each does. -/
theorem insIs_of {a : Args} {b : Fin 4} {h : Fin 8} {i : Fin 3} {q : Vec Ideal S2304x256 .bf16} {k : Vec Ideal S768x256 .bf16} {kt : Vec Ideal S1x1x1x256x768 .bf16}
    {v : Vec Ideal S768x128 .bf16} {o d : Vec Ideal S2304x128 .bf16} {l : Vec Ideal S1x1x3x1x768 .f32}
    (hq : ∀ (Q : Fin 2304) (e : Fin 256), q (ix2 Q e) = ((padded a.q b h Q.val e.val : ℝ) : EReal))
    (hk : ∀ (r : Fin 768) (e : Fin 256), k (ix2 r e) = ((padded a.k b h (768 * i.val + r.val) e.val : ℝ) : EReal))
    (hkt : ∀ (e : Fin 256) (r : Fin 768), kt (ix5 0 0 0 e r) = ((padded a.k b h (768 * i.val + r.val) e.val : ℝ) : EReal))
    (hv : ∀ (r : Fin 768) (e : Fin 128), v (ix2 r e) = ((padded a.v b h (768 * i.val + r.val) e.val : ℝ) : EReal))
    (hd : ∀ (Q : Fin 2304) (e : Fin 128), d (ix2 Q e) = ((padded a.d b h Q.val e.val : ℝ) : EReal))
    (ho : ∀ (Q : Fin 2304) (e : Fin 128), o (ix2 Q e) = ((padded a.out b h Q.val e.val : ℝ) : EReal))
    (hl : ∀ (c : Fin 3) (y : Fin 768), l (ix5 0 0 c 0 y) = ((a.lse b h (768 * c.val + y.val) : ℝ) : EReal)) :
    InsIs a b h i ⟨q, k, kt, v, o, d, l⟩ := ⟨hq, hk, hkt, hv, hd, ho, hl⟩

/-- They hold the arguments' values. -/
theorem ins_is {a : Args} (H : Ref.Are (argQ m c) (argK m c) (argV m c) (argD m c) a) : InsIs a (ptB t) (ptH t) (ptI t) (ins m c t) := by
  have h1 := ins_q m c t H
  have h2 := ins_k m c t H
  have h3 := ins_kt m c t H
  have h4 := ins_v m c t H
  have h5 := ins_d m c t H
  have h6 := ins_o m c t H
  have h7 := ins_l m c t H
  unfold ins
  generalize iblk m c 0 t = q at h1 ⊢
  generalize iblk m c 1 t = k at h2 ⊢
  generalize iblk m c 2 t = kt at h3 ⊢
  generalize iblk m c 3 t = v at h4 ⊢
  generalize iblk m c 4 t = o at h6 ⊢
  generalize iblk m c 5 t = d at h5 ⊢
  generalize iblk m c 6 t = l at h7 ⊢
  exact insIs_of h1 h2 h3 h4 h5 h6 h7

end Cert.Proof.AttnBwd

end
-- ==== Proof.AttnBwd.RefOut.lean ====
/-
  The reference's run, its three results by name.
-/
module

public import proofs.«01_k».proof.Proof.AttnBwd.Ref
public import proofs.«01_k».proof.Proof.Gen.ReferenceIdeal.Run

@[expose] public section

set_option maxRecDepth 16384

noncomputable section

namespace Cert.Proof.AttnBwd.Ref

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The first result is the gradient of the queries, -/
theorem out0 : Value.res_main_v61 m c = dq (m ((c : Thread nD τ).loc main_arg0)) (m ((c : Thread nD τ).loc main_arg1)) (m ((c : Thread nD τ).loc main_arg2)) (m ((c : Thread nD τ).loc main_arg3)) := by
  unfold Value.res_main_v61
  rfl

/-- the second of the keys, -/
theorem out1 : Value.res_main_v64 m c = dk (m ((c : Thread nD τ).loc main_arg0)) (m ((c : Thread nD τ).loc main_arg1)) (m ((c : Thread nD τ).loc main_arg2)) (m ((c : Thread nD τ).loc main_arg3)) := by
  unfold Value.res_main_v64
  rfl

/-- the third of the values. -/
theorem out2 : Value.res_main_v67 m c = dv (m ((c : Thread nD τ).loc main_arg0)) (m ((c : Thread nD τ).loc main_arg1)) (m ((c : Thread nD τ).loc main_arg3)) := by
  unfold Value.res_main_v67
  rfl

end Cert.Proof.AttnBwd.Ref

end
-- ==== Proof.AttnBwd.Final.lean ====
/-
  The result arrays after the run, element by element: the gradients of the queries, the keys and the values as real
  numbers, in the kernel's layout of rows.
-/
module

public import proofs.«01_k».proof.Proof.AttnBwd.Blocks
public import proofs.«01_k».proof.Proof.AttnBwd.Sums
public import proofs.«01_k».proof.Proof.AttnBwd.RefOut

@[expose] public section

set_option maxRecDepth 16384

noncomputable section

namespace Cert.Proof.AttnBwd

open Cert.KernelIdeal Cert.KernelIdeal.Gen
open Idealize.ShloMosaic Idealize.ShloMosaic.TcCoe

/-! ## What the stores write -/

/-- The stored gradient of the keys, at a row and a column. -/
theorem pay43_at (x : Vec Ideal S1x768x256 .f32) (r : Fin 768) (e : Fin 256) : k0_pay43 x (ix2 r e) = x (ix3 0 r e) := by
  pointwise [k0_pay43]
/-- The stored gradient of the values, at a row and a column. -/
theorem pay1_at (x : Vec Ideal S1x768x128 .f32) (r : Fin 768) (e : Fin 128) : k0_pay1 x (ix2 r e) = x (ix3 0 r e) := by
  pointwise [k0_pay1]
/-- The first slab of the gradient of the queries, turned. -/
theorem pay2_at (x : Vec Ideal S1x1x256x768 .f32) (r : Fin 768) (e : Fin 256) : k0_pay2 x (ix2 r e) = x (ix4 0 0 e r) := by
  pointwise [k0_pay2]
/-- The second slab, turned. -/
theorem pay3_at (x : Vec Ideal S1x1x256x768 .f32) (r : Fin 768) (e : Fin 256) : k0_pay3 x (ix2 r e) = x (ix4 0 0 e r) := by
  pointwise [k0_pay3]
/-- The third slab, turned. -/
theorem pay4_at (x : Vec Ideal S1x1x256x768 .f32) (r : Fin 768) (e : Fin 256) : k0_pay4 x (ix2 r e) = x (ix4 0 0 e r) := by
  pointwise [k0_pay4]

/-- The slabs one under the other, each turned. -/
def unslab (dq : Vec Ideal S1x3x256x768 .f32) (y : S2304x256.Idx) : EReal :=
  dq (ix4 0 ⟨(y 0).val / 768, by have : (y 0).val < 2304 := (y 0).isLt; omega⟩ (y 1) ⟨(y 0).val % 768, by omega⟩)

/-- A slab's element, at its place under the earlier slabs. -/
theorem unslab_emb (dq : Vec Ideal S1x3x256x768 .f32) (k : Fin 3) (off : Fin 2 → ℕ) (inb : ∀ a, off a + S768x256.size a ≤ S2304x256.size a)
    (ho : off = ![768 * k.val, 0]) (x : S768x256.Idx) :
    dq (ix4 0 k (x 1) (x 0)) = unslab dq ((Rect.unit (s := S2304x256) off S768x256.size inb).emb x) := by
  have hx : (x 0).val < 768 := (x 0).isLt
  subst ho
  refine congrArg dq (funext fun a => ?_)
  match a with
  | ⟨0, _⟩ => rfl
  | ⟨1, _⟩ => exact Fin.ext (show k.val = (768 * k.val + 1 * (x 0).val) / 768 by omega)
  | ⟨2, _⟩ => exact Fin.ext (show (x 1).val = 0 + 1 * (x 1).val by omega)
  | ⟨3, _⟩ => exact Fin.ext (show (x 0).val = (768 * k.val + 1 * (x 0).val) % 768 by omega)

/-- The stored gradient of the queries at a row and a column is the accumulator at the row's slab and place. -/
theorem dqOut_at (dq : Vec Ideal S1x3x256x768 .f32) (y : S2304x256.Idx) : dqOut dq y = unslab dq y := by
  unfold dqOut
  refine View.canon_apply_of_pieces (Val := Elt Ideal) (e := .bf16) (unslab dq) _ ?_ y (dq_cover _ _ _ _)
  intro p hp
  simp only [List.mem_cons, List.not_mem_nil, or_false] at hp
  rcases hp with rfl | rfl | rfl
  · intro x
    exact (congrArg (k0_pay4 _) (eq_ix2 x)).trans ((pay4_at _ _ _).trans ((window_slab dq _ inb_S1x3x256x768_S1x1x256x768_0_2_0_0 2 rfl _ _).trans
      (unslab_emb dq 2 _ inb_S2304x256_S768x256_1536_0 rfl x)))
  · intro x
    exact (congrArg (k0_pay3 _) (eq_ix2 x)).trans ((pay3_at _ _ _).trans ((window_slab dq _ inb_S1x3x256x768_S1x1x256x768_0_1_0_0 1 rfl _ _).trans
      (unslab_emb dq 1 _ inb_S2304x256_S768x256_768_0 rfl x)))
  · intro x
    exact (congrArg (k0_pay2 _) (eq_ix2 x)).trans ((pay2_at _ _ _).trans ((window_slab dq _ inb_S1x3x256x768_S1x1x256x768_0_0_0_0 0 rfl _ _).trans
      (unslab_emb dq 0 _ inb_S2304x256_S768x256_0_0 rfl x)))

/-! ## The result arrays -/

variable (m : (ℓ : Loc nD τ sig) → Buf (Elt Ideal) ℓ) (c : Dev nD) {a : Args}

/-- An array of rows of real numbers as an array of the result's shape. -/
def outOf {w : ℕ} (W n : ℕ) (t : Arr w) : (⟨2, ![9216, n]⟩ : Shape).Idx → EReal := fun y => ((rows W t (y 0) (y 1).val : ℝ) : EReal)

/-- An element of such an array, from its example and position, head and place. -/
theorem outOf_at {w : ℕ} (W n : ℕ) (t : Arr w) (b : Fin 4) (h : Fin 8) (Q e : ℕ) (hQ : Q < 2304) (he : e < W) (y : (⟨2, ![9216, n]⟩ : Shape).Idx)
    (hr : (y 0).val = 2304 * b.val + Q) (hc : (y 1).val = W * h.val + e) : ((padded t b h Q e : ℝ) : EReal) = outOf W n t y :=
  congrArg (fun x : ℝ => (x : EReal)) (rows_padded t b h Q e hQ he (y 0) (y 1).val hr hc).symm

/-- The gradient of the queries after the run. -/
theorem final_dq (H : Ref.Are (argQ m c) (argK m c) (argV m c) (argD m c) a) : (dats m 0 c).arrAt 7 cfg0.N = outOf 256 2048 a.dq := by
  refine (dats m 0 c).arrAt_eq_of_covers 7 _ (by decide +kernel) fun t hf y => ?_
  have h2 : t.val % 3 = 2 := (flush0_7 t).mp hf
  blk_simp
  rw [after0_7]
  have h0 : (y 0).val < 2304 := (y 0).isLt
  have h1 : (y 1).val < 256 := (y 1).isLt
  have hA := (acc_at m c (fun t => ins_is m c t H) t).dq ⟨(y 0).val / 768, by omega⟩ (y 1) ⟨(y 0).val % 768, by omega⟩
  generalize acc m c t = s at hA ⊢
  refine (dqOut_at s.dq y).trans (hA.trans ?_)
  rw [if_pos (show (y 0).val / 768 < 3 by omega), show (ptI t).val + 1 = 3 from by show t.val % 3 + 1 = 3; omega]
  refine (congrArg (fun x : ℝ => (x : EReal)) ?_).trans
    (outOf_at 256 2048 a.dq (ptB t) (ptH t) (y 0).val (y 1).val h0 h1 _ ?_ ?_)
  · rw [show 768 * ((y 0).val / 768) + (y 0).val % 768 = (y 0).val by omega]
    exact a.sum_dq (ptB t) (ptH t) h0 _
  · blk_simp [idx_7]
    show t.val / 24 * 2304 + (y 0).val = 2304 * (t.val / 24) + (y 0).val
    omega
  · blk_simp [idx_7]
    show t.val / 3 % 8 * 256 + (y 1).val = 256 * (t.val / 3 % 8) + (y 1).val
    omega

/-- The gradient of the keys after the run. -/
theorem final_dk (H : Ref.Are (argQ m c) (argK m c) (argV m c) (argD m c) a) : (dats m 0 c).arrAt 8 cfg0.N = outOf 256 2048 a.dk := by
  refine (dats m 0 c).arrAt_eq_of_covers 8 _ (by decide +kernel) fun t hf y => ?_
  blk_simp
  rw [after0_8]
  have h0 : (y 0).val < 768 := (y 0).isLt
  have h1 : (y 1).val < 256 := (y 1).isLt
  have hA := (acc_at m c (fun t => ins_is m c t H) t).dk (y 0) (y 1)
  generalize acc m c t = s at hA ⊢
  refine ((congrArg (k0_pay43 _) (eq_ix2 y)).trans (pay43_at _ _ _)).trans (hA.trans ?_)
  refine (congrArg (fun x : ℝ => (x : EReal)) (a.sum_dk (ptB t) (ptH t) (K := 768 * (t.val % 3) + (y 0).val) (by omega) (y 1).val)).trans
    (outOf_at 256 2048 a.dk (ptB t) (ptH t) _ (y 1).val (by omega) h1 _ ?_ ?_)
  · blk_simp [idx_8]
    show (3 * (t.val / 24) + t.val % 3) * 768 + (y 0).val = 2304 * (t.val / 24) + (768 * (t.val % 3) + (y 0).val)
    omega
  · blk_simp [idx_8]
    show (t.val / 3 % 8) * 256 + (y 1).val = 256 * (t.val / 3 % 8) + (y 1).val
    omega

/-- The gradient of the values after the run. -/
theorem final_dv (H : Ref.Are (argQ m c) (argK m c) (argV m c) (argD m c) a) : (dats m 0 c).arrAt 9 cfg0.N = outOf 128 1024 a.dv := by
  refine (dats m 0 c).arrAt_eq_of_covers 9 _ (by decide +kernel) fun t hf y => ?_
  blk_simp
  rw [after0_9]
  have h0 : (y 0).val < 768 := (y 0).isLt
  have h1 : (y 1).val < 128 := (y 1).isLt
  have hA := (acc_at m c (fun t => ins_is m c t H) t).dv (y 0) (y 1)
  generalize acc m c t = s at hA ⊢
  refine ((congrArg (k0_pay1 _) (eq_ix2 y)).trans (pay1_at _ _ _)).trans (hA.trans ?_)
  refine (congrArg (fun x : ℝ => (x : EReal)) (a.sum_dv (ptB t) (ptH t) (K := 768 * (t.val % 3) + (y 0).val) (by omega) (y 1).val)).trans
    (outOf_at 128 1024 a.dv (ptB t) (ptH t) _ (y 1).val (by omega) h1 _ ?_ ?_)
  · blk_simp [idx_9]
    show (3 * (t.val / 24) + t.val % 3) * 768 + (y 0).val = 2304 * (t.val / 24) + (768 * (t.val % 3) + (y 0).val)
    omega
  · blk_simp [idx_9]
    show (t.val / 3 % 8) * 128 + (y 1).val = 128 * (t.val / 3 % 8) + (y 1).val
    omega

end Cert.Proof.AttnBwd

end
-- ==== Proof.AttnBwd.Finite.lean ====
/-
  The precondition: every entry of the four arguments is finite. So each is a real number.
-/
module

public import proofs.«01_k».proof.Defs
public import proofs.«01_k».proof.Proof.AttnBwd.MaxAt
public import proofs.«01_k».proof.Proof.AttnBwd.Ref

@[expose] public section

set_option maxRecDepth 16384

noncomputable section

namespace Cert.Proof.AttnBwd

open Idealize.ShloMosaic Idealize.ShloMosaic.TcCoe

/-- The precondition's shape facts. -/
theorem preFacts : Cert.Pre_finite_inputs.Facts := ⟨by decide, by decide⟩

/-- The word of plus infinity is the top of the extended reals. -/
theorem posInf : Ideal.ofBits FTy.f32 0x7F800000#32 = ⊤ := by
  simp [Ideal.ofBits, Ideal.ieee]

/-- An entry strictly between minus and plus infinity is a real number. -/
theorem real_of_cmp {s : Shape} (x lo hi : FVec Ideal s .f32) (i : s.Idx) (hlo : lo i = Ideal.ofBits FTy.f32 0xFF800000#32)
    (hhi : hi i = Ideal.ofBits FTy.f32 0x7F800000#32) (H : andi (cmpf .ogt x lo) (cmpf .olt x hi) = fun _ => 1#1) :
    x i = (((x i : EReal).toReal : ℝ) : EReal) := by
  have h := congrFun H i
  have h' : Ideal.cmp .ogt (x i) (lo i) &&& Ideal.cmp .olt (x i) (hi i) = 1#1 := h
  rw [hlo, hhi, negInf, posInf] at h'
  have h1 : (⊥ : EReal) < x i := by
    by_contra hn
    simp [Ideal.cmp, hn] at h'
  have h2 : x i < (⊤ : EReal) := by
    by_contra hn
    simp [Ideal.cmp, hn] at h'
  exact (EReal.coe_toReal h2.ne h1.ne').symm

variable [Cert.Pre_finite_inputs.Facts]

/-- Four arrays the precondition holds of are the real numbers of some `a`. -/
theorem are_of_finite (q k : FVec Ideal Cert.Pre_finite_inputs.S4x2064x8x192 .f32) (v d : FVec Ideal Cert.Pre_finite_inputs.S4x2064x8x128 .f32)
    (h0 : (Cert.Pre_finite_inputs.fn q k v d).1 = fun _ => 1#1) (h1 : (Cert.Pre_finite_inputs.fn q k v d).2.1 = fun _ => 1#1)
    (h2 : (Cert.Pre_finite_inputs.fn q k v d).2.2.1 = fun _ => 1#1) (h3 : (Cert.Pre_finite_inputs.fn q k v d).2.2.2 = fun _ => 1#1) :
    ∃ a : Args, Ref.Are q k v d a :=
  ⟨⟨fun b i h e => (q (ix4 b i h e) : EReal).toReal, fun b i h e => (k (ix4 b i h e) : EReal).toReal,
    fun b i h e => (v (ix4 b i h e) : EReal).toReal, fun b i h e => (d (ix4 b i h e) : EReal).toReal⟩,
    fun _ _ _ _ => real_of_cmp q _ _ _ rfl rfl h0, fun _ _ _ _ => real_of_cmp k _ _ _ rfl rfl h1,
    fun _ _ _ _ => real_of_cmp v _ _ _ rfl rfl h2, fun _ _ _ _ => real_of_cmp d _ _ _ rfl rfl h3⟩

end Cert.Proof.AttnBwd

end
-- ==== Proof.WGrad.Square.lean ====
/-
  The gradient of a weight of 1024 by 1024: what the call leaves in its result array, element by element, is the
  sum over all rows of the products of the two inputs' elements, and that is the reference's result.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradSquare

open Cert.Kernel3Ideal Cert.Kernel3Ideal.Gen
open Idealize.ShloMosaic Idealize.ShloMosaic.TcCoe Idealize.SL.Sem

/-- What two blocks of rows add at a place: their products, summed over the rows. -/
def part (a : Vec Ideal S1536x1024 .bf16) (d : Vec Ideal S1536x1024 .bf16) (j : S1024x1024.Idx) : EReal :=
  ∑ k : Fin 1536, (a (ix2 k (j 0)) : EReal) * d (ix2 k (j 1))

/-- One block's addition: the accumulator plus what the blocks add. -/
theorem pay2_at (x : Vec Ideal S1024x1024 .f32) (a : Vec Ideal S1536x1024 .bf16) (d : Vec Ideal S1536x1024 .bf16) (j : S1024x1024.Idx) :
    k0_pay2 x a d j = x j + part a d j := by
  unfold part
  rw [eq_ix2 j]
  pointwise [k0_pay2]

/-- The accumulator's first contents are zeros. -/
theorem pay1_at (j : S1024x1024.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S1024x1024.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x1024.Idx → EReal) (d : S9216x1024.Idx → EReal) (j : S1024x1024.Idx) : EReal :=
  ∑ k : Fin 9216, a (ix2 k (j 0)) * d (ix2 k (j 1))

/-- The place of the first input's block. -/
theorem idx_0 : ∀ t : Fin cfg0.N, win0_0.index t = ![t.val % 6, 0] :=
  (by decide +kernel : ∀ t : Fin grid0.N, win0_0.index t = ![t.val % 6, 0])
/-- The place of the second input's block. -/
theorem idx_1 : ∀ t : Fin cfg0.N, win0_1.index t = ![t.val % 6, 0] :=
  (by decide +kernel : ∀ t : Fin grid0.N, win0_1.index t = ![t.val % 6, 0])
/-- The place of the result's block. -/
theorem idx_2 : ∀ t : Fin cfg0.N, win0_2.index t = ![0, 0] :=
  (by decide +kernel : ∀ t : Fin grid0.N, win0_2.index t = ![0, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x1024 .f32) (d : FVec Ideal S9216x1024 .f32) :
    prod a d = transpose Cert.Reference3Ideal.S1024x1024 [1, 0] (Host.dotGeneral (F := Ideal)
      Cert.Reference3Ideal.dot_S9216x1024_S9216x1024_S1024x1024_0_0_1_1_n_n none d a) Cert.Reference3Ideal.Gen.transposes_S1024x1024_S1024x1024_1_0 := by
  funext j
  rw [eq_ix2 j]
  unfold prod
  pointwise
  refine Finset.sum_congr rfl fun k _ => mul_comm _ _

/-- The kernel at machine numbers ends quiescent. -/
theorem frame_kernel : Cert.quiescent_Kernel3 := fun m ρ _ => Cert.Kernel3.Gen.frame m ρ

/-- The kernel at exact numbers ends quiescent. -/
theorem frame_kernel_ideal : Cert.quiescent_Kernel3Ideal := fun m ρ _ => Cert.Kernel3Ideal.Gen.frame m ρ

/-- The reference ends quiescent. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- At exact numbers the kernel's result is the reference's. -/
theorem algebraic : Cert.algebraic_Kernel3Ideal_Reference3Ideal := by
  intro m ρ m' ρ' _ hagree
  refine ⟨fun c => prod (m ((c : Thread nD τ).loc main_arg0)) (m ((c : Thread nD τ).loc main_arg1)), ?_, ?_⟩
  · exact (θ_run Cert.Kernel3Ideal.defs _ _).mono (fun _ hr c => ⟨(hr c).1.trans (final m c), (hr c).2⟩)
      (Cert.Kernel3Ideal.Value.run_blocks m ρ)
  · refine (θ_run Cert.Reference3Ideal.defs _ _).mono (fun _ hr c => ⟨(hr c).1.trans ?_, (hr c).2⟩)
      (Cert.Reference3Ideal.Value.run (F := Ideal) m' ρ')
    rw [(hagree c).1, (hagree c).2]
    exact (ref_eq _ _).symm

end Cert.Proof.WGradSquare
end
-- ==== Proof.WGrad.FfnIn.lean ====
/-
  The gradient of the feed-forward layer's first weight: what the call leaves in its result array, element by element, is the
  sum over all rows of the products of the two inputs' elements, and that is the reference's result.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradFfnIn

open Cert.Kernel4Ideal Cert.Kernel4Ideal.Gen
open Idealize.ShloMosaic Idealize.ShloMosaic.TcCoe Idealize.SL.Sem

/-- What two blocks of rows add at a place: their products, summed over the rows. -/
def part (a : Vec Ideal S1536x1024 .bf16) (d : Vec Ideal S1536x1408 .bf16) (j : S1024x1408.Idx) : EReal :=
  ∑ k : Fin 1536, (a (ix2 k (j 0)) : EReal) * d (ix2 k (j 1))

/-- One block's addition: the accumulator plus what the blocks add. -/
theorem pay2_at (x : Vec Ideal S1024x1408 .f32) (a : Vec Ideal S1536x1024 .bf16) (d : Vec Ideal S1536x1408 .bf16) (j : S1024x1408.Idx) :
    k0_pay2 x a d j = x j + part a d j := by
  unfold part
  rw [eq_ix2 j]
  pointwise [k0_pay2]

/-- The accumulator's first contents are zeros. -/
theorem pay1_at (j : S1024x1408.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S1024x1408.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x1024.Idx → EReal) (d : S9216x5632.Idx → EReal) (j : S1024x5632.Idx) : EReal :=
  ∑ k : Fin 9216, a (ix2 k (j 0)) * d (ix2 k (j 1))

/-- The place of the first input's block. -/
theorem idx_0 : ∀ t : Fin cfg0.N, win0_0.index t = ![t.val % 6, 0] :=
  (by decide +kernel : ∀ t : Fin grid0.N, win0_0.index t = ![t.val % 6, 0])
/-- The place of the second input's block. -/
theorem idx_1 : ∀ t : Fin cfg0.N, win0_1.index t = ![t.val % 6, t.val / 6] :=
  (by decide +kernel : ∀ t : Fin grid0.N, win0_1.index t = ![t.val % 6, t.val / 6])
/-- The place of the result's block. -/
theorem idx_2 : ∀ t : Fin cfg0.N, win0_2.index t = ![0, t.val / 6] :=
  (by decide +kernel : ∀ t : Fin grid0.N, win0_2.index t = ![0, t.val / 6])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x1024 .f32) (d : FVec Ideal S9216x5632 .f32) :
    prod a d = transpose Cert.Reference4Ideal.S1024x5632 [1, 0] (Host.dotGeneral (F := Ideal)
      Cert.Reference4Ideal.dot_S9216x5632_S9216x1024_S5632x1024_0_0_1_1_n_n none d a) Cert.Reference4Ideal.Gen.transposes_S5632x1024_S1024x5632_1_0 := by
  funext j
  rw [eq_ix2 j]
  unfold prod
  pointwise
  refine Finset.sum_congr rfl fun k _ => mul_comm _ _

/-- The kernel at machine numbers ends quiescent. -/
theorem frame_kernel : Cert.quiescent_Kernel4 := fun m ρ _ => Cert.Kernel4.Gen.frame m ρ

/-- The kernel at exact numbers ends quiescent. -/
theorem frame_kernel_ideal : Cert.quiescent_Kernel4Ideal := fun m ρ _ => Cert.Kernel4Ideal.Gen.frame m ρ

/-- The reference ends quiescent. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- At exact numbers the kernel's result is the reference's. -/
theorem algebraic : Cert.algebraic_Kernel4Ideal_Reference4Ideal := by
  intro m ρ m' ρ' _ hagree
  refine ⟨fun c => prod (m ((c : Thread nD τ).loc main_arg0)) (m ((c : Thread nD τ).loc main_arg1)), ?_, ?_⟩
  · exact (θ_run Cert.Kernel4Ideal.defs _ _).mono (fun _ hr c => ⟨(hr c).1.trans (final m c), (hr c).2⟩)
      (Cert.Kernel4Ideal.Value.run_blocks m ρ)
  · refine (θ_run Cert.Reference4Ideal.defs _ _).mono (fun _ hr c => ⟨(hr c).1.trans ?_, (hr c).2⟩)
      (Cert.Reference4Ideal.Value.run (F := Ideal) m' ρ')
    rw [(hagree c).1, (hagree c).2]
    exact (ref_eq _ _).symm

end Cert.Proof.WGradFfnIn
end
-- ==== Proof.WGrad.FfnOut.lean ====
/-
  The gradient of the feed-forward layer's second weight: what the call leaves in its result array, element by element, is the
  sum over all rows of the products of the two inputs' elements, and that is the reference's result.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradFfnOut

open Cert.Kernel5Ideal Cert.Kernel5Ideal.Gen
open Idealize.ShloMosaic Idealize.ShloMosaic.TcCoe Idealize.SL.Sem

/-- What two blocks of rows add at a place: their products, summed over the rows. -/
def part (a : Vec Ideal S1536x1408 .bf16) (d : Vec Ideal S1536x1024 .bf16) (j : S1408x1024.Idx) : EReal :=
  ∑ k : Fin 1536, (a (ix2 k (j 0)) : EReal) * d (ix2 k (j 1))

/-- One block's addition: the accumulator plus what the blocks add. -/
theorem pay2_at (x : Vec Ideal S1408x1024 .f32) (a : Vec Ideal S1536x1408 .bf16) (d : Vec Ideal S1536x1024 .bf16) (j : S1408x1024.Idx) :
    k0_pay2 x a d j = x j + part a d j := by
  unfold part
  rw [eq_ix2 j]
  pointwise [k0_pay2]

/-- The accumulator's first contents are zeros. -/
theorem pay1_at (j : S1408x1024.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S1408x1024.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x2816.Idx → EReal) (d : S9216x1024.Idx → EReal) (j : S2816x1024.Idx) : EReal :=
  ∑ k : Fin 9216, a (ix2 k (j 0)) * d (ix2 k (j 1))

/-- The place of the first input's block. -/
theorem idx_0 : ∀ t : Fin cfg0.N, win0_0.index t = ![t.val % 6, t.val / 6] :=
  (by decide +kernel : ∀ t : Fin grid0.N, win0_0.index t = ![t.val % 6, t.val / 6])
/-- The place of the second input's block. -/
theorem idx_1 : ∀ t : Fin cfg0.N, win0_1.index t = ![t.val % 6, 0] :=
  (by decide +kernel : ∀ t : Fin grid0.N, win0_1.index t = ![t.val % 6, 0])
/-- The place of the result's block. -/
theorem idx_2 : ∀ t : Fin cfg0.N, win0_2.index t = ![t.val / 6, 0] :=
  (by decide +kernel : ∀ t : Fin grid0.N, win0_2.index t = ![t.val / 6, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x2816 .f32) (d : FVec Ideal S9216x1024 .f32) :
    prod a d = transpose Cert.Reference5Ideal.S2816x1024 [1, 0] (Host.dotGeneral (F := Ideal)
      Cert.Reference5Ideal.dot_S9216x1024_S9216x2816_S1024x2816_0_0_1_1_n_n none d a) Cert.Reference5Ideal.Gen.transposes_S1024x2816_S2816x1024_1_0 := by
  funext j
  rw [eq_ix2 j]
  unfold prod
  pointwise
  refine Finset.sum_congr rfl fun k _ => mul_comm _ _

/-- The kernel at machine numbers ends quiescent. -/
theorem frame_kernel : Cert.quiescent_Kernel5 := fun m ρ _ => Cert.Kernel5.Gen.frame m ρ

/-- The kernel at exact numbers ends quiescent. -/
theorem frame_kernel_ideal : Cert.quiescent_Kernel5Ideal := fun m ρ _ => Cert.Kernel5Ideal.Gen.frame m ρ

/-- The reference ends quiescent. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- At exact numbers the kernel's result is the reference's. -/
theorem algebraic : Cert.algebraic_Kernel5Ideal_Reference5Ideal := by
  intro m ρ m' ρ' _ hagree
  refine ⟨fun c => prod (m ((c : Thread nD τ).loc main_arg0)) (m ((c : Thread nD τ).loc main_arg1)), ?_, ?_⟩
  · exact (θ_run Cert.Kernel5Ideal.defs _ _).mono (fun _ hr c => ⟨(hr c).1.trans (final m c), (hr c).2⟩)
      (Cert.Kernel5Ideal.Value.run_blocks m ρ)
  · refine (θ_run Cert.Reference5Ideal.defs _ _).mono (fun _ hr c => ⟨(hr c).1.trans ?_, (hr c).2⟩)
      (Cert.Reference5Ideal.Value.run (F := Ideal) m' ρ')
    rw [(hagree c).1, (hagree c).2]
    exact (ref_eq _ _).symm

end Cert.Proof.WGradFfnOut
end
-- ==== Proof.WGrad.Gates.lean ====
/-
  The gradient of the gates' columns of the input weight: what the call leaves in its result array, element by element, is the
  sum over all rows of the products of the two inputs' elements, and that is the reference's result.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradGates

open Cert.Kernel6Ideal Cert.Kernel6Ideal.Gen
open Idealize.ShloMosaic Idealize.ShloMosaic.TcCoe Idealize.SL.Sem

/-- What two blocks of rows add at a place: their products, summed over the rows. -/
def part (a : Vec Ideal S1536x1024 .bf16) (d : Vec Ideal S1536x1024 .bf16) (j : S1024x1024.Idx) : EReal :=
  ∑ k : Fin 1536, (a (ix2 k (j 0)) : EReal) * d (ix2 k (j 1))

/-- One block's addition: the accumulator plus what the blocks add. -/
theorem pay2_at (x : Vec Ideal S1024x1024 .f32) (a : Vec Ideal S1536x1024 .bf16) (d : Vec Ideal S1536x1024 .bf16) (j : S1024x1024.Idx) :
    k0_pay2 x a d j = x j + part a d j := by
  unfold part
  rw [eq_ix2 j]
  pointwise [k0_pay2]

/-- The accumulator's first contents are zeros. -/
theorem pay1_at (j : S1024x1024.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S1024x1024.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x1024.Idx → EReal) (d : S9216x2048.Idx → EReal) (j : S1024x2048.Idx) : EReal :=
  ∑ k : Fin 9216, a (ix2 k (j 0)) * d (ix2 k (j 1))

/-- The place of the first input's block. -/
theorem idx_0 : ∀ t : Fin cfg0.N, win0_0.index t = ![t.val % 6, 0] :=
  (by decide +kernel : ∀ t : Fin grid0.N, win0_0.index t = ![t.val % 6, 0])
/-- The place of the second input's block. -/
theorem idx_1 : ∀ t : Fin cfg0.N, win0_1.index t = ![t.val % 6, t.val / 6] :=
  (by decide +kernel : ∀ t : Fin grid0.N, win0_1.index t = ![t.val % 6, t.val / 6])
/-- The place of the result's block. -/
theorem idx_2 : ∀ t : Fin cfg0.N, win0_2.index t = ![0, t.val / 6] :=
  (by decide +kernel : ∀ t : Fin grid0.N, win0_2.index t = ![0, t.val / 6])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x1024 .f32) (d : FVec Ideal S9216x2048 .f32) :
    prod a d = transpose Cert.Reference6Ideal.S1024x2048 [1, 0] (Host.dotGeneral (F := Ideal)
      Cert.Reference6Ideal.dot_S9216x2048_S9216x1024_S2048x1024_0_0_1_1_n_n none d a) Cert.Reference6Ideal.Gen.transposes_S2048x1024_S1024x2048_1_0 := by
  funext j
  rw [eq_ix2 j]
  unfold prod
  pointwise
  refine Finset.sum_congr rfl fun k _ => mul_comm _ _

/-- The kernel at machine numbers ends quiescent. -/
theorem frame_kernel : Cert.quiescent_Kernel6 := fun m ρ _ => Cert.Kernel6.Gen.frame m ρ

/-- The kernel at exact numbers ends quiescent. -/
theorem frame_kernel_ideal : Cert.quiescent_Kernel6Ideal := fun m ρ _ => Cert.Kernel6Ideal.Gen.frame m ρ

/-- The reference ends quiescent. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- At exact numbers the kernel's result is the reference's. -/
theorem algebraic : Cert.algebraic_Kernel6Ideal_Reference6Ideal := by
  intro m ρ m' ρ' _ hagree
  refine ⟨fun c => prod (m ((c : Thread nD τ).loc main_arg0)) (m ((c : Thread nD τ).loc main_arg1)), ?_, ?_⟩
  · exact (θ_run Cert.Kernel6Ideal.defs _ _).mono (fun _ hr c => ⟨(hr c).1.trans (final m c), (hr c).2⟩)
      (Cert.Kernel6Ideal.Value.run_blocks m ρ)
  · refine (θ_run Cert.Reference6Ideal.defs _ _).mono (fun _ hr c => ⟨(hr c).1.trans ?_, (hr c).2⟩)
      (Cert.Reference6Ideal.Value.run (F := Ideal) m' ρ')
    rw [(hagree c).1, (hagree c).2]
    exact (ref_eq _ _).symm

end Cert.Proof.WGradGates
end
-- ==== Proof.WGrad.Latent.lean ====
/-
  The gradient of the latent attention's columns of the input weight: what the call leaves in its result array, element by element, is the
  sum over all rows of the products of the two inputs' elements, and that is the reference's result.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradLatent

open Cert.Kernel7Ideal Cert.Kernel7Ideal.Gen
open Idealize.ShloMosaic Idealize.ShloMosaic.TcCoe Idealize.SL.Sem

/-- What two blocks of rows add at a place: their products, summed over the rows. -/
def part (a : Vec Ideal S1536x1024 .bf16) (d : Vec Ideal S1536x640 .bf16) (j : S1024x640.Idx) : EReal :=
  ∑ k : Fin 1536, (a (ix2 k (j 0)) : EReal) * d (ix2 k (j 1))

/-- One block's addition: the accumulator plus what the blocks add. -/
theorem pay2_at (x : Vec Ideal S1024x640 .f32) (a : Vec Ideal S1536x1024 .bf16) (d : Vec Ideal S1536x640 .bf16) (j : S1024x640.Idx) :
    k0_pay2 x a d j = x j + part a d j := by
  unfold part
  rw [eq_ix2 j]
  pointwise [k0_pay2]

/-- The accumulator's first contents are zeros. -/
theorem pay1_at (j : S1024x640.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S1024x640.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x1024.Idx → EReal) (d : S9216x640.Idx → EReal) (j : S1024x640.Idx) : EReal :=
  ∑ k : Fin 9216, a (ix2 k (j 0)) * d (ix2 k (j 1))

/-- The place of the first input's block. -/
theorem idx_0 : ∀ t : Fin cfg0.N, win0_0.index t = ![t.val % 6, 0] :=
  (by decide +kernel : ∀ t : Fin grid0.N, win0_0.index t = ![t.val % 6, 0])
/-- The place of the second input's block. -/
theorem idx_1 : ∀ t : Fin cfg0.N, win0_1.index t = ![t.val % 6, 0] :=
  (by decide +kernel : ∀ t : Fin grid0.N, win0_1.index t = ![t.val % 6, 0])
/-- The place of the result's block. -/
theorem idx_2 : ∀ t : Fin cfg0.N, win0_2.index t = ![0, 0] :=
  (by decide +kernel : ∀ t : Fin grid0.N, win0_2.index t = ![0, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x1024 .f32) (d : FVec Ideal S9216x640 .f32) :
    prod a d = transpose Cert.Reference7Ideal.S1024x640 [1, 0] (Host.dotGeneral (F := Ideal)
      Cert.Reference7Ideal.dot_S9216x640_S9216x1024_S640x1024_0_0_1_1_n_n none d a) Cert.Reference7Ideal.Gen.transposes_S640x1024_S1024x640_1_0 := by
  funext j
  rw [eq_ix2 j]
  unfold prod
  pointwise
  refine Finset.sum_congr rfl fun k _ => mul_comm _ _

/-- The kernel at machine numbers ends quiescent. -/
theorem frame_kernel : Cert.quiescent_Kernel7 := fun m ρ _ => Cert.Kernel7.Gen.frame m ρ

/-- The kernel at exact numbers ends quiescent. -/
theorem frame_kernel_ideal : Cert.quiescent_Kernel7Ideal := fun m ρ _ => Cert.Kernel7Ideal.Gen.frame m ρ

/-- The reference ends quiescent. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- At exact numbers the kernel's result is the reference's. -/
theorem algebraic : Cert.algebraic_Kernel7Ideal_Reference7Ideal := by
  intro m ρ m' ρ' _ hagree
  refine ⟨fun c => prod (m ((c : Thread nD τ).loc main_arg0)) (m ((c : Thread nD τ).loc main_arg1)), ?_, ?_⟩
  · exact (θ_run Cert.Kernel7Ideal.defs _ _).mono (fun _ hr c => ⟨(hr c).1.trans (final m c), (hr c).2⟩)
      (Cert.Kernel7Ideal.Value.run_blocks m ρ)
  · refine (θ_run Cert.Reference7Ideal.defs _ _).mono (fun _ hr c => ⟨(hr c).1.trans ?_, (hr c).2⟩)
      (Cert.Reference7Ideal.Value.run (F := Ideal) m' ρ')
    rw [(hagree c).1, (hagree c).2]
    exact (ref_eq _ _).symm

end Cert.Proof.WGradLatent
end
-- ==== Proof.WGrad.Up.lean ====
/-
  The gradient of an up-projection of the latent attention: what the call leaves in its result array, element by element, is the
  sum over all rows of the products of the two inputs' elements, and that is the reference's result.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WGradUp

open Cert.Kernel8Ideal Cert.Kernel8Ideal.Gen
open Idealize.ShloMosaic Idealize.ShloMosaic.TcCoe Idealize.SL.Sem

/-- What two blocks of rows add at a place: their products, summed over the rows. -/
def part (a : Vec Ideal S1536x256 .bf16) (d : Vec Ideal S1536x1024 .bf16) (j : S256x1024.Idx) : EReal :=
  ∑ k : Fin 1536, (a (ix2 k (j 0)) : EReal) * d (ix2 k (j 1))

/-- One block's addition: the accumulator plus what the blocks add. -/
theorem pay2_at (x : Vec Ideal S256x1024 .f32) (a : Vec Ideal S1536x256 .bf16) (d : Vec Ideal S1536x1024 .bf16) (j : S256x1024.Idx) :
    k0_pay2 x a d j = x j + part a d j := by
  unfold part
  rw [eq_ix2 j]
  pointwise [k0_pay2]

/-- The accumulator's first contents are zeros. -/
theorem pay1_at (j : S256x1024.Idx) : k0_pay1 (F := Ideal) j = 0 := by
  pointwise [k0_pay1]

variable (m : (ℓ : Loc nD τ sig) → Buf (Elt Ideal) ℓ) (c : Dev nD)

/-- At a point that stores its result, the result is the accumulator. -/
theorem out_eq (t : Fin cfg0.N) (h : t.val % 6 = 5) : (outsAt0 m c t.val t.isLt).1 = (outsAt0 m c t.val t.isLt).2 := by
  rw [outsAt0_C m c t (by omega) h]
  frame_out

/-- The accumulator at a storing point: the six blocks' sums. -/
theorem acc_eq (t : Fin cfg0.N) (h : t.val % 6 = 5) (j : S256x1024.Idx) :
    (outsAt0 m c t.val t.isLt).2 j = ∑ s : Fin 6, part (iblk m c 0 ⟨6 * (t.val / 6) + s.val, Pipeline.run_point_lt_of_flush t h s⟩)
      (iblk m c 1 ⟨6 * (t.val / 6) + s.val, Pipeline.run_point_lt_of_flush t h s⟩) j := by
  refine (Pipeline.eq_sum_fin_of_reset_step_apply_of_flush (fun n h => (outsAt0 m c n h).2) 6 (fun _ => (0 : EReal))
    (fun t => part (iblk m c 0 t) (iblk m c 1 t)) (fun t h j => ?_) (fun t h j => ?_) t h j).trans (zero_add _)
  · rw [outsAt0_A m c t h (by omega)]
    frame_out
    rw [pay2_at, pay1_at]
  · by_cases h1 : t.val % 6 = 5
    · rw [outsAt0_C m c t h h1]
      frame_out
      simp only [read_unread_whole]
      rw [pay2_at]
    · rw [outsAt0_B m c t h h1]
      frame_out
      simp only [read_unread_whole]
      rw [pay2_at]

/-- The sum over all rows of the products of two arrays' elements, at a place. -/
def prod (a : S9216x256.Idx → EReal) (d : S9216x2048.Idx → EReal) (j : S256x2048.Idx) : EReal :=
  ∑ k : Fin 9216, a (ix2 k (j 0)) * d (ix2 k (j 1))

/-- The place of the first input's block. -/
theorem idx_0 : ∀ t : Fin cfg0.N, win0_0.index t = ![t.val % 6, 0] :=
  (by decide +kernel : ∀ t : Fin grid0.N, win0_0.index t = ![t.val % 6, 0])
/-- The place of the second input's block. -/
theorem idx_1 : ∀ t : Fin cfg0.N, win0_1.index t = ![t.val % 6, t.val / 6] :=
  (by decide +kernel : ∀ t : Fin grid0.N, win0_1.index t = ![t.val % 6, t.val / 6])
/-- The place of the result's block. -/
theorem idx_2 : ∀ t : Fin cfg0.N, win0_2.index t = ![0, t.val / 6] :=
  (by decide +kernel : ∀ t : Fin grid0.N, win0_2.index t = ![0, t.val / 6])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h : t.val % 6 = 5 := (flush0_2 t).mp hf
  blk_simp
  rw [after0_2, out_eq m c t h, acc_eq m c t h]
  unfold part prod
  refine Fin.sum_mul_add_congr fun s k hl => ?_
  blk_point [iblk, V, idx_0 ⟨6 * (t.val / 6) + s.val, Pipeline.run_point_lt_of_flush t h s⟩,
    idx_1 ⟨6 * (t.val / 6) + s.val, Pipeline.run_point_lt_of_flush t h s⟩, idx_2 t]

/-- The reference's result. -/
theorem ref_eq (a : FVec Ideal S9216x256 .f32) (d : FVec Ideal S9216x2048 .f32) :
    prod a d = transpose Cert.Reference8Ideal.S256x2048 [1, 0] (Host.dotGeneral (F := Ideal)
      Cert.Reference8Ideal.dot_S9216x2048_S9216x256_S2048x256_0_0_1_1_n_n none d a) Cert.Reference8Ideal.Gen.transposes_S2048x256_S256x2048_1_0 := by
  funext j
  rw [eq_ix2 j]
  unfold prod
  pointwise
  refine Finset.sum_congr rfl fun k _ => mul_comm _ _

/-- The kernel at machine numbers ends quiescent. -/
theorem frame_kernel : Cert.quiescent_Kernel8 := fun m ρ _ => Cert.Kernel8.Gen.frame m ρ

/-- The kernel at exact numbers ends quiescent. -/
theorem frame_kernel_ideal : Cert.quiescent_Kernel8Ideal := fun m ρ _ => Cert.Kernel8Ideal.Gen.frame m ρ

/-- The reference ends quiescent. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- At exact numbers the kernel's result is the reference's. -/
theorem algebraic : Cert.algebraic_Kernel8Ideal_Reference8Ideal := by
  intro m ρ m' ρ' _ hagree
  refine ⟨fun c => prod (m ((c : Thread nD τ).loc main_arg0)) (m ((c : Thread nD τ).loc main_arg1)), ?_, ?_⟩
  · exact (θ_run Cert.Kernel8Ideal.defs _ _).mono (fun _ hr c => ⟨(hr c).1.trans (final m c), (hr c).2⟩)
      (Cert.Kernel8Ideal.Value.run_blocks m ρ)
  · refine (θ_run Cert.Reference8Ideal.defs _ _).mono (fun _ hr c => ⟨(hr c).1.trans ?_, (hr c).2⟩)
      (Cert.Reference8Ideal.Value.run (F := Ideal) m' ρ')
    rw [(hagree c).1, (hagree c).2]
    exact (ref_eq _ _).symm

end Cert.Proof.WGradUp
end
-- ==== Proof.Whole.lean ====
/-
  A buffer that one transfer fills whole: what it holds, and what a load of a part of it reads.
-/
module

public import Idealize.ShloMosaic.Lib.Pipeline.ValueKit
public import Idealize.ShloMosaic.Lib.Pipeline.ReadBack

@[expose] public section

noncomputable section

namespace Cert.Proof.Whole

open Idealize.ShloMosaic

variable {Val : EltTy → Type} {S : Shape} {e : EltTy}

/-- A buffer filled whole holds what it was filled with. -/
theorem canon_whole [∀ e, Nonempty (Val e)] (w : S.Idx → Val e) : View.canon (Val := Val) (e := e) [⟨Rect.whole S, w⟩] = w := by
  funext y
  have h := View.canon_cons_emb (Val := Val) (e := e) (Rect.whole S) w [] y
  rw [Rect.emb_whole_apply] at h
  exact h

/-- A load of a part of it reads the part. -/
theorem readCov_whole [∀ e, Nonempty (Val e)] {sig : RefSig} {κ : Kind} {sp : Space} (v : View sig κ sp S e) (w : S.Idx → Val e) (r : Rect S) :
    v.readCov (Val := Val) [⟨Rect.whole S, w⟩] r.toLoadRect = View.ld w r := by
  rw [View.readCov_eq_canon', canon_whole]

end Cert.Proof.Whole
end
-- ==== Proof.SwigluBwd.Point.lean ====
/-
  The gradient of the SwiGLU layer: what one grid point leaves in its two result blocks and in the scratch that holds the
  weight.
-/
module

public import proofs.«01_k».proof.Proof.Gen.Kernel2Ideal.Value
public import proofs.«01_k».proof.Proof.Whole
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.SwigluBwd

open Cert.Kernel2Ideal Cert.Kernel2Ideal.Gen
open Idealize.ShloMosaic Idealize.ShloMosaic.TcCoe

variable (m : (ℓ : Loc nD τ sig) → Buf (Elt Ideal) ℓ) (c : Dev nD)

/-- What a transfer of a whole array brings is the array. -/
theorem transfer_eq (X : Vec Ideal S1024x5632 .bf16) : ReadAs.same.apply (View.read (Elt Ideal) (View.whole main_v3) X) = X := rfl

/-- The scratch holds the weight after every point. -/
theorem held (t : Fin cfg0.N) : (outsAt0 m c t.val t.isLt).2.2 = V m c main_v3 := by
  refine Pipeline.eq_of_write_hold (fun n h => (outsAt0 m c n h).2.2) 36 (fun _ => V m c main_v3) (fun t h => ?_) (fun t h => ?_) t
  · rw [outsAt0_A m c t h]
    frame_out
    rw [Whole.canon_whole, transfer_eq]
  · rw [outsAt0_B m c t h]
    rfl

/-- What a point leaves in the block of the gradient of the layer's input, of the blocks it reads. -/
def du (x0 x1 x2 : Vec Ideal S256x2816 .bf16) (w : Vec Ideal S1024x5632 .bf16) : Vec Ideal S256x1024 .bf16 :=
  k0_pay1 (k0_pay6 x0 x2) (k0_pay8 x0 x1 x2) (View.ld w (Rect.unit ![0, 0] ![1024, 2816] inb_S1024x5632_S1024x2816_0_0))
    (constant S256x1024 FTy.f32 0#32) (View.ld w (Rect.unit ![0, 2816] ![1024, 2816] inb_S1024x5632_S1024x2816_0_2816))

/-- What every point leaves in the block of the gradient of the layer's input. -/
theorem out_du (t : Fin cfg0.N) : (outsAt0 m c t.val t.isLt).1 = du (iblk m c 0 t) (iblk m c 1 t) (iblk m c 2 t) (V m c main_v3) := by
  unfold du
  by_cases h : t.val % 36 = 0
  · rw [outsAt0_A m c t h]
    frame_out
    rw [Whole.readCov_whole, Whole.readCov_whole, transfer_eq]
  · rw [outsAt0_B m c t h]
    frame_out
    simp only [read_unread_whole]
    rw [held m c ⟨t.val - 1, Nat.lt_of_le_of_lt (Nat.sub_le _ _) t.isLt⟩]

/-- What every point leaves in the block of the gradient of the two products. -/
theorem out_dgu (t : Fin cfg0.N) : (outsAt0 m c t.val t.isLt).2.1 = k0_pay2 (k0_pay7 (iblk m c 0 t) (iblk m c 1 t) (iblk m c 2 t)) := by
  by_cases h : t.val % 36 = 0
  · rw [outsAt0_A m c t h]
    frame_out
  · rw [outsAt0_B m c t h]
    frame_out

/-- The gradient in the gate's product `x`, of the other product `u` and the output's gradient `d`, as the kernel takes it. -/
def gate (x u d : EReal) : EReal :=
  d * u * (Ideal.div 1 (1 + Ideal.exp (0 - x)) * (1 + x * (1 - Ideal.div 1 (1 + Ideal.exp (0 - x)))))

/-- The gradient in the other product, as the kernel takes it. -/
def val (x d : EReal) : EReal := d * (x * Ideal.div 1 (1 + Ideal.exp (0 - x)))

/-- One point's gradient in the gate's product, at a place. -/
theorem pay5_at (x0 x1 x2 : Vec Ideal S256x2816 .bf16) (r : Fin 256) (k : Fin 2816) :
    k0_pay5 x0 x1 x2 (ix2 r k) = gate (x0 (ix2 r k)) (x1 (ix2 r k)) (x2 (ix2 r k)) := by
  unfold gate
  pointwise [k0_pay5, k0_pay4, k0_pay3]

/-- One point's gradient in the other product, at a place. -/
theorem pay6_at (x0 x2 : Vec Ideal S256x2816 .bf16) (r : Fin 256) (k : Fin 2816) :
    k0_pay6 x0 x2 (ix2 r k) = val (x0 (ix2 r k)) (x2 (ix2 r k)) := by
  unfold val
  pointwise [k0_pay6, k0_pay4, k0_pay3]

/-- The rounded one is the same. -/
theorem pay8_at (x0 x1 x2 : Vec Ideal S256x2816 .bf16) (r : Fin 256) (k : Fin 2816) :
    k0_pay8 x0 x1 x2 (ix2 r k) = gate (x0 (ix2 r k)) (x1 (ix2 r k)) (x2 (ix2 r k)) := by
  rw [← pay5_at]
  pointwise [k0_pay8]

/-- A column of the weight's first half, and of its second. -/
def lo (k : Fin 2816) : Fin 5632 := ⟨k.val, by omega⟩
def hi (k : Fin 2816) : Fin 5632 := ⟨2816 + k.val, by omega⟩

/-- The two products with the weight's halves, at a place. -/
theorem pay1_at (a : FVec Ideal S256x2816 .f32) (b : FVec Ideal S256x2816 .bf16) (w : Vec Ideal S1024x5632 .bf16) (r : Fin 256) (k : Fin 1024) :
    k0_pay1 a b (View.ld w (Rect.unit ![0, 0] ![1024, 2816] inb_S1024x5632_S1024x2816_0_0)) (constant S256x1024 FTy.f32 0#32)
      (View.ld w (Rect.unit ![0, 2816] ![1024, 2816] inb_S1024x5632_S1024x2816_0_2816)) (ix2 r k)
    = (∑ x : Fin 2816, (b (ix2 r x) : EReal) * w (ix2 k (lo x))) + ∑ x : Fin 2816, (a (ix2 r x) : EReal) * w (ix2 k (hi x)) := by
  pointwise [k0_pay1]
  rfl

/-- The block of the input's gradient, at a place. -/
theorem du_at (x0 x1 x2 : Vec Ideal S256x2816 .bf16) (w : Vec Ideal S1024x5632 .bf16) (r : Fin 256) (k : Fin 1024) :
    du x0 x1 x2 w (ix2 r k) = (∑ x : Fin 2816, gate (x0 (ix2 r x)) (x1 (ix2 r x)) (x2 (ix2 r x)) * w (ix2 k (lo x)))
      + ∑ x : Fin 2816, val (x0 (ix2 r x)) (x2 (ix2 r x)) * w (ix2 k (hi x)) := by
  unfold du
  rw [pay1_at]
  simp only [pay8_at, pay6_at]

/-- The block of the products' gradient, at a place. -/
theorem dgu_at (x0 x1 x2 : Vec Ideal S256x2816 .bf16) (r : Fin 256) (k : Fin 5632) :
    k0_pay2 (k0_pay7 x0 x1 x2) (ix2 r k) = if h : k.val < 2816 then gate (x0 (ix2 r ⟨k.val, h⟩)) (x1 (ix2 r ⟨k.val, h⟩)) (x2 (ix2 r ⟨k.val, h⟩))
      else val (x0 (ix2 r ⟨k.val - 2816, by omega⟩)) (x2 (ix2 r ⟨k.val - 2816, by omega⟩)) := by
  pointwise [k0_pay7, k0_pay2]
  simp only [pay5_at, pay6_at]

/-- The same, of blocks read as functions of a row and a column. -/
theorem du_of (x0 x1 x2 : Vec Ideal S256x2816 .bf16) (w : Vec Ideal S1024x5632 .bf16) (A B D : Fin 256 → Fin 2816 → EReal)
    (h0 : ∀ r k, x0 (ix2 r k) = A r k) (h1 : ∀ r k, x1 (ix2 r k) = B r k) (h2 : ∀ r k, x2 (ix2 r k) = D r k) (r : Fin 256) (k : Fin 1024) :
    du x0 x1 x2 w (ix2 r k) = (∑ x : Fin 2816, gate (A r x) (B r x) (D r x) * w (ix2 k (lo x))) + ∑ x : Fin 2816, val (A r x) (D r x) * w (ix2 k (hi x)) := by
  rw [du_at]
  simp only [h0, h1, h2]

/-- And the products' gradient. -/
theorem dgu_of (x0 x1 x2 : Vec Ideal S256x2816 .bf16) (A B D : Fin 256 → Fin 2816 → EReal)
    (h0 : ∀ r k, x0 (ix2 r k) = A r k) (h1 : ∀ r k, x1 (ix2 r k) = B r k) (h2 : ∀ r k, x2 (ix2 r k) = D r k) (r : Fin 256) (k : Fin 5632) :
    k0_pay2 (k0_pay7 x0 x1 x2) (ix2 r k) = if h : k.val < 2816 then gate (A r ⟨k.val, h⟩) (B r ⟨k.val, h⟩) (D r ⟨k.val, h⟩)
      else val (A r ⟨k.val - 2816, by omega⟩) (D r ⟨k.val - 2816, by omega⟩) := by
  rw [dgu_at]
  simp only [h0, h1, h2]

end Cert.Proof.SwigluBwd
end
-- ==== Proof.SwigluBwd.Out.lean ====
/-
  The gradient of the SwiGLU layer: the two result arrays after the run, element by element.
-/
module

public import proofs.«01_k».proof.Proof.SwigluBwd.Point

@[expose] public section

set_option maxRecDepth 16384

noncomputable section

namespace Cert.Proof.SwigluBwd

open Cert.Kernel2Ideal Cert.Kernel2Ideal.Gen
open Idealize.ShloMosaic Idealize.ShloMosaic.TcCoe

/-- The layer's two products, side by side, at a place. -/
def gu (u : S9216x1024.Idx → EReal) (w : S1024x5632.Idx → EReal) (r : Fin 9216) (k : Fin 5632) : EReal := ∑ j : Fin 1024, u (ix2 r j) * w (ix2 j k)

section
variable (u : S9216x1024.Idx → EReal) (w : S1024x5632.Idx → EReal) (d : S9216x2816.Idx → EReal)

/-- The gradients in the two products, at a place. -/
def dGate (r : Fin 9216) (k : Fin 2816) : EReal := gate (gu u w r (lo k)) (gu u w r (hi k)) (d (ix2 r k))
def dVal (r : Fin 9216) (k : Fin 2816) : EReal := val (gu u w r (lo k)) (d (ix2 r k))

/-- The gradient in the two products, side by side. -/
def dProducts (j : S9216x5632.Idx) : EReal :=
  if h : (j 1).val < 2816 then dGate u w d (j 0) ⟨(j 1).val, h⟩ else dVal u w d (j 0) ⟨(j 1).val - 2816, by have := (j 1).isLt; have e : S9216x5632.size 1 = 5632 := rfl; omega⟩

/-- The gradient in the layer's input. -/
def dInput (j : S9216x1024.Idx) : EReal :=
  (∑ x : Fin 2816, dGate u w d (j 0) x * w (ix2 (j 1) (lo x))) + ∑ x : Fin 2816, dVal u w d (j 0) x * w (ix2 (j 1) (hi x))
end

variable (m : (ℓ : Loc nD τ sig) → Buf (Elt Ideal) ℓ) (c : Dev nD)

/-- The places of the five blocks. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 1] := (by decide +kernel : ∀ t : Fin grid0.N, win0_1.index t = ![t.val, 1])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])

/-- The number of grid points. -/
theorem n_lt (t : Fin cfg0.N) : t.val < 36 := lt_of_lt_of_eq t.isLt (show cfg0.N = 36 from N_0)

/-- A row of a point's blocks. -/
def row (t : Fin cfg0.N) (r : Fin 256) : Fin 9216 := ⟨256 * t.val + r.val, by have := n_lt t; omega⟩

/-- The launched arrays. -/
abbrev argU : FVec Ideal S9216x1024 .f32 := m ((c : Thread nD τ).loc main_arg0)
abbrev argW : FVec Ideal S1024x5632 .f32 := m ((c : Thread nD τ).loc main_arg1)
abbrev argD : FVec Ideal S9216x2816 .f32 := m ((c : Thread nD τ).loc main_arg2)

/-- The two products, on the host. -/
theorem prod_at (r : Fin 9216) (k : Fin 5632) : V m c main_v1 (ix2 r k) = gu (argU m c) (argW m c) r k := by
  have e : V m c main_v1 = truncf .bf16 (Host.dotGeneral (F := Ideal) dot_S9216x1024_S1024x5632_S9216x5632_1_0_0_1_n_n none (argU m c) (argW m c)) bitsLt_bf16_f32 := by
    entry_read
    rfl
  rw [e]
  unfold gu
  pointwise

/-- The three input blocks, at a place. -/
theorem blk0 (t : Fin cfg0.N) (r : Fin 256) (k : Fin 2816) : iblk m c 0 t (ix2 r k) = gu (argU m c) (argW m c) (row t r) (lo k) := by
  rw [← prod_at]
  unfold row lo
  blk_ext [iblk, idx_0 t]
theorem blk1 (t : Fin cfg0.N) (r : Fin 256) (k : Fin 2816) : iblk m c 1 t (ix2 r k) = gu (argU m c) (argW m c) (row t r) (hi k) := by
  rw [← prod_at]
  unfold row hi
  blk_ext [iblk, idx_1 t]
theorem blk2 (t : Fin cfg0.N) (r : Fin 256) (k : Fin 2816) : iblk m c 2 t (ix2 r k) = argD m c (ix2 (row t r) k) := by
  unfold row
  blk_ext [iblk, V, idx_2 t]

/-- A change of format changes nothing. -/
theorem truncf_id (w : FVec Ideal S1024x5632 .f32) : truncf .bf16 w bitsLt_bf16_f32 = w := rfl

/-- The weight, on the host. -/
theorem weight_eq : V m c main_v3 = argW m c := by
  entry_read
  exact truncf_id (argW m c)

/-- The first result array after the run: the gradient in the layer's input. -/
theorem final_input : (dats m 0 c).arrAt 3 cfg0.N = dInput (argU m c) (argW m c) (argD m c) := by
  refine (dats m 0 c).arrAt_eq_of_covers 3 _ (by decide +kernel) fun t hf y => ?_
  have e : ((cfg0.win 3).blk t).view.emb y = ix2 (row t (y 0)) (y 1) := by
    unfold row
    blk_ext [idx_3 t]
  rw [e]
  blk_simp
  rw [after0_3, out_du, weight_eq]
  refine (congrArg _ (eq_ix2 y)).trans ?_
  exact du_of _ _ _ _ _ _ _ (blk0 m c t) (blk1 m c t) (blk2 m c t) (y 0) (y 1)

/-- The second result array after the run: the gradient in the two products. -/
theorem final_products : (dats m 0 c).arrAt 4 cfg0.N = dProducts (argU m c) (argW m c) (argD m c) := by
  refine (dats m 0 c).arrAt_eq_of_covers 4 _ (by decide +kernel) fun t hf y => ?_
  have e : ((cfg0.win 4).blk t).view.emb y = ix2 (row t (y 0)) (y 1) := by
    unfold row
    blk_ext [idx_4 t]
  rw [e]
  blk_simp
  rw [after0_4, out_dgu]
  refine (congrArg _ (eq_ix2 y)).trans ?_
  exact dgu_of _ _ _ _ _ _ (blk0 m c t) (blk1 m c t) (blk2 m c t) (y 0) (y 1)

end Cert.Proof.SwigluBwd
end
-- ==== Proof.SwigluBwd.Ref.lean ====
/-
  The gradient of the SwiGLU layer: the reference's results, element by element.
-/
module

public import proofs.«01_k».proof.Proof.SwigluBwd.Out
public import proofs.«01_k».proof.Proof.AttnBwd.Spec
public import proofs.«01_k».proof.Proof.Gen.Reference2Ideal.Run

@[expose] public section

set_option maxRecDepth 16384

noncomputable section

namespace Cert.Proof.SwigluBwd.Ref

open Cert.Reference2Ideal Cert.Reference2Ideal.Gen
open Idealize.ShloMosaic Idealize.ShloMosaic.TcCoe

variable (g : FVec Ideal S9216x5632 .f32) (d : FVec Ideal S9216x2816 .f32)

/-- The halves of the two products, and the logistic of the first. -/
def x : FVec Ideal S9216x2816 .f32 := extractStridedSlice S9216x2816 ![0, 0] g slices_S9216x5632_S9216x2816_0_0
def u : FVec Ideal S9216x2816 .f32 := extractStridedSlice S9216x2816 ![0, 2816] g slices_S9216x5632_S9216x2816_0_2816
def one : FVec Ideal S9216x2816 .f32 := broadcastInDim S9216x2816 ![] bcast_S_S9216x2816 (constant S_ .f32 0x3F800000#32)
def logistic : FVec Ideal S9216x2816 .f32 := Host.divf one (addf one (Host.exp (Host.negf (x g))))

/-- The gradients in the two products. -/
def dx : FVec Ideal S9216x2816 .f32 := addf (mulf (mulf d (u g)) (logistic g)) (mulf (mulf (x g) (mulf d (u g))) (mulf (logistic g) (subf one (logistic g))))
def du : FVec Ideal S9216x2816 .f32 := mulf (mulf (x g) (logistic g)) d
def dgu : FVec Ideal S9216x5632 .f32 := concatenate S9216x5632 1 [⟨S9216x2816, dx g d⟩, ⟨S9216x2816, du g d⟩] concatenates_S9216x2816_S9216x2816_S9216x5632_d1

/-- The reference's gradient in the gate's product, at a place. -/
theorem dx_at (r : Fin 9216) (k : Fin 2816) : dx g d (ix2 r k) =
    d (ix2 r k) * g (ix2 r (hi k)) * Ideal.div 1 (1 + Ideal.exp (-g (ix2 r (lo k))))
      + g (ix2 r (lo k)) * (d (ix2 r k) * g (ix2 r (hi k))) * (Ideal.div 1 (1 + Ideal.exp (-g (ix2 r (lo k)))) * (1 - Ideal.div 1 (1 + Ideal.exp (-g (ix2 r (lo k)))))) := by
  unfold lo hi
  pointwise [dx, u, x, logistic, one]

/-- The reference's gradient in the other product, at a place. -/
theorem du_at (r : Fin 9216) (k : Fin 2816) : du g d (ix2 r k) = g (ix2 r (lo k)) * Ideal.div 1 (1 + Ideal.exp (-g (ix2 r (lo k)))) * d (ix2 r k) := by
  unfold lo
  pointwise [du, u, x, logistic, one]

/-- Both, side by side. -/
theorem dgu_at (r : Fin 9216) (k : Fin 5632) : dgu g d (ix2 r k) = if h : k.val < 2816 then dx g d (ix2 r ⟨k.val, h⟩) else du g d (ix2 r ⟨k.val - 2816, by omega⟩) := by
  pointwise [dgu]

/-- The product with the weight, at a place. -/
theorem product_at (a : FVec Ideal S9216x5632 .f32) (w : FVec Ideal S1024x5632 .f32) (r : Fin 9216) (k : Fin 1024) :
    (truncf .bf16 (Host.dotGeneral (F := Ideal) dot_S9216x5632_S1024x5632_S9216x1024_1_1_0_0_n_n none a w) bitsLt_bf16_f32) (ix2 r k)
    = ∑ x : Fin 5632, (a (ix2 r x) : EReal) * w (ix2 k x) := by
  pointwise

/-- The two products, at a place. -/
theorem gu_at (u : FVec Ideal S9216x1024 .f32) (w : FVec Ideal S1024x5632 .f32) (r : Fin 9216) (k : Fin 5632) :
    (Host.dotGeneral (F := Ideal) dot_S9216x1024_S1024x5632_S9216x5632_1_0_0_1_n_n none u w) (ix2 r k) = gu u w r k := by
  unfold gu
  pointwise

/-- The logistic of a real number is a real number. -/
theorem logistic_coe (x : ℝ) : Ideal.div 1 (1 + Ideal.exp (-(x : EReal))) = ((1 / (1 + Real.exp (-x)) : ℝ) : EReal) := by
  rw [← EReal.coe_neg, Ideal.exp_coe, ← EReal.coe_one, ← EReal.coe_add, Ideal.div_coe (by positivity), ← EReal.coe_mul, one_mul]

/-- Of real numbers the two ways of taking the gate's gradient agree: one multiplies out what the other has as a product. -/
theorem gate_real (x u d : ℝ) : (d : EReal) * u * Ideal.div 1 (1 + Ideal.exp (-(x : EReal)))
      + x * (d * u) * (Ideal.div 1 (1 + Ideal.exp (-(x : EReal))) * (1 - Ideal.div 1 (1 + Ideal.exp (-(x : EReal))))) = gate x u d := by
  unfold gate
  rw [zero_sub, logistic_coe]
  generalize 1 / (1 + Real.exp (-x)) = s
  simp only [← EReal.coe_one, ← EReal.coe_mul, ← EReal.coe_sub, ← EReal.coe_add]
  congr 1
  ring

/-- The other gradient is the same product in another order. -/
theorem val_eq (x d : EReal) : x * Ideal.div 1 (1 + Ideal.exp (-x)) * d = val x d := by
  unfold val
  rw [zero_sub, mul_comm]

/-- Of real arguments the two products are real numbers. -/
theorem gu_real (u : FVec Ideal S9216x1024 .f32) (w : FVec Ideal S1024x5632 .f32) (hu : ∀ j, ∃ a : ℝ, u j = (a : EReal)) (hw : ∀ j, ∃ a : ℝ, w j = (a : EReal))
    (r : Fin 9216) (k : Fin 5632) : ∃ a : ℝ, gu u w r k = (a : EReal) := by
  choose U hU using hu
  choose W hW using hw
  refine ⟨∑ j : Fin 1024, U (ix2 r j) * W (ix2 j k), ?_⟩
  unfold gu
  simp only [hU, hW, ← EReal.coe_mul, ← AttnBwd.coe_sum]

section

variable (u : FVec Ideal S9216x1024 .f32) (w : FVec Ideal S1024x5632 .f32)
  (hu : ∀ j, ∃ a : ℝ, u j = (a : EReal)) (hw : ∀ j, ∃ a : ℝ, w j = (a : EReal)) (hd : ∀ j, ∃ a : ℝ, d j = (a : EReal))
  (hg : ∀ r k, g (ix2 r k) = gu u w r k)

include hu hw hd hg

/-- The reference's gradients in the two products are the kernel's. -/
theorem dx_eq (r : Fin 9216) (k : Fin 2816) : dx g d (ix2 r k) = dGate u w d r k := by
  unfold dGate
  rw [dx_at, hg, hg]
  obtain ⟨a, ha⟩ := gu_real u w hu hw r (lo k)
  obtain ⟨b, hb⟩ := gu_real u w hu hw r (hi k)
  obtain ⟨e, he⟩ := hd (ix2 r k)
  rw [ha, hb, he]
  exact gate_real a b e

omit hu hw hd in
/-- And in the other product. -/
theorem du_eq (r : Fin 9216) (k : Fin 2816) : du g d (ix2 r k) = dVal u w d r k := by
  unfold dVal
  rw [du_at, hg]
  exact val_eq _ _

/-- The second result. -/
theorem products_eq : dgu g d = dProducts u w d := by
  funext j
  refine (congrArg (dgu g d) (eq_ix2 j)).trans ((dgu_at g d (j 0) (j 1)).trans ?_)
  unfold dProducts
  split
  · exact dx_eq g d u w hu hw hd hg _ _
  · exact du_eq g d u w hg _ _

/-- The sum over both halves is the two halves' sums. -/
theorem input_at (r : Fin 9216) (k : Fin 1024) : ∑ x : Fin 5632, (dgu g d (ix2 r x) : EReal) * w (ix2 k x)
    = (∑ x : Fin 2816, dGate u w d r x * w (ix2 k (lo x))) + ∑ x : Fin 2816, dVal u w d r x * w (ix2 k (hi x)) := by
  refine (Fin.sum_univ_add (a := 2816) (b := 2816) _).trans ?_
  refine congrArg₂ (· + ·) (Finset.sum_congr rfl fun x _ => congrArg₂ (· * ·) ?_ rfl) (Finset.sum_congr rfl fun x _ => congrArg₂ (· * ·) ?_ rfl)
  · refine (dgu_at g d r (Fin.castAdd 2816 x)).trans ((dif_pos x.isLt).trans ?_)
    exact dx_eq g d u w hu hw hd hg r x
  · have h : ¬ (Fin.natAdd 2816 x).val < 2816 := by simp
    have e : (⟨(Fin.natAdd 2816 x).val - 2816, by have := x.isLt; simp⟩ : Fin 2816) = x := Fin.ext (by simp)
    refine (dgu_at g d r (Fin.natAdd 2816 x)).trans ((dif_neg h).trans ?_)
    refine (congrArg (fun y => du g d (ix2 r y)) e).trans ?_
    exact du_eq g d u w hg r x

/-- The first result. -/
theorem input_eq : truncf .bf16 (Host.dotGeneral (F := Ideal) dot_S9216x5632_S1024x5632_S9216x1024_1_1_0_0_n_n none (dgu g d) w) bitsLt_bf16_f32 = dInput u w d := by
  funext j
  refine (congrArg _ (eq_ix2 j)).trans ((product_at (dgu g d) w (j 0) (j 1)).trans ?_)
  exact input_at g d u w hu hw hd hg (j 0) (j 1)

end

end Cert.Proof.SwigluBwd.Ref
end
-- ==== Proof.SwigluBwd.Same.lean ====
/-
  The gradient of the SwiGLU layer: at exact numbers, from finite arguments, the kernel's two results are the reference's.
-/
module

public import proofs.«01_k».proof.Defs
public import proofs.«01_k».proof.Proof.Gen.Kernel2.Frame
public import proofs.«01_k».proof.Proof.SwigluBwd.Ref
public import proofs.«01_k».proof.Proof.AttnBwd.Finite

@[expose] public section

set_option maxRecDepth 16384

noncomputable section

namespace Cert.Proof.SwigluBwd

open Cert.Kernel2Ideal Cert.Kernel2Ideal.Gen
open Idealize.ShloMosaic Idealize.ShloMosaic.TcCoe Idealize.SL.Sem

/-- The precondition's shape facts. -/
theorem preFacts : Cert.Pre_finite_swiglu.Facts := ⟨by decide, by decide, by decide⟩

/-- The kernel at machine numbers ends quiescent. -/
theorem frame_kernel : Cert.quiescent_Kernel2 := fun m ρ _ => Cert.Kernel2.Gen.frame m ρ

/-- The kernel at exact numbers ends quiescent. -/
theorem frame_kernel_ideal : Cert.quiescent_Kernel2Ideal := fun m ρ _ => Cert.Kernel2Ideal.Gen.frame m ρ

/-- The reference ends quiescent. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

section

variable (u : FVec Ideal S9216x1024 .f32) (w : FVec Ideal S1024x5632 .f32) (d : FVec Ideal S9216x2816 .f32)

/-- The reference's two products. -/
def hostProducts : FVec Ideal S9216x5632 .f32 :=
  Host.dotGeneral (F := Ideal) Cert.Reference2Ideal.dot_S9216x1024_S1024x5632_S9216x5632_1_0_0_1_n_n none u w

/-- The reference's two results. -/
def refInput : FVec Ideal S9216x1024 .bf16 :=
  truncf .bf16 (Host.dotGeneral (F := Ideal) Cert.Reference2Ideal.dot_S9216x5632_S1024x5632_S9216x1024_1_1_0_0_n_n none (Ref.dgu (hostProducts u w) d) w) Cert.Reference2Ideal.Gen.bitsLt_bf16_f32
def refProducts : FVec Ideal S9216x5632 .bf16 := truncf .bf16 (Ref.dgu (hostProducts u w) d) Cert.Reference2Ideal.Gen.bitsLt_bf16_f32

variable [Cert.Pre_finite_swiglu.Facts] (h0 : (Cert.Pre_finite_swiglu.fn u w d).1 = fun _ => 1#1) (h1 : (Cert.Pre_finite_swiglu.fn u w d).2.1 = fun _ => 1#1)
  (h2 : (Cert.Pre_finite_swiglu.fn u w d).2.2 = fun _ => 1#1)

include h0 h1 h2

/-- From finite arguments the first result is the reference's. -/
theorem refInput_eq : dInput u w d = refInput u w d :=
  (Ref.input_eq (hostProducts u w) d u w (fun j => ⟨_, AttnBwd.real_of_cmp u _ _ j rfl rfl h0⟩) (fun j => ⟨_, AttnBwd.real_of_cmp w _ _ j rfl rfl h1⟩)
    (fun j => ⟨_, AttnBwd.real_of_cmp d _ _ j rfl rfl h2⟩) (Ref.gu_at u w)).symm

/-- And the second. -/
theorem refProducts_eq : dProducts u w d = refProducts u w d :=
  (Ref.products_eq (hostProducts u w) d u w (fun j => ⟨_, AttnBwd.real_of_cmp u _ _ j rfl rfl h0⟩) (fun j => ⟨_, AttnBwd.real_of_cmp w _ _ j rfl rfl h1⟩)
    (fun j => ⟨_, AttnBwd.real_of_cmp d _ _ j rfl rfl h2⟩) (Ref.gu_at u w)).symm

end

/-- At exact numbers, from finite arguments, the kernel's two results are the reference's. -/
theorem algebraic : Cert.algebraic_Kernel2Ideal_Reference2Ideal_pre_finite_swiglu (hPre_finite_swiglu := preFacts) := by
  haveI := preFacts
  intro m ρ m' ρ' h hagree
  refine ⟨fun c => refInput (argU m c) (argW m c) (argD m c), fun c => refProducts (argU m c) (argW m c) (argD m c), ?_, ?_⟩
  · exact (θ_run Cert.Kernel2Ideal.defs _ _).mono (fun _ hr c => ⟨(hr c).1.trans ((final_input m c).trans (refInput_eq _ _ _ (h c).1 (h c).2.1 (h c).2.2)),
      (hr c).2.1.trans ((final_products m c).trans (refProducts_eq _ _ _ (h c).1 (h c).2.1 (h c).2.2)), (hr c).2.2⟩)
      (Cert.Kernel2Ideal.Value.run_blocks m ρ)
  · refine (θ_run Cert.Reference2Ideal.defs _ _).mono (fun _ hr c => ⟨(hr c).1.trans ?_, (hr c).2.1.trans ?_, (hr c).2.2⟩)
      (Cert.Reference2Ideal.Value.run (F := Ideal) m' ρ')
    · rw [(hagree c).1, (hagree c).2.1, (hagree c).2.2]; rfl
    · rw [(hagree c).1, (hagree c).2.1, (hagree c).2.2]; rfl

end Cert.Proof.SwigluBwd
end
-- ==== Proof.Forward.Main.lean ====
/-
  The forward projections: what the call leaves in its result array, element by element, is the
  sum of the products of a row of the first array and a column of the second, and that is the reference's result.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FwdMain

open Cert.Kernel9Ideal Cert.Kernel9Ideal.Gen
open Idealize.ShloMosaic Idealize.ShloMosaic.TcCoe Idealize.SL.Sem

/-- A column of the chunk that begins at column `o`. -/
def col (o : ℕ) (ho : o + 1024 ≤ 6144) (k : Fin 1024) : Fin 6144 := ⟨o + k.val, by omega⟩

/-- The chunk from column 5120, at a place. -/
theorem pay2_at (a : Vec Ideal S512x1024 .bf16) (w : Vec Ideal S1024x6144 .bf16) (r : Fin 512) (k : Fin 1024) :
    k0_pay2 (View.ld a r0_0) (View.ld w r0_11) (ix2 r k) = ∑ x : Fin 1024, (a (ix2 r x) : EReal) * w (ix2 x (col 5120 (by omega) k)) := by
  unfold r0_0 r0_11 col
  pointwise [k0_pay2]

/-- The chunk from column 4096, at a place. -/
theorem pay1_at (a : Vec Ideal S512x1024 .bf16) (w : Vec Ideal S1024x6144 .bf16) (r : Fin 512) (k : Fin 1024) :
    k0_pay1 (View.ld a r0_0) (View.ld w r0_9) (ix2 r k) = ∑ x : Fin 1024, (a (ix2 r x) : EReal) * w (ix2 x (col 4096 (by omega) k)) := by
  unfold r0_0 r0_9 col
  pointwise [k0_pay1]

/-- The chunk from column 3072, at a place. -/
theorem pay6_at (a : Vec Ideal S512x1024 .bf16) (w : Vec Ideal S1024x6144 .bf16) (r : Fin 512) (k : Fin 1024) :
    k0_pay6 (View.ld a r0_0) (View.ld w r0_7) (ix2 r k) = ∑ x : Fin 1024, (a (ix2 r x) : EReal) * w (ix2 x (col 3072 (by omega) k)) := by
  unfold r0_0 r0_7 col
  pointwise [k0_pay6]

/-- The chunk from column 2048, at a place. -/
theorem pay5_at (a : Vec Ideal S512x1024 .bf16) (w : Vec Ideal S1024x6144 .bf16) (r : Fin 512) (k : Fin 1024) :
    k0_pay5 (View.ld a r0_0) (View.ld w r0_5) (ix2 r k) = ∑ x : Fin 1024, (a (ix2 r x) : EReal) * w (ix2 x (col 2048 (by omega) k)) := by
  unfold r0_0 r0_5 col
  pointwise [k0_pay5]

/-- The chunk from column 1024, at a place. -/
theorem pay4_at (a : Vec Ideal S512x1024 .bf16) (w : Vec Ideal S1024x6144 .bf16) (r : Fin 512) (k : Fin 1024) :
    k0_pay4 (View.ld a r0_0) (View.ld w r0_3) (ix2 r k) = ∑ x : Fin 1024, (a (ix2 r x) : EReal) * w (ix2 x (col 1024 (by omega) k)) := by
  unfold r0_0 r0_3 col
  pointwise [k0_pay4]

/-- The chunk from column 0, at a place. -/
theorem pay3_at (a : Vec Ideal S512x1024 .bf16) (w : Vec Ideal S1024x6144 .bf16) (r : Fin 512) (k : Fin 1024) :
    k0_pay3 (View.ld a r0_0) (View.ld w r0_1) (ix2 r k) = ∑ x : Fin 1024, (a (ix2 r x) : EReal) * w (ix2 x (col 0 (by omega) k)) := by
  unfold r0_0 r0_1 col
  pointwise [k0_pay3]

/-- What a point leaves in the result's block, of the blocks it reads: six chunks of columns. -/
theorem out_at (a : Vec Ideal S512x1024 .bf16) (w : Vec Ideal S1024x6144 .bf16) (y : S512x6144.Idx) :
    out0_2 a w y = ∑ k : Fin 1024, (a (ix2 (y 0) k) : EReal) * w (ix2 k (y 1)) := by
  unfold out0_2
  refine View.canon_apply_of_pieces (Val := Elt Ideal) (e := .bf16) (fun y : S512x6144.Idx => ∑ k : Fin 1024, (a (ix2 (y 0) k) : EReal) * w (ix2 k (y 1))) _ ?_ y
    (cover0_2 _ _ _ _ _ _ _)
  intro p hp
  simp only [List.mem_cons, List.not_mem_nil, or_false] at hp
  rcases hp with rfl | rfl | rfl | rfl | rfl | rfl
  · intro x
    refine (congrArg (k0_pay2 _ _) (eq_ix2 x)).trans ((pay2_at a w _ _).trans (Finset.sum_congr rfl fun k _ => ?_))
    unfold r0_12 col
    congr 1 <;> blk_ext
  · intro x
    refine (congrArg (k0_pay1 _ _) (eq_ix2 x)).trans ((pay1_at a w _ _).trans (Finset.sum_congr rfl fun k _ => ?_))
    unfold r0_10 col
    congr 1 <;> blk_ext
  · intro x
    refine (congrArg (k0_pay6 _ _) (eq_ix2 x)).trans ((pay6_at a w _ _).trans (Finset.sum_congr rfl fun k _ => ?_))
    unfold r0_8 col
    congr 1 <;> blk_ext
  · intro x
    refine (congrArg (k0_pay5 _ _) (eq_ix2 x)).trans ((pay5_at a w _ _).trans (Finset.sum_congr rfl fun k _ => ?_))
    unfold r0_6 col
    congr 1 <;> blk_ext
  · intro x
    refine (congrArg (k0_pay4 _ _) (eq_ix2 x)).trans ((pay4_at a w _ _).trans (Finset.sum_congr rfl fun k _ => ?_))
    unfold r0_4 col
    congr 1 <;> blk_ext
  · intro x
    refine (congrArg (k0_pay3 _ _) (eq_ix2 x)).trans ((pay3_at a w _ _).trans (Finset.sum_congr rfl fun k _ => ?_))
    unfold r0_2 col
    congr 1 <;> blk_ext

variable (m : (ℓ : Loc nD τ sig) → Buf (Elt Ideal) ℓ) (c : Dev nD)

/-- The sum of the products of a row and a column. -/
def prod (u : S9216x1024.Idx → EReal) (w : S1024x6144.Idx → EReal) (j : S9216x6144.Idx) : EReal :=
  ∑ k : Fin 1024, u (ix2 (j 0) k) * w (ix2 k (j 1))

/-- The place of the first input's block. -/
theorem idx_0 : ∀ t : Fin cfg0.N, win0_0.index t = ![t.val, 0] :=
  (by decide +kernel : ∀ t : Fin grid0.N, win0_0.index t = ![t.val, 0])
/-- The place of the second input's block. -/
theorem idx_1 : ∀ t : Fin cfg0.N, win0_1.index t = ![0, 0] :=
  (by decide +kernel : ∀ t : Fin grid0.N, win0_1.index t = ![0, 0])
/-- The place of the result's block. -/
theorem idx_2 : ∀ t : Fin cfg0.N, win0_2.index t = ![t.val, 0] :=
  (by decide +kernel : ∀ t : Fin grid0.N, win0_2.index t = ![t.val, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_at]
  unfold prod
  refine Finset.sum_congr (M := EReal) rfl fun k _ => ?_
  blk_point [iblk, V, idx_0 t, idx_1 t, idx_2 t]

/-- The reference's result. -/
theorem ref_eq (u : FVec Ideal S9216x1024 .f32) (w : FVec Ideal S1024x6144 .f32) :
    prod u w = truncf .bf16 (Host.dotGeneral (F := Ideal) Cert.Reference9Ideal.dot_S9216x1024_S1024x6144_S9216x6144_1_0_0_1_n_n none u w)
      Cert.Reference9Ideal.Gen.bitsLt_bf16_f32 := by
  funext j
  rw [eq_ix2 j]
  unfold prod
  pointwise

/-- The kernel at machine numbers ends quiescent. -/
theorem frame_kernel : Cert.quiescent_Kernel9 := fun m ρ _ => Cert.Kernel9.Gen.frame m ρ

/-- The kernel at exact numbers ends quiescent. -/
theorem frame_kernel_ideal : Cert.quiescent_Kernel9Ideal := fun m ρ _ => Cert.Kernel9Ideal.Gen.frame m ρ

/-- The reference ends quiescent. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- At exact numbers the kernel's result is the reference's. -/
theorem algebraic : Cert.algebraic_Kernel9Ideal_Reference9Ideal := by
  intro m ρ m' ρ' _ hagree
  refine ⟨fun c => prod (m ((c : Thread nD τ).loc main_arg0)) (m ((c : Thread nD τ).loc main_arg1)), ?_, ?_⟩
  · exact (θ_run Cert.Kernel9Ideal.defs _ _).mono (fun _ hr c => ⟨(hr c).1.trans (final m c), (hr c).2⟩)
      (Cert.Kernel9Ideal.Value.run_blocks m ρ)
  · refine (θ_run Cert.Reference9Ideal.defs _ _).mono (fun _ hr c => ⟨(hr c).1.trans ?_, (hr c).2⟩)
      (Cert.Reference9Ideal.Value.run (F := Ideal) m' ρ')
    rw [(hagree c).1, (hagree c).2]
    exact (ref_eq _ _).symm

end Cert.Proof.FwdMain
end
-- ==== Proof.Forward.Latent.lean ====
/-
  The forward projection to the latent columns: what the call leaves in its result array, element by element, is the
  sum of the products of a row of the first array and a column of the second, and that is the reference's result.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FwdLatent

open Cert.Kernel10Ideal Cert.Kernel10Ideal.Gen
open Idealize.ShloMosaic Idealize.ShloMosaic.TcCoe Idealize.SL.Sem

/-- What a point leaves in the result's block, of the blocks it reads. -/
theorem out_at (a : Vec Ideal S1024x1024 .bf16) (w : Vec Ideal S1024x640 .bf16) (y : S1024x640.Idx) :
    out0_2 a w y = ∑ k : Fin 1024, (a (ix2 (y 0) k) : EReal) * w (ix2 k (y 1)) := by
  frame_out
  refine (congrArg _ (eq_ix2 y)).trans ?_
  pointwise [k0_pay1]

variable (m : (ℓ : Loc nD τ sig) → Buf (Elt Ideal) ℓ) (c : Dev nD)

/-- The sum of the products of a row and a column. -/
def prod (u : S9216x1024.Idx → EReal) (w : S1024x640.Idx → EReal) (j : S9216x640.Idx) : EReal :=
  ∑ k : Fin 1024, u (ix2 (j 0) k) * w (ix2 k (j 1))

/-- The place of the first input's block. -/
theorem idx_0 : ∀ t : Fin cfg0.N, win0_0.index t = ![t.val, 0] :=
  (by decide +kernel : ∀ t : Fin grid0.N, win0_0.index t = ![t.val, 0])
/-- The place of the second input's block. -/
theorem idx_1 : ∀ t : Fin cfg0.N, win0_1.index t = ![0, 0] :=
  (by decide +kernel : ∀ t : Fin grid0.N, win0_1.index t = ![0, 0])
/-- The place of the result's block. -/
theorem idx_2 : ∀ t : Fin cfg0.N, win0_2.index t = ![t.val, 0] :=
  (by decide +kernel : ∀ t : Fin grid0.N, win0_2.index t = ![t.val, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_at]
  unfold prod
  refine Finset.sum_congr (M := EReal) rfl fun k _ => ?_
  blk_point [iblk, V, idx_0 t, idx_1 t, idx_2 t]

/-- The reference's result. -/
theorem ref_eq (u : FVec Ideal S9216x1024 .f32) (w : FVec Ideal S1024x640 .f32) :
    prod u w = truncf .bf16 (Host.dotGeneral (F := Ideal) Cert.Reference10Ideal.dot_S9216x1024_S1024x640_S9216x640_1_0_0_1_n_n none u w)
      Cert.Reference10Ideal.Gen.bitsLt_bf16_f32 := by
  funext j
  rw [eq_ix2 j]
  unfold prod
  pointwise

/-- The kernel at machine numbers ends quiescent. -/
theorem frame_kernel : Cert.quiescent_Kernel10 := fun m ρ _ => Cert.Kernel10.Gen.frame m ρ

/-- The kernel at exact numbers ends quiescent. -/
theorem frame_kernel_ideal : Cert.quiescent_Kernel10Ideal := fun m ρ _ => Cert.Kernel10Ideal.Gen.frame m ρ

/-- The reference ends quiescent. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- At exact numbers the kernel's result is the reference's. -/
theorem algebraic : Cert.algebraic_Kernel10Ideal_Reference10Ideal := by
  intro m ρ m' ρ' _ hagree
  refine ⟨fun c => prod (m ((c : Thread nD τ).loc main_arg0)) (m ((c : Thread nD τ).loc main_arg1)), ?_, ?_⟩
  · exact (θ_run Cert.Kernel10Ideal.defs _ _).mono (fun _ hr c => ⟨(hr c).1.trans (final m c), (hr c).2⟩)
      (Cert.Kernel10Ideal.Value.run_blocks m ρ)
  · refine (θ_run Cert.Reference10Ideal.defs _ _).mono (fun _ hr c => ⟨(hr c).1.trans ?_, (hr c).2⟩)
      (Cert.Reference10Ideal.Value.run (F := Ideal) m' ρ')
    rw [(hagree c).1, (hagree c).2]
    exact (ref_eq _ _).symm

end Cert.Proof.FwdLatent
end
-- ==== Proof.Forward.MlaOut.lean ====
/-
  The forward projection of the attention's output: what the call leaves in its result array, element by element, is the
  sum of the products of a row of the first array and a column of the second, and that is the reference's result.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FwdMla

open Cert.Kernel11Ideal Cert.Kernel11Ideal.Gen
open Idealize.ShloMosaic Idealize.ShloMosaic.TcCoe Idealize.SL.Sem

/-- What a point leaves in the result's block, of the blocks it reads. -/
theorem out_at (a : Vec Ideal S1024x1024 .bf16) (w : Vec Ideal S1024x1024 .bf16) (y : S1024x1024.Idx) :
    out0_2 a w y = ∑ k : Fin 1024, (a (ix2 (y 0) k) : EReal) * w (ix2 k (y 1)) := by
  frame_out
  refine (congrArg _ (eq_ix2 y)).trans ?_
  pointwise [k0_pay1]

variable (m : (ℓ : Loc nD τ sig) → Buf (Elt Ideal) ℓ) (c : Dev nD)

/-- The sum of the products of a row and a column. -/
def prod (u : S9216x1024.Idx → EReal) (w : S1024x1024.Idx → EReal) (j : S9216x1024.Idx) : EReal :=
  ∑ k : Fin 1024, u (ix2 (j 0) k) * w (ix2 k (j 1))

/-- The place of the first input's block. -/
theorem idx_0 : ∀ t : Fin cfg0.N, win0_0.index t = ![t.val, 0] :=
  (by decide +kernel : ∀ t : Fin grid0.N, win0_0.index t = ![t.val, 0])
/-- The place of the second input's block. -/
theorem idx_1 : ∀ t : Fin cfg0.N, win0_1.index t = ![0, 0] :=
  (by decide +kernel : ∀ t : Fin grid0.N, win0_1.index t = ![0, 0])
/-- The place of the result's block. -/
theorem idx_2 : ∀ t : Fin cfg0.N, win0_2.index t = ![t.val, 0] :=
  (by decide +kernel : ∀ t : Fin grid0.N, win0_2.index t = ![t.val, 0])

/-- The result array after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out_at]
  unfold prod
  refine Finset.sum_congr (M := EReal) rfl fun k _ => ?_
  blk_point [iblk, V, idx_0 t, idx_1 t, idx_2 t]

/-- The reference's result. -/
theorem ref_eq (u : FVec Ideal S9216x1024 .f32) (w : FVec Ideal S1024x1024 .f32) :
    prod u w = truncf .bf16 (Host.dotGeneral (F := Ideal) Cert.Reference11Ideal.dot_S9216x1024_S1024x1024_S9216x1024_1_0_0_1_n_n none u w)
      Cert.Reference11Ideal.Gen.bitsLt_bf16_f32 := by
  funext j
  rw [eq_ix2 j]
  unfold prod
  pointwise

/-- The kernel at machine numbers ends quiescent. -/
theorem frame_kernel : Cert.quiescent_Kernel11 := fun m ρ _ => Cert.Kernel11.Gen.frame m ρ

/-- The kernel at exact numbers ends quiescent. -/
theorem frame_kernel_ideal : Cert.quiescent_Kernel11Ideal := fun m ρ _ => Cert.Kernel11Ideal.Gen.frame m ρ

/-- The reference ends quiescent. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- At exact numbers the kernel's result is the reference's. -/
theorem algebraic : Cert.algebraic_Kernel11Ideal_Reference11Ideal := by
  intro m ρ m' ρ' _ hagree
  refine ⟨fun c => prod (m ((c : Thread nD τ).loc main_arg0)) (m ((c : Thread nD τ).loc main_arg1)), ?_, ?_⟩
  · exact (θ_run Cert.Kernel11Ideal.defs _ _).mono (fun _ hr c => ⟨(hr c).1.trans (final m c), (hr c).2⟩)
      (Cert.Kernel11Ideal.Value.run_blocks m ρ)
  · refine (θ_run Cert.Reference11Ideal.defs _ _).mono (fun _ hr c => ⟨(hr c).1.trans ?_, (hr c).2⟩)
      (Cert.Reference11Ideal.Value.run (F := Ideal) m' ρ')
    rw [(hagree c).1, (hagree c).2]
    exact (ref_eq _ _).symm

end Cert.Proof.FwdMla
end
-- ==== Proof.Forward.Swiglu.lean ====
/-
  The SwiGLU layer's forward call: the gated product and its product with the output weight are the reference's.
-/
module

public import proofs.«01_k».proof.Defs
public import proofs.«01_k».proof.Proof.Whole
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.SwigluFwd

open Cert.Kernel12Ideal Cert.Kernel12Ideal.Gen
open Idealize.ShloMosaic Idealize.ShloMosaic.TcCoe Idealize.SL.Sem

variable (m : (ℓ : Loc nD τ sig) → Buf (Elt Ideal) ℓ) (c : Dev nD)

/-- What a transfer of a whole array brings is the array. -/
theorem transfer_eq (X : Vec Ideal S2816x1024 .bf16) : ReadAs.same.apply (View.read (Elt Ideal) (View.whole main_v1) X) = X := rfl

/-- The scratch holds the weight after every point. -/
theorem held (t : Fin cfg0.N) : (outsAt0 m c t.val t.isLt).2.2 = V m c main_v1 := by
  refine Pipeline.eq_of_write_hold (fun n h => (outsAt0 m c n h).2.2) 36 (fun _ => V m c main_v1) (fun t h => ?_) (fun t h => ?_) t
  · rw [outsAt0_A m c t h]
    frame_out
    rw [Whole.canon_whole, transfer_eq]
  · rw [outsAt0_B m c t h]
    rfl

/-- A load of a whole weight. -/
theorem ld_weight (w : Vec Ideal S2816x1024 .bf16) : View.ld w (Rect.unit ![0, 0] ![2816, 1024] inb_S2816x1024_S2816x1024_0_0) = w := View.ld_unit_zero (S := S2816x1024) (by decide) _ w

/-- What every point leaves in the block of the product. -/
theorem out_product (t : Fin cfg0.N) : (outsAt0 m c t.val t.isLt).1 = k0_pay2 (iblk m c 0 t) (iblk m c 1 t) (V m c main_v1) := by
  by_cases h : t.val % 36 = 0
  · rw [outsAt0_A m c t h]
    frame_out
    rw [Whole.readCov_whole, transfer_eq, ld_weight]
  · rw [outsAt0_B m c t h]
    frame_out
    rw [held m c ⟨t.val - 1, Nat.lt_of_le_of_lt (Nat.sub_le _ _) t.isLt⟩]
    simp only [read_unread_whole]

/-- What every point leaves in the block of the gated product. -/
theorem out_act (t : Fin cfg0.N) : (outsAt0 m c t.val t.isLt).2.1 = k0_pay3 (iblk m c 0 t) (iblk m c 1 t) := by
  by_cases h : t.val % 36 = 0
  · rw [outsAt0_A m c t h]
    frame_out
  · rw [outsAt0_B m c t h]
    frame_out

/-- The gate's product `x` through the gate, times the other product `u`. -/
def gated (x u : EReal) : EReal := x * Ideal.div 1 (1 + Ideal.exp (0 - x)) * u

/-- One point's gated product, at a place. -/
theorem pay3_at (x0 x1 : Vec Ideal S256x2816 .bf16) (r : Fin 256) (k : Fin 2816) : k0_pay3 x0 x1 (ix2 r k) = gated (x0 (ix2 r k)) (x1 (ix2 r k)) := by
  unfold gated
  pointwise [k0_pay3, k0_pay1]

/-- One point's product with the weight, at a place. -/
theorem pay2_at (x0 x1 : Vec Ideal S256x2816 .bf16) (w : Vec Ideal S2816x1024 .bf16) (r : Fin 256) (k : Fin 1024) :
    k0_pay2 x0 x1 w (ix2 r k) = ∑ x : Fin 2816, gated (x0 (ix2 r x)) (x1 (ix2 r x)) * w (ix2 x k) := by
  unfold gated
  pointwise [k0_pay2, k0_pay1]

/-- The same, of blocks read as functions of a row and a column. -/
theorem pay3_of (x0 x1 : Vec Ideal S256x2816 .bf16) (A B : Fin 256 → Fin 2816 → EReal) (h0 : ∀ r k, x0 (ix2 r k) = A r k) (h1 : ∀ r k, x1 (ix2 r k) = B r k)
    (r : Fin 256) (k : Fin 2816) : k0_pay3 x0 x1 (ix2 r k) = gated (A r k) (B r k) := by
  rw [pay3_at, h0, h1]

/-- And the product with the weight. -/
theorem pay2_of (x0 x1 : Vec Ideal S256x2816 .bf16) (w : Vec Ideal S2816x1024 .bf16) (A B : Fin 256 → Fin 2816 → EReal)
    (h0 : ∀ r k, x0 (ix2 r k) = A r k) (h1 : ∀ r k, x1 (ix2 r k) = B r k) (r : Fin 256) (k : Fin 1024) :
    k0_pay2 x0 x1 w (ix2 r k) = ∑ x : Fin 2816, gated (A r x) (B r x) * w (ix2 x k) := by
  rw [pay2_at]
  simp only [h0, h1]

/-- A column of the products' first half, and of the second. -/
def lo (k : Fin 2816) : Fin 5632 := ⟨k.val, by omega⟩
def hi (k : Fin 2816) : Fin 5632 := ⟨2816 + k.val, by omega⟩

/-- The gated product, and its product with the weight. -/
def act (g : S9216x5632.Idx → EReal) (j : S9216x2816.Idx) : EReal := gated (g (ix2 (j 0) (lo (j 1)))) (g (ix2 (j 0) (hi (j 1))))
def product (g : S9216x5632.Idx → EReal) (w : S2816x1024.Idx → EReal) (j : S9216x1024.Idx) : EReal :=
  ∑ x : Fin 2816, gated (g (ix2 (j 0) (lo x))) (g (ix2 (j 0) (hi x))) * w (ix2 x (j 1))

/-- The places of the four blocks. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 1] := (by decide +kernel : ∀ t : Fin grid0.N, win0_1.index t = ![t.val, 1])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])

/-- The number of grid points. -/
theorem n_lt (t : Fin cfg0.N) : t.val < 36 := lt_of_lt_of_eq t.isLt (show cfg0.N = 36 from N_0)

/-- A row of a point's blocks. -/
def row (t : Fin cfg0.N) (r : Fin 256) : Fin 9216 := ⟨256 * t.val + r.val, by have := n_lt t; omega⟩

/-- The launched arrays. -/
abbrev argG : FVec Ideal S9216x5632 .f32 := m ((c : Thread nD τ).loc main_arg0)
abbrev argW : FVec Ideal S2816x1024 .f32 := m ((c : Thread nD τ).loc main_arg1)

/-- The two input blocks, at a place. -/
theorem blk0 (t : Fin cfg0.N) (r : Fin 256) (k : Fin 2816) : iblk m c 0 t (ix2 r k) = argG m c (ix2 (row t r) (lo k)) := by
  unfold row lo
  blk_ext [iblk, V, idx_0 t]
theorem blk1 (t : Fin cfg0.N) (r : Fin 256) (k : Fin 2816) : iblk m c 1 t (ix2 r k) = argG m c (ix2 (row t r) (hi k)) := by
  unfold row hi
  blk_ext [iblk, V, idx_1 t]

/-- A change of format changes nothing. -/
theorem truncf_id (w : FVec Ideal S2816x1024 .f32) : truncf .bf16 w bitsLt_bf16_f32 = w := rfl

/-- The weight, on the host. -/
theorem weight_eq : V m c main_v1 = argW m c := by
  entry_read
  exact truncf_id (argW m c)

/-- The first result array after the run. -/
theorem final_product : (dats m 0 c).arrAt 2 cfg0.N = product (argG m c) (argW m c) := by
  refine (dats m 0 c).arrAt_eq_of_covers 2 _ (by decide +kernel) fun t hf y => ?_
  have e : ((cfg0.win 2).blk t).view.emb y = ix2 (row t (y 0)) (y 1) := by
    unfold row
    blk_ext [idx_2 t]
  rw [e]
  blk_simp
  rw [after0_2, out_product, weight_eq]
  refine (congrArg _ (eq_ix2 y)).trans ?_
  exact pay2_of _ _ _ _ _ (blk0 m c t) (blk1 m c t) (y 0) (y 1)

/-- The second result array after the run. -/
theorem final_act : (dats m 0 c).arrAt 3 cfg0.N = act (argG m c) := by
  refine (dats m 0 c).arrAt_eq_of_covers 3 _ (by decide +kernel) fun t hf y => ?_
  have e : ((cfg0.win 3).blk t).view.emb y = ix2 (row t (y 0)) (y 1) := by
    unfold row
    blk_ext [idx_3 t]
  rw [e]
  blk_simp
  rw [after0_3, out_act]
  refine (congrArg _ (eq_ix2 y)).trans ?_
  exact pay3_of _ _ _ _ (blk0 m c t) (blk1 m c t) (y 0) (y 1)

section
variable (g : FVec Ideal S9216x5632 .f32) (w : FVec Ideal S2816x1024 .f32)

/-- The reference's gated product, before its format is changed. -/
def refX : FVec Ideal S9216x2816 .f32 := extractStridedSlice S9216x2816 ![0, 0] g Cert.Reference12Ideal.Gen.slices_S9216x5632_S9216x2816_0_0
def refU : FVec Ideal S9216x2816 .f32 := extractStridedSlice S9216x2816 ![0, 2816] g Cert.Reference12Ideal.Gen.slices_S9216x5632_S9216x2816_0_2816
def refOne : FVec Ideal S9216x2816 .f32 :=
  broadcastInDim S9216x2816 ![] Cert.Reference12Ideal.Gen.bcast_S_S9216x2816 (constant Cert.Reference12Ideal.S_ .f32 0x3F800000#32)
def refGated : FVec Ideal S9216x2816 .f32 := mulf (mulf (refX g) (Host.divf refOne (addf refOne (Host.exp (Host.negf (refX g)))))) (refU g)

/-- The reference's two results. -/
def refAct : FVec Ideal S9216x2816 .bf16 := truncf .bf16 (refGated g) Cert.Reference12Ideal.Gen.bitsLt_bf16_f32
def refProduct : FVec Ideal S9216x1024 .bf16 :=
  truncf .bf16 (Host.dotGeneral (F := Ideal) Cert.Reference12Ideal.dot_S9216x2816_S2816x1024_S9216x1024_1_0_0_1_n_n none (refGated g) w) Cert.Reference12Ideal.Gen.bitsLt_bf16_f32

/-- The reference's gated product, at a place. -/
theorem refGated_at (r : Fin 9216) (k : Fin 2816) : refGated g (ix2 r k) = gated (g (ix2 r (lo k))) (g (ix2 r (hi k))) := by
  unfold gated lo hi
  rw [zero_sub]
  pointwise [refGated, refX, refU, refOne]

/-- The product with the weight, at a place. -/
theorem product_at (a : FVec Ideal S9216x2816 .f32) (r : Fin 9216) (k : Fin 1024) :
    (truncf .bf16 (Host.dotGeneral (F := Ideal) Cert.Reference12Ideal.dot_S9216x2816_S2816x1024_S9216x1024_1_0_0_1_n_n none a w) Cert.Reference12Ideal.Gen.bitsLt_bf16_f32) (ix2 r k)
    = ∑ x : Fin 2816, (a (ix2 r x) : EReal) * w (ix2 x k) := by
  pointwise

/-- The reference's results are the kernel's. -/
theorem refAct_eq : act g = refAct g := by
  funext j
  exact ((congrArg _ (eq_ix2 j)).trans (refGated_at g (j 0) (j 1))).symm

theorem product_eq_at (r : Fin 9216) (k : Fin 1024) : refProduct g w (ix2 r k) = ∑ x : Fin 2816, gated (g (ix2 r (lo x))) (g (ix2 r (hi x))) * w (ix2 x k) := by
  unfold refProduct
  rw [product_at]
  simp only [refGated_at]

theorem refProduct_eq : product g w = refProduct g w := by
  funext j
  exact ((congrArg _ (eq_ix2 j)).trans (product_eq_at g w (j 0) (j 1))).symm

end

/-- The kernel at machine numbers ends quiescent. -/
theorem frame_kernel : Cert.quiescent_Kernel12 := fun m ρ _ => Cert.Kernel12.Gen.frame m ρ

/-- The kernel at exact numbers ends quiescent. -/
theorem frame_kernel_ideal : Cert.quiescent_Kernel12Ideal := fun m ρ _ => Cert.Kernel12Ideal.Gen.frame m ρ

/-- The reference ends quiescent. -/
theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- At exact numbers the kernel's two results are the reference's. -/
theorem algebraic : Cert.algebraic_Kernel12Ideal_Reference12Ideal := by
  intro m ρ m' ρ' _ hagree
  refine ⟨fun c => refProduct (argG m c) (argW m c), fun c => refAct (argG m c), ?_, ?_⟩
  · exact (θ_run Cert.Kernel12Ideal.defs _ _).mono (fun _ hr c => ⟨(hr c).1.trans ((final_product m c).trans (refProduct_eq _ _)),
      (hr c).2.1.trans ((final_act m c).trans (refAct_eq _)), (hr c).2.2⟩)
      (Cert.Kernel12Ideal.Value.run_blocks m ρ)
  · refine (θ_run Cert.Reference12Ideal.defs _ _).mono (fun _ hr c => ⟨(hr c).1.trans ?_, (hr c).2.1.trans ?_, (hr c).2.2⟩)
      (Cert.Reference12Ideal.Value.run (F := Ideal) m' ρ')
    · rw [(hagree c).1, (hagree c).2]; rfl
    · rw [(hagree c).1]; rfl

end Cert.Proof.SwigluFwd
end
-- ==== Proof.Forward.Mid.lean ====
/-
  The forward call between the mixer and the feed-forward layer: two normalisations, the residual between them, and the
  product with the feed-forward layer's first weight are the reference's.
-/
module

public import proofs.«01_k».proof.Defs
public import proofs.«01_k».proof.Proof.Whole
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.MidFwd

open Cert.Kernel13Ideal Cert.Kernel13Ideal.Gen
open Idealize.ShloMosaic Idealize.ShloMosaic.TcCoe Idealize.SL.Sem

variable (m : (ℓ : Loc nD τ sig) → Buf (Elt Ideal) ℓ) (c : Dev nD)

/-- What a transfer of a whole array brings is the array. -/
theorem transfer_eq (X : Vec Ideal S1024x5632 .bf16) : ReadAs.same.apply (View.read (Elt Ideal) (View.whole main_v1) X) = X := rfl

/-- The scratch holds the weight after every point. -/
theorem held (t : Fin cfg0.N) : (outsAt0 m c t.val t.isLt).2.2.2 = V m c main_v1 := by
  refine Pipeline.eq_of_write_hold (fun n h => (outsAt0 m c n h).2.2.2) 36 (fun _ => V m c main_v1) (fun t h => ?_) (fun t h => ?_) t
  · rw [outsAt0_A m c t h]
    frame_out
    rw [Whole.canon_whole, transfer_eq]
  · rw [outsAt0_B m c t h]
    rfl

/-- A load of a whole weight. -/
theorem ld_weight (w : Vec Ideal S1024x5632 .bf16) : View.ld w (Rect.unit ![0, 0] ![1024, 5632] inb_S1024x5632_S1024x5632_0_0) = w :=
  View.ld_unit_zero (S := S1024x5632) (by decide) _ w

/-- What every point leaves in the block of the product. -/
theorem out_product (t : Fin cfg0.N) : (outsAt0 m c t.val t.isLt).1 = k0_pay4 (iblk m c 0 t) (iblk m c 1 t) (iblk m c 2 t) (iblk m c 3 t) (V m c main_v1) := by
  by_cases h : t.val % 36 = 0
  · rw [outsAt0_A m c t h]
    frame_out
    rw [Whole.readCov_whole, transfer_eq, ld_weight]
  · rw [outsAt0_B m c t h]
    frame_out
    rw [held m c ⟨t.val - 1, Nat.lt_of_le_of_lt (Nat.sub_le _ _) t.isLt⟩]
    simp only [read_unread_whole]

/-- What every point leaves in the block of the residual. -/
theorem out_residual (t : Fin cfg0.N) : (outsAt0 m c t.val t.isLt).2.1 = k0_pay2 (iblk m c 0 t) (iblk m c 1 t) (iblk m c 2 t) := by
  by_cases h : t.val % 36 = 0
  · rw [outsAt0_A m c t h]
    frame_out
  · rw [outsAt0_B m c t h]
    frame_out

/-- What every point leaves in the block of the second normalisation. -/
theorem out_normed (t : Fin cfg0.N) : (outsAt0 m c t.val t.isLt).2.2.1 = k0_pay1 (k0_pay3 (iblk m c 0 t) (iblk m c 1 t) (iblk m c 2 t) (iblk m c 3 t)) := by
  by_cases h : t.val % 36 = 0
  · rw [outsAt0_A m c t h]
    frame_out
  · rw [outsAt0_B m c t h]
    frame_out

/-- The row's length as the division takes it, and the small number added under the root. -/
def width : EReal := (Scalar.ofBits .f32 0x44800000#32 : Ideal .f32)
def eps : EReal := (Scalar.ofBits .f32 0x358637BD#32 : Ideal .f32)

/-- A row's entry over the root of the row's mean square, times the gain. -/
def norm (f : Fin 1024 → EReal) (g : Fin 1024 → EReal) (k : Fin 1024) : EReal := f k * Ideal.rsqrt (Ideal.div (∑ x : Fin 1024, f x * f x) width + eps) * g k

/-- The residual: a row of the stream and the normalised row of the mixer's output. -/
def residual (h x g : Fin 1024 → EReal) (k : Fin 1024) : EReal := h k + norm x g k

/-- One point's residual, at a place. -/
theorem pay2_at (x0 : Vec Ideal S256x1024 .f32) (x1 : Vec Ideal S256x1024 .bf16) (g : Vec Ideal S1x1024 .f32) (r : Fin 256) (k : Fin 1024) :
    k0_pay2 x0 x1 g (ix2 r k) = residual (fun k => x0 (ix2 r k)) (fun k => x1 (ix2 r k)) (fun k => g (ix2 0 k)) k := by
  unfold residual norm width eps
  pointwise [k0_pay2]

/-- One point's second normalisation, at a place. -/
theorem pay3_at (x0 : Vec Ideal S256x1024 .f32) (x1 : Vec Ideal S256x1024 .bf16) (g g' : Vec Ideal S1x1024 .f32) (r : Fin 256) (k : Fin 1024) :
    k0_pay3 x0 x1 g g' (ix2 r k) = norm (fun k => k0_pay2 x0 x1 g (ix2 r k)) (fun k => g' (ix2 0 k)) k := by
  unfold norm width eps
  pointwise [k0_pay3]

/-- One point's product with the weight, at a place. -/
theorem pay4_at (x0 : Vec Ideal S256x1024 .f32) (x1 : Vec Ideal S256x1024 .bf16) (g g' : Vec Ideal S1x1024 .f32) (w : Vec Ideal S1024x5632 .bf16)
    (r : Fin 256) (k : Fin 5632) : k0_pay4 x0 x1 g g' w (ix2 r k) = ∑ x : Fin 1024, (k0_pay3 x0 x1 g g' (ix2 r x) : EReal) * w (ix2 x k) := by
  pointwise [k0_pay4]

section
variable (x0 : Vec Ideal S256x1024 .f32) (x1 : Vec Ideal S256x1024 .bf16) (g g' : Vec Ideal S1x1024 .f32) (w : Vec Ideal S1024x5632 .bf16)
  (H X : Fin 256 → Fin 1024 → EReal) (G G' : Fin 1024 → EReal)
  (h0 : ∀ r k, x0 (ix2 r k) = H r k) (h1 : ∀ r k, x1 (ix2 r k) = X r k) (h2 : ∀ k, g (ix2 0 k) = G k) (h3 : ∀ k, g' (ix2 0 k) = G' k)
include h0 h1 h2

/-- The same, of blocks read as functions of a row and a column. -/
theorem pay2_of (r : Fin 256) (k : Fin 1024) : k0_pay2 x0 x1 g (ix2 r k) = residual (H r) (X r) G k := by
  rw [pay2_at]
  simp only [h0, h1, h2]

include h3
theorem pay3_of (r : Fin 256) (k : Fin 1024) : k0_pay3 x0 x1 g g' (ix2 r k) = norm (residual (H r) (X r) G) G' k := by
  rw [pay3_at]
  simp only [pay2_of x0 x1 g H X G h0 h1 h2, h3]
theorem pay1_of (r : Fin 256) (k : Fin 1024) : k0_pay1 (k0_pay3 x0 x1 g g') (ix2 r k) = norm (residual (H r) (X r) G) G' k := by
  refine Eq.trans ?_ (pay3_of x0 x1 g g' H X G G' h0 h1 h2 h3 r k)
  pointwise [k0_pay1]
theorem pay4_of (r : Fin 256) (k : Fin 5632) : k0_pay4 x0 x1 g g' w (ix2 r k) = ∑ x : Fin 1024, norm (residual (H r) (X r) G) G' x * w (ix2 x k) := by
  rw [pay4_at]
  simp only [pay3_of x0 x1 g g' H X G G' h0 h1 h2 h3]
end

section
variable (h x : S9216x1024.Idx → EReal) (g g' : S1x1024.Idx → EReal) (w : S1024x5632.Idx → EReal)

/-- A row of an array, and the one row of a gain. -/
def rowOf (a : S9216x1024.Idx → EReal) (r : Fin 9216) (k : Fin 1024) : EReal := a (ix2 r k)
def gainOf (a : S1x1024.Idx → EReal) (k : Fin 1024) : EReal := a (ix2 0 k)

/-- The three results. -/
def resid (r : Fin 9216) : Fin 1024 → EReal := residual (rowOf h r) (rowOf x r) (gainOf g)
def normed (r : Fin 9216) : Fin 1024 → EReal := norm (resid h x g r) (gainOf g')
def product (r : Fin 9216) (k : Fin 5632) : EReal := ∑ y : Fin 1024, normed h x g g' r y * w (ix2 y k)
end

/-- The places of the seven blocks. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])

/-- The number of grid points. -/
theorem n_lt (t : Fin cfg0.N) : t.val < 36 := lt_of_lt_of_eq t.isLt (show cfg0.N = 36 from N_0)

/-- A row of a point's blocks. -/
def row (t : Fin cfg0.N) (r : Fin 256) : Fin 9216 := ⟨256 * t.val + r.val, by have := n_lt t; omega⟩

/-- The launched arrays. -/
abbrev argH : FVec Ideal S9216x1024 .f32 := m ((c : Thread nD τ).loc main_arg0)
abbrev argX : FVec Ideal S9216x1024 .f32 := m ((c : Thread nD τ).loc main_arg1)
abbrev argG : FVec Ideal S1x1024 .f32 := m ((c : Thread nD τ).loc main_arg2)
abbrev argG' : FVec Ideal S1x1024 .f32 := m ((c : Thread nD τ).loc main_arg3)
abbrev argW : FVec Ideal S1024x5632 .f32 := m ((c : Thread nD τ).loc main_arg4)

/-- The four input blocks, at a place. -/
theorem blk0 (t : Fin cfg0.N) (r : Fin 256) (k : Fin 1024) : iblk m c 0 t (ix2 r k) = rowOf (argH m c) (row t r) k := by
  unfold rowOf row
  blk_ext [iblk, V, idx_0 t]
theorem blk1 (t : Fin cfg0.N) (r : Fin 256) (k : Fin 1024) : iblk m c 1 t (ix2 r k) = rowOf (argX m c) (row t r) k := by
  unfold rowOf row
  blk_ext [iblk, V, idx_1 t]
theorem blk2 (t : Fin cfg0.N) (k : Fin 1024) : iblk m c 2 t (ix2 0 k) = gainOf (argG m c) k := by
  unfold gainOf
  blk_ext [iblk, V, idx_2 t]
theorem blk3 (t : Fin cfg0.N) (k : Fin 1024) : iblk m c 3 t (ix2 0 k) = gainOf (argG' m c) k := by
  unfold gainOf
  blk_ext [iblk, V, idx_3 t]

/-- A change of format changes nothing. -/
theorem truncf_id (w : FVec Ideal S1024x5632 .f32) : truncf .bf16 w bitsLt_bf16_f32 = w := rfl

/-- The weight, on the host. -/
theorem weight_eq : V m c main_v1 = argW m c := by
  entry_read
  exact truncf_id (argW m c)

/-- The three result arrays after the run. -/
theorem final_product : (dats m 0 c).arrAt 4 cfg0.N = fun j => product (argH m c) (argX m c) (argG m c) (argG' m c) (argW m c) (j 0) (j 1) := by
  refine (dats m 0 c).arrAt_eq_of_covers 4 _ (by decide +kernel) fun t hf y => ?_
  have e : ((cfg0.win 4).blk t).view.emb y = ix2 (row t (y 0)) (y 1) := by
    unfold row
    blk_ext [idx_4 t]
  rw [e]
  blk_simp
  rw [after0_4, out_product, weight_eq]
  refine (congrArg _ (eq_ix2 y)).trans ?_
  exact pay4_of _ _ _ _ _ _ _ _ _ (blk0 m c t) (blk1 m c t) (blk2 m c t) (blk3 m c t) (y 0) (y 1)

theorem final_residual : (dats m 0 c).arrAt 5 cfg0.N = fun j => resid (argH m c) (argX m c) (argG m c) (j 0) (j 1) := by
  refine (dats m 0 c).arrAt_eq_of_covers 5 _ (by decide +kernel) fun t hf y => ?_
  have e : ((cfg0.win 5).blk t).view.emb y = ix2 (row t (y 0)) (y 1) := by
    unfold row
    blk_ext [idx_5 t]
  rw [e]
  blk_simp
  rw [after0_5, out_residual]
  refine (congrArg _ (eq_ix2 y)).trans ?_
  exact pay2_of _ _ _ _ _ _ (blk0 m c t) (blk1 m c t) (blk2 m c t) (y 0) (y 1)

theorem final_normed : (dats m 0 c).arrAt 6 cfg0.N = fun j => normed (argH m c) (argX m c) (argG m c) (argG' m c) (j 0) (j 1) := by
  refine (dats m 0 c).arrAt_eq_of_covers 6 _ (by decide +kernel) fun t hf y => ?_
  have e : ((cfg0.win 6).blk t).view.emb y = ix2 (row t (y 0)) (y 1) := by
    unfold row
    blk_ext [idx_6 t]
  rw [e]
  blk_simp
  rw [after0_6, out_normed]
  refine (congrArg _ (eq_ix2 y)).trans ?_
  exact pay1_of _ _ _ _ _ _ _ _ (blk0 m c t) (blk1 m c t) (blk2 m c t) (blk3 m c t) (y 0) (y 1)

section
variable (h x : FVec Ideal S9216x1024 .f32) (g g' : FVec Ideal S1x1024 .f32) (w : FVec Ideal S1024x5632 .f32)

/-- The reference's normalisation of an array's rows. -/
def hostNorm (a : FVec Ideal S9216x1024 .f32) (g : FVec Ideal S1x1024 .f32) : FVec Ideal S9216x1024 .f32 :=
  mulf (mulf a (broadcastInDim S9216x1024 ![0, 1] Cert.Reference13Ideal.Gen.bcast_S9216x1_S9216x1024_0_1
    (Host.rsqrt (addf (Host.divf (broadcastInDim Cert.Reference13Ideal.S9216x1 ![0] Cert.Reference13Ideal.Gen.bcast_S9216_S9216x1_0
      (Host.reduceAdd (mulf a a) (constant Cert.Reference13Ideal.S_ .f32 0x00000000#32) Cert.Reference13Ideal.Gen.reducesTo_S9216x1024_S9216_d1 Cert.Reference13Ideal.Gen.h_S_))
      (broadcastInDim Cert.Reference13Ideal.S9216x1 ![] Cert.Reference13Ideal.Gen.bcast_S_S9216x1 (constant Cert.Reference13Ideal.S_ .f32 0x44800000#32)))
      (broadcastInDim Cert.Reference13Ideal.S9216x1 ![] Cert.Reference13Ideal.Gen.bcast_S_S9216x1 (constant Cert.Reference13Ideal.S_ .f32 0x358637BD#32))))))
    (broadcastInDim S9216x1024 ![0, 1] Cert.Reference13Ideal.Gen.bcast_S1x1024_S9216x1024_0_1
      (broadcastInDim S1x1024 ![1] Cert.Reference13Ideal.Gen.bcast_S1024_S1x1024_1 (shapeCast _ g Cert.Reference13Ideal.Gen.shapeCasts_S1x1024_S1024)))

/-- It, at a place. -/
theorem hostNorm_at (a : FVec Ideal S9216x1024 .f32) (g : FVec Ideal S1x1024 .f32) (r : Fin 9216) (k : Fin 1024) :
    hostNorm a g (ix2 r k) = norm (rowOf a r) (gainOf g) k := by
  unfold norm width eps rowOf gainOf
  pointwise [hostNorm]

/-- The reference's three results. -/
def refResidual : FVec Ideal S9216x1024 .f32 := addf h (hostNorm x g)
def refNormed : FVec Ideal S9216x1024 .bf16 := truncf .bf16 (hostNorm (refResidual h x g) g') Cert.Reference13Ideal.Gen.bitsLt_bf16_f32
def refProduct : FVec Ideal S9216x5632 .bf16 :=
  truncf .bf16 (Host.dotGeneral (F := Ideal) Cert.Reference13Ideal.dot_S9216x1024_S1024x5632_S9216x5632_1_0_0_1_n_n none (hostNorm (refResidual h x g) g') w)
    Cert.Reference13Ideal.Gen.bitsLt_bf16_f32

/-- The reference's residual, at a place. -/
theorem refResidual_at (r : Fin 9216) (k : Fin 1024) : refResidual h x g (ix2 r k) = resid h x g r k :=
  congrArg (h (ix2 r k) + ·) (hostNorm_at x g r k)

/-- Its rows. -/
theorem refResidual_row (r : Fin 9216) : rowOf (refResidual h x g) r = resid h x g r := funext fun k => refResidual_at h x g r k

/-- The second normalisation, at a place. -/
theorem refNormed_at (r : Fin 9216) (k : Fin 1024) : hostNorm (refResidual h x g) g' (ix2 r k) = normed h x g g' r k := by
  rw [hostNorm_at, refResidual_row]
  rfl

/-- The product with the weight, at a place. -/
theorem dot_at (a : FVec Ideal S9216x1024 .f32) (r : Fin 9216) (k : Fin 5632) :
    (truncf .bf16 (Host.dotGeneral (F := Ideal) Cert.Reference13Ideal.dot_S9216x1024_S1024x5632_S9216x5632_1_0_0_1_n_n none a w) Cert.Reference13Ideal.Gen.bitsLt_bf16_f32) (ix2 r k)
    = ∑ x : Fin 1024, (a (ix2 r x) : EReal) * w (ix2 x k) := by
  pointwise
theorem refProduct_at (r : Fin 9216) (k : Fin 5632) : refProduct h x g g' w (ix2 r k) = product h x g g' w r k := by
  unfold refProduct product
  rw [dot_at]
  simp only [refNormed_at]

/-- The reference's results are the kernel's. -/
theorem residual_eq : (fun j : S9216x1024.Idx => resid h x g (j 0) (j 1)) = refResidual h x g := by
  funext j
  exact ((congrArg _ (eq_ix2 j)).trans (refResidual_at h x g (j 0) (j 1))).symm
theorem normed_eq : (fun j : S9216x1024.Idx => normed h x g g' (j 0) (j 1)) = refNormed h x g g' := by
  funext j
  exact ((congrArg _ (eq_ix2 j)).trans (refNormed_at h x g g' (j 0) (j 1))).symm
theorem product_eq : (fun j : S9216x5632.Idx => product h x g g' w (j 0) (j 1)) = refProduct h x g g' w := by
  funext j
  exact ((congrArg _ (eq_ix2 j)).trans (refProduct_at h x g g' w (j 0) (j 1))).symm

end

/-- The kernel at machine numbers ends quiescent. -/
theorem frame_kernel : Cert.quiescent_Kernel13 := fun m ρ _ => Cert.Kernel13.Gen.frame m ρ

/-- The kernel at exact numbers ends quiescent. -/
theorem frame_kernel_ideal : Cert.quiescent_Kernel13Ideal := fun m ρ _ => Cert.Kernel13Ideal.Gen.frame m ρ

/-- The reference ends quiescent. -/
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- At exact numbers the kernel's three results are the reference's. -/
theorem algebraic : Cert.algebraic_Kernel13Ideal_Reference13Ideal := by
  intro m ρ m' ρ' _ hagree
  refine ⟨fun c => refProduct (argH m c) (argX m c) (argG m c) (argG' m c) (argW m c), fun c => refResidual (argH m c) (argX m c) (argG m c),
    fun c => refNormed (argH m c) (argX m c) (argG m c) (argG' m c), ?_, ?_⟩
  · exact (θ_run Cert.Kernel13Ideal.defs _ _).mono (fun _ hr c => ⟨(hr c).1.trans ((final_product m c).trans (product_eq _ _ _ _ _)),
      (hr c).2.1.trans ((final_residual m c).trans (residual_eq _ _ _)), (hr c).2.2.1.trans ((final_normed m c).trans (normed_eq _ _ _ _)), (hr c).2.2.2⟩)
      (Cert.Kernel13Ideal.Value.run_blocks m ρ)
  · refine (θ_run Cert.Reference13Ideal.defs _ _).mono (fun _ hr c => ⟨(hr c).1.trans ?_, (hr c).2.1.trans ?_, (hr c).2.2.1.trans ?_, (hr c).2.2.2⟩)
      (Cert.Reference13Ideal.Value.run (F := Ideal) m' ρ')
    · rw [(hagree c).1, (hagree c).2.1, (hagree c).2.2.1, (hagree c).2.2.2.1, (hagree c).2.2.2.2]; rfl
    · rw [(hagree c).1, (hagree c).2.1, (hagree c).2.2.1]; rfl
    · rw [(hagree c).1, (hagree c).2.1, (hagree c).2.2.1, (hagree c).2.2.2.1]; rfl

end Cert.Proof.MidFwd
end
-- ==== Proof.Forward.Gate.lean ====
/-
  The forward call that mixes the two branches by their gates: the mixed rows and their product with the output weight are the
  reference's.
-/
module

public import proofs.«01_k».proof.Defs
public import proofs.«01_k».proof.Proof.Whole
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.GateFwd

open Cert.Kernel14Ideal Cert.Kernel14Ideal.Gen
open Idealize.ShloMosaic Idealize.ShloMosaic.TcCoe Idealize.SL.Sem

variable (m : (ℓ : Loc nD τ sig) → Buf (Elt Ideal) ℓ) (c : Dev nD)

/-- What a transfer of a whole array brings is the array. -/
theorem transfer_eq (X : Vec Ideal S1024x1024 .bf16) : ReadAs.same.apply (View.read (Elt Ideal) (View.whole main_v3) X) = X := rfl

/-- The scratch holds the weight after every point. -/
theorem held (t : Fin cfg0.N) : (outsAt0 m c t.val t.isLt).2.2 = V m c main_v3 := by
  refine Pipeline.eq_of_write_hold (fun n h => (outsAt0 m c n h).2.2) 18 (fun _ => V m c main_v3) (fun t h => ?_) (fun t h => ?_) t
  · rw [outsAt0_A m c t h]
    frame_out
    rw [Whole.canon_whole, transfer_eq]
  · rw [outsAt0_B m c t h]
    rfl

/-- A load of a whole weight. -/
theorem ld_weight (w : Vec Ideal S1024x1024 .bf16) : View.ld w (Rect.unit ![0, 0] ![1024, 1024] inb_S1024x1024_S1024x1024_0_0) = w :=
  View.ld_unit_zero (S := S1024x1024) (by decide) _ w

/-- What every point leaves in the block of the product. -/
theorem out_product (t : Fin cfg0.N) : (outsAt0 m c t.val t.isLt).1
    = k0_pay1 (k0_pay4 (iblk m c 0 t) (iblk m c 1 t) (iblk m c 2 t) (iblk m c 3 t) (iblk m c 4 t)) (V m c main_v3) := by
  by_cases h : t.val % 18 = 0
  · rw [outsAt0_A m c t h]
    frame_out
    rw [Whole.readCov_whole, transfer_eq, ld_weight]
  · rw [outsAt0_B m c t h]
    frame_out
    rw [held m c ⟨t.val - 1, Nat.lt_of_le_of_lt (Nat.sub_le _ _) t.isLt⟩]
    simp only [read_unread_whole]

/-- What every point leaves in the block of the mixed rows. -/
theorem out_mixed (t : Fin cfg0.N) : (outsAt0 m c t.val t.isLt).2.1
    = k0_pay2 (k0_pay3 (iblk m c 0 t) (iblk m c 1 t) (iblk m c 2 t) (iblk m c 3 t) (iblk m c 4 t)) := by
  by_cases h : t.val % 18 = 0
  · rw [outsAt0_A m c t h]
    frame_out
  · rw [outsAt0_B m c t h]
    frame_out

/-- Two entries, each through its gate, added. -/
def gate (x : EReal) : EReal := Ideal.div 1 (1 + Ideal.exp (0 - x))
def mix (a b p q u v : EReal) : EReal := gate (p + u) * a + gate (q + v) * b

/-- A column of the first half of the gates' bias, and of the second. -/
def lo (k : Fin 1024) : Fin 2048 := ⟨k.val, by omega⟩
def hi (k : Fin 1024) : Fin 2048 := ⟨1024 + k.val, by omega⟩

section
variable (x0 x1 x2 x3 : Vec Ideal S512x1024 .bf16) (x4 : Vec Ideal S1x2048 .f32) (w : Vec Ideal S1024x1024 .bf16)

/-- One point's mixed rows, at a place. -/
theorem pay3_at (r : Fin 512) (k : Fin 1024) :
    k0_pay3 x0 x1 x2 x3 x4 (ix2 r k) = mix (x0 (ix2 r k)) (x1 (ix2 r k)) (x2 (ix2 r k)) (x3 (ix2 r k)) (x4 (ix2 0 (lo k))) (x4 (ix2 0 (hi k))) := by
  unfold mix gate lo hi
  pointwise [k0_pay3]

/-- One point's product with the weight, at a place. -/
theorem pay1_at (r : Fin 512) (k : Fin 1024) :
    k0_pay1 (k0_pay4 x0 x1 x2 x3 x4) w (ix2 r k) = ∑ x : Fin 1024, (k0_pay3 x0 x1 x2 x3 x4 (ix2 r x) : EReal) * w (ix2 x k) := by
  pointwise [k0_pay1, k0_pay4]

variable (A B P Q : Fin 512 → Fin 1024 → EReal) (U : Fin 2048 → EReal)
  (h0 : ∀ r k, x0 (ix2 r k) = A r k) (h1 : ∀ r k, x1 (ix2 r k) = B r k) (h2 : ∀ r k, x2 (ix2 r k) = P r k) (h3 : ∀ r k, x3 (ix2 r k) = Q r k)
  (h4 : ∀ k, x4 (ix2 0 k) = U k)
include h0 h1 h2 h3 h4

/-- The same, of blocks read as functions of a row and a column. -/
theorem pay3_of (r : Fin 512) (k : Fin 1024) : k0_pay3 x0 x1 x2 x3 x4 (ix2 r k) = mix (A r k) (B r k) (P r k) (Q r k) (U (lo k)) (U (hi k)) := by
  rw [pay3_at, h0, h1, h2, h3, h4, h4]
theorem pay2_of (r : Fin 512) (k : Fin 1024) : k0_pay2 (k0_pay3 x0 x1 x2 x3 x4) (ix2 r k) = mix (A r k) (B r k) (P r k) (Q r k) (U (lo k)) (U (hi k)) := by
  refine Eq.trans ?_ (pay3_of x0 x1 x2 x3 x4 A B P Q U h0 h1 h2 h3 h4 r k)
  pointwise [k0_pay2]
theorem pay1_of (r : Fin 512) (k : Fin 1024) :
    k0_pay1 (k0_pay4 x0 x1 x2 x3 x4) w (ix2 r k) = ∑ x : Fin 1024, mix (A r x) (B r x) (P r x) (Q r x) (U (lo x)) (U (hi x)) * w (ix2 x k) := by
  rw [pay1_at]
  simp only [pay3_of x0 x1 x2 x3 x4 A B P Q U h0 h1 h2 h3 h4]
end

/-- The columns of the projection that hold the two gates. -/
def colA (k : Fin 1024) : Fin 6144 := ⟨4096 + k.val, by omega⟩
def colB (k : Fin 1024) : Fin 6144 := ⟨5120 + k.val, by omega⟩

section
variable (a b : S9216x1024.Idx → EReal) (p : S9216x6144.Idx → EReal) (u : S1x2048.Idx → EReal) (w : S1024x1024.Idx → EReal)

/-- The two results. -/
def mixed (r : Fin 9216) (k : Fin 1024) : EReal := mix (a (ix2 r k)) (b (ix2 r k)) (p (ix2 r (colA k))) (p (ix2 r (colB k))) (u (ix2 0 (lo k))) (u (ix2 0 (hi k)))
def product (r : Fin 9216) (k : Fin 1024) : EReal := ∑ x : Fin 1024, mixed a b p u r x * w (ix2 x k)
end

/-- The places of the seven blocks. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 4] := (by decide +kernel : ∀ t : Fin grid0.N, win0_2.index t = ![t.val, 4])
theorem idx_3 : ∀ t : Fin cfg0.N, win0_3.index t = ![t.val, 5] := (by decide +kernel : ∀ t : Fin grid0.N, win0_3.index t = ![t.val, 5])
theorem idx_4 : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])

/-- The number of grid points. -/
theorem n_lt (t : Fin cfg0.N) : t.val < 18 := lt_of_lt_of_eq t.isLt (show cfg0.N = 18 from N_0)

/-- A row of a point's blocks. -/
def row (t : Fin cfg0.N) (r : Fin 512) : Fin 9216 := ⟨512 * t.val + r.val, by have := n_lt t; omega⟩

/-- The launched arrays. -/
abbrev argA : FVec Ideal S9216x1024 .f32 := m ((c : Thread nD τ).loc main_arg0)
abbrev argB : FVec Ideal S9216x1024 .f32 := m ((c : Thread nD τ).loc main_arg1)
abbrev argP : FVec Ideal S9216x6144 .f32 := m ((c : Thread nD τ).loc main_arg2)
abbrev argU : FVec Ideal S1x2048 .f32 := m ((c : Thread nD τ).loc main_arg3)
abbrev argW : FVec Ideal S1024x1024 .f32 := m ((c : Thread nD τ).loc main_arg4)

/-- The five input blocks, at a place. -/
theorem blk0 (t : Fin cfg0.N) (r : Fin 512) (k : Fin 1024) : iblk m c 0 t (ix2 r k) = argA m c (ix2 (row t r) k) := by
  unfold row
  blk_ext [iblk, V, idx_0 t]
theorem blk1 (t : Fin cfg0.N) (r : Fin 512) (k : Fin 1024) : iblk m c 1 t (ix2 r k) = argB m c (ix2 (row t r) k) := by
  unfold row
  blk_ext [iblk, V, idx_1 t]
theorem blk2 (t : Fin cfg0.N) (r : Fin 512) (k : Fin 1024) : iblk m c 2 t (ix2 r k) = argP m c (ix2 (row t r) (colA k)) := by
  unfold row colA
  blk_ext [iblk, V, idx_2 t]
theorem blk3 (t : Fin cfg0.N) (r : Fin 512) (k : Fin 1024) : iblk m c 3 t (ix2 r k) = argP m c (ix2 (row t r) (colB k)) := by
  unfold row colB
  blk_ext [iblk, V, idx_3 t]
theorem blk4 (t : Fin cfg0.N) (k : Fin 2048) : iblk m c 4 t (ix2 0 k) = argU m c (ix2 0 k) := by
  blk_ext [iblk, V, idx_4 t]

/-- A change of format changes nothing. -/
theorem truncf_id (w : FVec Ideal S1024x1024 .f32) : truncf .bf16 w bitsLt_bf16_f32 = w := rfl

/-- The weight, on the host. -/
theorem weight_eq : V m c main_v3 = argW m c := by
  entry_read
  exact truncf_id (argW m c)

/-- The two result arrays after the run. -/
theorem final_product : (dats m 0 c).arrAt 5 cfg0.N = fun j => product (argA m c) (argB m c) (argP m c) (argU m c) (argW m c) (j 0) (j 1) := by
  refine (dats m 0 c).arrAt_eq_of_covers 5 _ (by decide +kernel) fun t hf y => ?_
  have e : ((cfg0.win 5).blk t).view.emb y = ix2 (row t (y 0)) (y 1) := by
    unfold row
    blk_ext [idx_5 t]
  rw [e]
  blk_simp
  rw [after0_5, out_product, weight_eq]
  refine (congrArg _ (eq_ix2 y)).trans ?_
  exact pay1_of _ _ _ _ _ _ _ _ _ _ (fun k => argU m c (ix2 0 k)) (blk0 m c t) (blk1 m c t) (blk2 m c t) (blk3 m c t) (blk4 m c t) (y 0) (y 1)

theorem final_mixed : (dats m 0 c).arrAt 6 cfg0.N = fun j => mixed (argA m c) (argB m c) (argP m c) (argU m c) (j 0) (j 1) := by
  refine (dats m 0 c).arrAt_eq_of_covers 6 _ (by decide +kernel) fun t hf y => ?_
  have e : ((cfg0.win 6).blk t).view.emb y = ix2 (row t (y 0)) (y 1) := by
    unfold row
    blk_ext [idx_6 t]
  rw [e]
  blk_simp
  rw [after0_6, out_mixed]
  refine (congrArg _ (eq_ix2 y)).trans ?_
  exact pay2_of _ _ _ _ _ _ _ _ _ (fun k => argU m c (ix2 0 k)) (blk0 m c t) (blk1 m c t) (blk2 m c t) (blk3 m c t) (blk4 m c t) (y 0) (y 1)

section
variable (a b : FVec Ideal S9216x1024 .f32) (p : FVec Ideal S9216x6144 .f32) (u : FVec Ideal S1x2048 .f32) (w : FVec Ideal S1024x1024 .f32)

/-- The reference's gates, and its mixed rows before their format is changed. -/
def refOne : FVec Ideal Cert.Reference14Ideal.S9216x2048 .f32 :=
  broadcastInDim Cert.Reference14Ideal.S9216x2048 ![] Cert.Reference14Ideal.Gen.bcast_S_S9216x2048 (constant Cert.Reference14Ideal.S_ .f32 0x3F800000#32)
def refGates : FVec Ideal Cert.Reference14Ideal.S9216x2048 .f32 :=
  Host.divf refOne (addf refOne (Host.exp (Host.negf (addf (extractStridedSlice Cert.Reference14Ideal.S9216x2048 ![0, 4096] p Cert.Reference14Ideal.Gen.slices_S9216x6144_S9216x2048_0_4096)
    (broadcastInDim Cert.Reference14Ideal.S9216x2048 ![0, 1] Cert.Reference14Ideal.Gen.bcast_S1x2048_S9216x2048_0_1
      (broadcastInDim S1x2048 ![1] Cert.Reference14Ideal.Gen.bcast_S2048_S1x2048_1 (shapeCast _ u Cert.Reference14Ideal.Gen.shapeCasts_S1x2048_S2048)))))))
def hostMixed : FVec Ideal S9216x1024 .f32 :=
  addf (mulf (extractStridedSlice S9216x1024 ![0, 0] (refGates p u) Cert.Reference14Ideal.Gen.slices_S9216x2048_S9216x1024_0_0) a)
    (mulf (extractStridedSlice S9216x1024 ![0, 1024] (refGates p u) Cert.Reference14Ideal.Gen.slices_S9216x2048_S9216x1024_0_1024) b)

/-- The reference's two results. -/
def refMixed : FVec Ideal S9216x1024 .bf16 := truncf .bf16 (hostMixed a b p u) Cert.Reference14Ideal.Gen.bitsLt_bf16_f32
def refProduct : FVec Ideal S9216x1024 .bf16 :=
  truncf .bf16 (Host.dotGeneral (F := Ideal) Cert.Reference14Ideal.dot_S9216x1024_S1024x1024_S9216x1024_1_0_0_1_n_n none (hostMixed a b p u) w)
    Cert.Reference14Ideal.Gen.bitsLt_bf16_f32

/-- The reference's gates, at a place. -/
theorem refGates_at (r : Fin 9216) (k : Fin 2048) : refGates p u (ix2 r k) = gate (p (ix2 r ⟨4096 + k.val, by omega⟩) + u (ix2 0 k)) := by
  unfold gate
  rw [zero_sub]
  pointwise [refGates, refOne]

/-- The reference's mixed rows, at a place. -/
theorem hostMixed_at (r : Fin 9216) (k : Fin 1024) : hostMixed a b p u (ix2 r k) = mixed a b p u r k := by
  have e : hostMixed a b p u (ix2 r k) = refGates p u (ix2 r (lo k)) * a (ix2 r k) + refGates p u (ix2 r (hi k)) * b (ix2 r k) := by
    unfold lo hi
    pointwise [hostMixed]
  have i : (⟨4096 + (lo k).val, by have := (lo k).isLt; omega⟩ : Fin 6144) = colA k := rfl
  have j : (⟨4096 + (hi k).val, by have := (hi k).isLt; omega⟩ : Fin 6144) = colB k := Fin.ext (by unfold hi colB; simp only; omega)
  rw [e, refGates_at, refGates_at, i, j]
  rfl

/-- The product with the weight, at a place. -/
theorem dot_at (z : FVec Ideal S9216x1024 .f32) (r : Fin 9216) (k : Fin 1024) :
    (truncf .bf16 (Host.dotGeneral (F := Ideal) Cert.Reference14Ideal.dot_S9216x1024_S1024x1024_S9216x1024_1_0_0_1_n_n none z w) Cert.Reference14Ideal.Gen.bitsLt_bf16_f32) (ix2 r k)
    = ∑ x : Fin 1024, (z (ix2 r x) : EReal) * w (ix2 x k) := by
  pointwise
theorem refProduct_at (r : Fin 9216) (k : Fin 1024) : refProduct a b p u w (ix2 r k) = product a b p u w r k := by
  unfold refProduct product
  rw [dot_at]
  simp only [hostMixed_at]

/-- The reference's results are the kernel's. -/
theorem mixed_eq : (fun j : S9216x1024.Idx => mixed a b p u (j 0) (j 1)) = refMixed a b p u := by
  funext j
  exact ((congrArg _ (eq_ix2 j)).trans (hostMixed_at a b p u (j 0) (j 1))).symm
theorem product_eq : (fun j : S9216x1024.Idx => product a b p u w (j 0) (j 1)) = refProduct a b p u w := by
  funext j
  exact ((congrArg _ (eq_ix2 j)).trans (refProduct_at a b p u w (j 0) (j 1))).symm

end

/-- The kernel at machine numbers ends quiescent. -/
theorem frame_kernel : Cert.quiescent_Kernel14 := fun m ρ _ => Cert.Kernel14.Gen.frame m ρ

/-- The kernel at exact numbers ends quiescent. -/
theorem frame_kernel_ideal : Cert.quiescent_Kernel14Ideal := fun m ρ _ => Cert.Kernel14Ideal.Gen.frame m ρ

/-- The reference ends quiescent. -/
theorem frame_reference : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- At exact numbers the kernel's two results are the reference's. -/
theorem algebraic : Cert.algebraic_Kernel14Ideal_Reference14Ideal := by
  intro m ρ m' ρ' _ hagree
  refine ⟨fun c => refProduct (argA m c) (argB m c) (argP m c) (argU m c) (argW m c), fun c => refMixed (argA m c) (argB m c) (argP m c) (argU m c), ?_, ?_⟩
  · exact (θ_run Cert.Kernel14Ideal.defs _ _).mono (fun _ hr c => ⟨(hr c).1.trans ((final_product m c).trans (product_eq _ _ _ _ _)),
      (hr c).2.1.trans ((final_mixed m c).trans (mixed_eq _ _ _ _)), (hr c).2.2⟩)
      (Cert.Kernel14Ideal.Value.run_blocks m ρ)
  · refine (θ_run Cert.Reference14Ideal.defs _ _).mono (fun _ hr c => ⟨(hr c).1.trans ?_, (hr c).2.1.trans ?_, (hr c).2.2⟩)
      (Cert.Reference14Ideal.Value.run (F := Ideal) m' ρ')
    · rw [(hagree c).1, (hagree c).2.1, (hagree c).2.2.1, (hagree c).2.2.2.1, (hagree c).2.2.2.2]; rfl
    · rw [(hagree c).1, (hagree c).2.1, (hagree c).2.2.1, (hagree c).2.2.2.1]; rfl

end Cert.Proof.GateFwd
end
-- ==== Proof.FirstBwd.Point.lean ====
/-
  The gradient through the mixer's input projection and the normalisation before it: what one grid point leaves in its
  three result blocks and in the scratch that holds the weight.
-/
module

public import proofs.«01_k».proof.Proof.Gen.Kernel15Ideal.Value
public import proofs.«01_k».proof.Proof.Whole
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.FirstBwd

open Cert.Kernel15Ideal Cert.Kernel15Ideal.Gen
open Idealize.ShloMosaic Idealize.ShloMosaic.TcCoe

/-- What a transfer of a whole array brings is the array. -/
theorem transfer_eq (X : Vec Ideal S1024x6784 .bf16) : ReadAs.same.apply (View.read (Elt Ideal) (View.whole main_v6) X) = X := rfl

section
variable (x0 x1 x2 x3 : Vec Ideal S256x1024 .bf16) (x4 : Vec Ideal S256x2048 .bf16) (x5 : Vec Ideal S256x640 .bf16)
  (x6 x7 : Vec Ideal S256x1024 .f32) (x8 : Vec Ideal S256x128 .f32) (x9 : Vec Ideal S1x1024 .f32) (w : Vec Ideal S1024x6784 .bf16)

/-- The gradient before the projection, as the sum of six products. -/
def six : FVec Ideal S256x1024 .f32 :=
  k0_pay13 (k0_pay6 x2) (k0_pay7 x3) (k0_pay8 x4) (k0_pay9 x5) (k0_pay11 x0 (View.ld w (Rect.unit ![0, 0] ![1024, 1024] inb_S1024x6784_S1024x1024_0_0))) (k0_pay12 x1)
    (View.ld w (Rect.unit ![0, 1024] ![1024, 1024] inb_S1024x6784_S1024x1024_0_1024)) (View.ld w (Rect.unit ![0, 2048] ![1024, 1024] inb_S1024x6784_S1024x1024_0_2048))
    (View.ld w (Rect.unit ![0, 3072] ![1024, 1024] inb_S1024x6784_S1024x1024_0_3072)) (View.ld w (Rect.unit ![0, 4096] ![1024, 2048] inb_S1024x6784_S1024x2048_0_4096))
    (View.ld w (Rect.unit ![0, 6144] ![1024, 640] inb_S1024x6784_S1024x640_0_6144))

/-- The gradient through the normalisation. -/
def through : FVec Ideal S256x1024 .f32 :=
  k0_pay16 (k0_pay6 x2) (k0_pay7 x3) (k0_pay8 x4) (k0_pay9 x5) x7 x9 (k0_pay11 x0 (View.ld w (Rect.unit ![0, 0] ![1024, 1024] inb_S1024x6784_S1024x1024_0_0))) (k0_pay12 x1)
    (View.ld w (Rect.unit ![0, 1024] ![1024, 1024] inb_S1024x6784_S1024x1024_0_1024)) (View.ld w (Rect.unit ![0, 2048] ![1024, 1024] inb_S1024x6784_S1024x1024_0_2048))
    (View.ld w (Rect.unit ![0, 3072] ![1024, 1024] inb_S1024x6784_S1024x1024_0_3072)) (View.ld w (Rect.unit ![0, 4096] ![1024, 2048] inb_S1024x6784_S1024x2048_0_4096))
    (View.ld w (Rect.unit ![0, 6144] ![1024, 640] inb_S1024x6784_S1024x640_0_6144))

/-- What a row adds to the gain's gradient. -/
def gainPart : FVec Ideal S256x1024 .f32 :=
  k0_pay17 (k0_pay6 x2) (k0_pay7 x3) (k0_pay8 x4) (k0_pay9 x5) x7 (k0_pay11 x0 (View.ld w (Rect.unit ![0, 0] ![1024, 1024] inb_S1024x6784_S1024x1024_0_0))) (k0_pay12 x1)
    (View.ld w (Rect.unit ![0, 1024] ![1024, 1024] inb_S1024x6784_S1024x1024_0_1024)) (View.ld w (Rect.unit ![0, 2048] ![1024, 1024] inb_S1024x6784_S1024x1024_0_2048))
    (View.ld w (Rect.unit ![0, 3072] ![1024, 1024] inb_S1024x6784_S1024x1024_0_3072)) (View.ld w (Rect.unit ![0, 4096] ![1024, 2048] inb_S1024x6784_S1024x2048_0_4096))
    (View.ld w (Rect.unit ![0, 6144] ![1024, 640] inb_S1024x6784_S1024x640_0_6144))

end

variable (m : (ℓ : Loc nD τ sig) → Buf (Elt Ideal) ℓ) (c : Dev nD)

/-- The scratch holds the weight after every point. -/
theorem held (t : Fin cfg0.N) : (outsAt0 m c t.val t.isLt).2.2.2 = V m c main_v6 := by
  refine Pipeline.eq_of_write_hold (fun n h => (outsAt0 m c n h).2.2.2) 36 (fun _ => V m c main_v6) (fun t h => ?_) (fun t h => ?_) t
  · rw [outsAt0_A m c t h]
    frame_out
    rw [Whole.canon_whole, transfer_eq]
  · rw [outsAt0_B m c t h]
    rfl

/-- One point's gradients, of the blocks it reads. -/
def throughAt (t : Fin cfg0.N) : FVec Ideal S256x1024 .f32 :=
  through (iblk m c 0 t) (iblk m c 1 t) (iblk m c 2 t) (iblk m c 3 t) (iblk m c 4 t) (iblk m c 5 t) (iblk m c 7 t) (iblk m c 9 t) (V m c main_v6)
def gainPartAt (t : Fin cfg0.N) : FVec Ideal S256x1024 .f32 :=
  gainPart (iblk m c 0 t) (iblk m c 1 t) (iblk m c 2 t) (iblk m c 3 t) (iblk m c 4 t) (iblk m c 5 t) (iblk m c 7 t) (V m c main_v6)

/-- What every point leaves in the block of the input's gradient. -/
theorem out_x (t : Fin cfg0.N) : (outsAt0 m c t.val t.isLt).1 = k0_pay1 (iblk m c 6 t) (throughAt m c t) := by
  unfold throughAt through
  by_cases h : t.val % 36 = 0
  · rw [outsAt0_A m c t h]
    frame_out
    simp only [Whole.readCov_whole]
    rw [transfer_eq]
  · rw [outsAt0_B m c t h]
    frame_out
    simp only [read_unread_whole]
    rw [held m c ⟨t.val - 1, Nat.lt_of_le_of_lt (Nat.sub_le _ _) t.isLt⟩]

/-- What the first point leaves in the gain's gradient, and every later one. -/
theorem out_gain_A (t : Fin cfg0.N) (h : t.val % 36 = 0) : (outsAt0 m c t.val t.isLt).2.1 = k0_pay2 (gainPartAt m c t) (k0_pay4 (F := Ideal)) := by
  unfold gainPartAt gainPart
  rw [outsAt0_A m c t h]
  frame_out
  simp only [Whole.readCov_whole]
  rw [transfer_eq]
theorem out_gain_B (t : Fin cfg0.N) (h : ¬t.val % 36 = 0) : (outsAt0 m c t.val t.isLt).2.1
    = k0_pay2 (gainPartAt m c t) (outsAt0 m c (t.val - 1) (Nat.lt_of_le_of_lt (Nat.sub_le _ _) t.isLt)).2.1 := by
  unfold gainPartAt gainPart
  rw [outsAt0_B m c t h]
  frame_out
  simp only [read_unread_whole]
  rw [held m c ⟨t.val - 1, Nat.lt_of_le_of_lt (Nat.sub_le _ _) t.isLt⟩]

/-- And in the sum over the examples' first rows. -/
theorem out_first_A (t : Fin cfg0.N) (h : t.val % 36 = 0) : (outsAt0 m c t.val t.isLt).2.2.1
    = k0_pay3 (iblk m c 6 t) (k0_pay10 (iblk m c 8 t)) (throughAt m c t) (k0_pay5 (F := Ideal)) := by
  unfold throughAt through
  rw [outsAt0_A m c t h]
  frame_out
  simp only [Whole.readCov_whole]
  rw [transfer_eq]
theorem out_first_B (t : Fin cfg0.N) (h : ¬t.val % 36 = 0) : (outsAt0 m c t.val t.isLt).2.2.1
    = k0_pay3 (iblk m c 6 t) (k0_pay10 (iblk m c 8 t)) (throughAt m c t) (outsAt0 m c (t.val - 1) (Nat.lt_of_le_of_lt (Nat.sub_le _ _) t.isLt)).2.2.1 := by
  unfold throughAt through
  rw [outsAt0_B m c t h]
  frame_out
  simp only [read_unread_whole]
  rw [held m c ⟨t.val - 1, Nat.lt_of_le_of_lt (Nat.sub_le _ _) t.isLt⟩]

end Cert.Proof.FirstBwd
end
-- ==== Proof.FirstBwd.Math.lean ====
/-
  The gradient through the mixer's input projection and the normalisation before it: one grid point's values, place by
  place.
-/
module

public import proofs.«01_k».proof.Proof.FirstBwd.Point

@[expose] public section

set_option maxRecDepth 16384

noncomputable section

namespace Cert.Proof.FirstBwd

open Cert.Kernel15Ideal Cert.Kernel15Ideal.Gen
open Idealize.ShloMosaic Idealize.ShloMosaic.TcCoe

/-- The row's length as the division takes it, and the small number added under the root. -/
def width : EReal := (Scalar.ofBits .f32 0x44800000#32 : Ideal .f32)
def eps : EReal := (Scalar.ofBits .f32 0x358637BD#32 : Ideal .f32)

/-- The columns of the weight that belong to each of the six pieces. -/
def at0 (x : Fin 1024) : Fin 6784 := ⟨x.val, by omega⟩
def at1 (x : Fin 1024) : Fin 6784 := ⟨1024 + x.val, by omega⟩
def at2 (x : Fin 1024) : Fin 6784 := ⟨2048 + x.val, by omega⟩
def at3 (x : Fin 1024) : Fin 6784 := ⟨3072 + x.val, by omega⟩
def at4 (x : Fin 2048) : Fin 6784 := ⟨4096 + x.val, by omega⟩
def at5 (x : Fin 640) : Fin 6784 := ⟨6144 + x.val, by omega⟩

/-- The sum of the six products, for one row and one column. -/
def dots (p0 p1 p2 p3 : Fin 1024 → EReal) (p4 : Fin 2048 → EReal) (p5 : Fin 640 → EReal) (w : Fin 6784 → EReal) : EReal :=
  (∑ x : Fin 1024, p0 x * w (at0 x)) + (∑ x : Fin 1024, p1 x * w (at1 x)) + (∑ x : Fin 1024, p2 x * w (at2 x))
    + (∑ x : Fin 1024, p3 x * w (at3 x)) + (∑ x : Fin 2048, p4 x * w (at4 x)) + ∑ x : Fin 640, p5 x * w (at5 x)

/-- One over the root of a row's mean square. -/
def scale (h : Fin 1024 → EReal) : EReal := Ideal.rsqrt (Ideal.div (∑ x : Fin 1024, h x * h x) width + eps)

/-- The gradient through the normalisation of a row `h` with gain `g`, of the gradient `u` after it. -/
def back (h g u : Fin 1024 → EReal) (k : Fin 1024) : EReal :=
  scale h * (u k * g k - h k * scale h * Ideal.div (∑ x : Fin 1024, u x * g x * (h x * scale h)) width)

section
variable (x0 x1 x2 x3 : Vec Ideal S256x1024 .bf16) (x4 : Vec Ideal S256x2048 .bf16) (x5 : Vec Ideal S256x640 .bf16)
  (x6 x7 : Vec Ideal S256x1024 .f32) (x8 : Vec Ideal S256x128 .f32) (x9 : Vec Ideal S1x1024 .f32) (w : Vec Ideal S1024x6784 .bf16)

/-- The six products, at a place. -/
theorem six_at (r : Fin 256) (k : Fin 1024) : six x0 x1 x2 x3 x4 x5 w (ix2 r k)
    = dots (fun x => x0 (ix2 r x)) (fun x => x1 (ix2 r x)) (fun x => x2 (ix2 r x)) (fun x => x3 (ix2 r x)) (fun x => x4 (ix2 r x)) (fun x => x5 (ix2 r x)) (fun x => w (ix2 k x)) := by
  unfold six dots
  pointwise [k0_pay13, k0_pay6, k0_pay7, k0_pay8, k0_pay9, k0_pay11, k0_pay12]
  rfl

/-- The gradient through the normalisation, at a place. -/
theorem through_at (r : Fin 256) (k : Fin 1024) : through x0 x1 x2 x3 x4 x5 x7 x9 w (ix2 r k)
    = back (fun x => x7 (ix2 r x)) (fun x => x9 (ix2 0 x)) (fun x => six x0 x1 x2 x3 x4 x5 w (ix2 r x)) k := by
  unfold through six back scale width eps
  pointwise [k0_pay16, k0_pay15, k0_pay14]

/-- What a row adds to the gain's gradient, at a place. -/
theorem gainPart_at (r : Fin 256) (k : Fin 1024) : gainPart x0 x1 x2 x3 x4 x5 x7 w (ix2 r k)
    = six x0 x1 x2 x3 x4 x5 w (ix2 r k) * (x7 (ix2 r k) * scale (fun x => x7 (ix2 r x))) := by
  unfold gainPart six scale width eps
  pointwise [k0_pay17, k0_pay15, k0_pay14]

/-- The sum of the residual's gradient and this one. -/
theorem pay1_at (b : FVec Ideal S256x1024 .f32) (r : Fin 256) (k : Fin 1024) : k0_pay1 x6 b (ix2 r k) = x6 (ix2 r k) + b (ix2 r k) := by
  pointwise [k0_pay1]

/-- The gain's accumulator takes a block's column sums. -/
theorem pay2_at (b : FVec Ideal S256x1024 .f32) (a : Vec Ideal S1x1024 .f32) (r : Fin 1) (k : Fin 1024) :
    k0_pay2 b a (ix2 r k) = a (ix2 r k) + ∑ x : Fin 256, b (ix2 x k) := by
  pointwise [k0_pay2]

/-- A column of the mask's block of 128 columns. -/
def low (k : Fin 1024) : Fin 128 := ⟨k.val % 128, Nat.mod_lt _ (by decide)⟩

/-- The other accumulator takes a block's masked rows. -/
theorem pay3_at (b : FVec Ideal S256x1024 .f32) (a : Vec Ideal S256x1024 .f32) (r : Fin 256) (k : Fin 1024) :
    k0_pay3 x6 (k0_pay10 x8) b a (ix2 r k) = a (ix2 r k) + (x6 (ix2 r k) + b (ix2 r k)) * x8 (ix2 r (low k)) := by
  unfold low
  pointwise [k0_pay3, k0_pay1, k0_pay10]
  congr 2
  split_ifs <;> (refine congrArg (fun y => x8 (ix2 r y)) (Fin.ext ?_); dsimp only; omega)

/-- The accumulators' first contents are zeros. -/
theorem pay4_at (r : Fin 1) (k : Fin 1024) : k0_pay4 (F := Ideal) (ix2 r k) = 0 := by
  pointwise [k0_pay4]
theorem pay5_at (r : Fin 256) (k : Fin 1024) : k0_pay5 (F := Ideal) (ix2 r k) = 0 := by
  pointwise [k0_pay5]
end

end Cert.Proof.FirstBwd
end
-- ==== Proof.FirstBwd.Out.lean ====
/-
  The gradient through the mixer's input projection and the normalisation before it: the three result arrays after the
  run, element by element.
-/
module

public import proofs.«01_k».proof.Proof.FirstBwd.Math

@[expose] public section

set_option maxRecDepth 16384

noncomputable section

namespace Cert.Proof.FirstBwd

open Cert.Kernel15Ideal Cert.Kernel15Ideal.Gen
open Idealize.ShloMosaic Idealize.ShloMosaic.TcCoe

/-- The ten arrays: six pieces of the projection's gradient, the residual's gradient, the input, the gain, the weight. -/
structure Args where
  p0 : FVec Ideal S9216x1024 .f32
  p1 : FVec Ideal S9216x1024 .f32
  p2 : FVec Ideal S9216x1024 .f32
  p3 : FVec Ideal S9216x1024 .f32
  p4 : FVec Ideal S9216x2048 .f32
  p5 : FVec Ideal S9216x640 .f32
  d : FVec Ideal S9216x1024 .f32
  h : FVec Ideal S9216x1024 .f32
  g : FVec Ideal S1x1024 .f32
  w : FVec Ideal S1024x6784 .f32

section
variable (A : Args)

/-- The gradient before the projection, at a place. -/
def du (r : Fin 9216) (k : Fin 1024) : EReal :=
  dots (fun x => A.p0 (ix2 r x)) (fun x => A.p1 (ix2 r x)) (fun x => A.p2 (ix2 r x)) (fun x => A.p3 (ix2 r x)) (fun x => A.p4 (ix2 r x)) (fun x => A.p5 (ix2 r x)) (fun x => A.w (ix2 k x))

/-- A row of the input, and the gain. -/
def hRow (r : Fin 9216) (k : Fin 1024) : EReal := A.h (ix2 r k)
def gain (k : Fin 1024) : EReal := A.g (ix2 0 k)

/-- The gradient in the input, at a place. -/
def dh (r : Fin 9216) (k : Fin 1024) : EReal := A.d (ix2 r k) + back (hRow A r) (gain A) (du A r) k

/-- What a row adds to the gain's gradient. -/
def dg (r : Fin 9216) (k : Fin 1024) : EReal := du A r k * (hRow A r k * scale (hRow A r))

/-- The place, among all rows, of a row of the token streams. -/
def token (r : Fin 8192) : Fin 9216 := ⟨2304 * (r.val / 2048) + 256 + r.val % 2048, by omega⟩

/-- The place of a row of an example's first 256 rows. -/
def start (b : Fin 4) (r : Fin 256) : Fin 9216 := ⟨2304 * b.val + r.val, by omega⟩

/-- The three results. -/
def gradX (j : S8192x1024.Idx) : EReal := dh A (token (j 0)) (j 1)
def gradGain (j : S1x1024.Idx) : EReal := ∑ r : Fin 9216, dg A r (j 1)
def gradFirst (j : S256x1024.Idx) : EReal := if (j 0).val < 240 then 0 else ∑ b : Fin 4, dh A (start b (j 0)) (j 1)
end

variable (m : (ℓ : Loc nD τ sig) → Buf (Elt Ideal) ℓ) (c : Dev nD)

/-- The launched arrays. -/
def args : Args where
  p0 := m ((c : Thread nD τ).loc main_arg0)
  p1 := m ((c : Thread nD τ).loc main_arg1)
  p2 := m ((c : Thread nD τ).loc main_arg2)
  p3 := m ((c : Thread nD τ).loc main_arg3)
  p4 := m ((c : Thread nD τ).loc main_arg4)
  p5 := m ((c : Thread nD τ).loc main_arg5)
  d := m ((c : Thread nD τ).loc main_arg6)
  h := m ((c : Thread nD τ).loc main_arg7)
  g := m ((c : Thread nD τ).loc main_arg8)
  w := m ((c : Thread nD τ).loc main_arg9)

/-- The places of the blocks. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val % 9, 0] := (by decide +kernel : ∀ t : Fin grid0.N, win0_8.index t = ![t.val % 9, 0])
theorem idx_9 : ∀ t : Fin cfg0.N, win0_9.index t = ![0, 0] := (by decide +kernel : ∀ t : Fin grid0.N, win0_9.index t = ![0, 0])
theorem idx_10 : ∀ t : Fin cfg0.N, win0_10.index t = ![8 * (t.val / 9) + (t.val % 9 - 1), 0] :=
  (by decide +kernel : ∀ t : Fin grid0.N, win0_10.index t = ![8 * (t.val / 9) + (t.val % 9 - 1), 0])
theorem idx_11 : ∀ t : Fin cfg0.N, win0_11.index t = ![0, 0] := (by decide +kernel : ∀ t : Fin grid0.N, win0_11.index t = ![0, 0])
theorem idx_12 : ∀ t : Fin cfg0.N, win0_12.index t = ![0, 0] := (by decide +kernel : ∀ t : Fin grid0.N, win0_12.index t = ![0, 0])

/-- The first result's block is not stored at an example's first point. -/
theorem flush_10 : ∀ t : Fin cfg0.N, (cfg0.win 10).flush t = true → t.val % 9 ≠ 0 :=
  (by decide +kernel : ∀ t : Fin grid0.N, win0_10.flush t = true → t.val % 9 ≠ 0)

/-- The number of grid points. -/
theorem n_lt (t : Fin cfg0.N) : t.val < 36 := lt_of_lt_of_eq t.isLt (show cfg0.N = 36 from N_0)

/-- A row of a point's blocks. -/
def row (t : Fin cfg0.N) (r : Fin 256) : Fin 9216 := ⟨256 * t.val + r.val, by have := n_lt t; omega⟩

/-- A change of format changes nothing. -/
theorem truncf_id {s : Shape} (w : FVec Ideal s .f32) : truncf .bf16 w bitsLt_bf16_f32 = w := rfl

/-- The pieces and the weight, on the host. -/
theorem host0 : V m c main_v0 = (args m c).p0 := by
  entry_read
  exact truncf_id (args m c).p0
theorem host1 : V m c main_v1 = (args m c).p1 := by
  entry_read
  exact truncf_id (args m c).p1
theorem host2 : V m c main_v2 = (args m c).p2 := by
  entry_read
  exact truncf_id (args m c).p2
theorem host3 : V m c main_v3 = (args m c).p3 := by
  entry_read
  exact truncf_id (args m c).p3
theorem host4 : V m c main_v4 = (args m c).p4 := by
  entry_read
  exact truncf_id (args m c).p4
theorem host5 : V m c main_v5 = (args m c).p5 := by
  entry_read
  exact truncf_id (args m c).p5
theorem weight_eq : V m c main_v6 = (args m c).w := by
  entry_read
  exact truncf_id (args m c).w

/-- The input blocks, at a place. -/
theorem blk0 (t : Fin cfg0.N) (r : Fin 256) (k : Fin 1024) : iblk m c 0 t (ix2 r k) = (args m c).p0 (ix2 (row t r) k) := by
  rw [← host0]
  unfold row
  blk_ext [iblk, idx_0 t]
theorem blk1 (t : Fin cfg0.N) (r : Fin 256) (k : Fin 1024) : iblk m c 1 t (ix2 r k) = (args m c).p1 (ix2 (row t r) k) := by
  rw [← host1]
  unfold row
  blk_ext [iblk, idx_1 t]
theorem blk2 (t : Fin cfg0.N) (r : Fin 256) (k : Fin 1024) : iblk m c 2 t (ix2 r k) = (args m c).p2 (ix2 (row t r) k) := by
  rw [← host2]
  unfold row
  blk_ext [iblk, idx_2 t]
theorem blk3 (t : Fin cfg0.N) (r : Fin 256) (k : Fin 1024) : iblk m c 3 t (ix2 r k) = (args m c).p3 (ix2 (row t r) k) := by
  rw [← host3]
  unfold row
  blk_ext [iblk, idx_3 t]
theorem blk4 (t : Fin cfg0.N) (r : Fin 256) (k : Fin 2048) : iblk m c 4 t (ix2 r k) = (args m c).p4 (ix2 (row t r) k) := by
  rw [← host4]
  unfold row
  blk_ext [iblk, idx_4 t]
theorem blk5 (t : Fin cfg0.N) (r : Fin 256) (k : Fin 640) : iblk m c 5 t (ix2 r k) = (args m c).p5 (ix2 (row t r) k) := by
  rw [← host5]
  unfold row
  blk_ext [iblk, idx_5 t]
theorem blk6 (t : Fin cfg0.N) (r : Fin 256) (k : Fin 1024) : iblk m c 6 t (ix2 r k) = (args m c).d (ix2 (row t r) k) := by
  unfold row args
  blk_ext [iblk, V, idx_6 t]
theorem blk7 (t : Fin cfg0.N) (r : Fin 256) (k : Fin 1024) : iblk m c 7 t (ix2 r k) = (args m c).h (ix2 (row t r) k) := by
  unfold row args
  blk_ext [iblk, V, idx_7 t]
theorem blk9 (t : Fin cfg0.N) (k : Fin 1024) : iblk m c 9 t (ix2 0 k) = (args m c).g (ix2 0 k) := by
  unfold args
  blk_ext [iblk, V, idx_9 t]

section
variable (x0 x1 x2 x3 : Vec Ideal S256x1024 .bf16) (x4 : Vec Ideal S256x2048 .bf16) (x5 : Vec Ideal S256x640 .bf16)
  (x7 : Vec Ideal S256x1024 .f32) (x9 : Vec Ideal S1x1024 .f32) (A : Args) (f : Fin 256 → Fin 9216)
  (h0 : ∀ r k, x0 (ix2 r k) = A.p0 (ix2 (f r) k)) (h1 : ∀ r k, x1 (ix2 r k) = A.p1 (ix2 (f r) k)) (h2 : ∀ r k, x2 (ix2 r k) = A.p2 (ix2 (f r) k))
  (h3 : ∀ r k, x3 (ix2 r k) = A.p3 (ix2 (f r) k)) (h4 : ∀ r k, x4 (ix2 r k) = A.p4 (ix2 (f r) k)) (h5 : ∀ r k, x5 (ix2 r k) = A.p5 (ix2 (f r) k))
  (h7 : ∀ r k, x7 (ix2 r k) = A.h (ix2 (f r) k)) (h9 : ∀ k, x9 (ix2 0 k) = A.g (ix2 0 k))
include h0 h1 h2 h3 h4 h5

/-- One point's values, of blocks that are rows of the arrays. -/
theorem six_of (r : Fin 256) (k : Fin 1024) : six x0 x1 x2 x3 x4 x5 A.w (ix2 r k) = du A (f r) k := by
  rw [six_at]
  unfold du
  simp only [h0, h1, h2, h3, h4, h5]

include h7
theorem gainPart_of (r : Fin 256) (k : Fin 1024) : gainPart x0 x1 x2 x3 x4 x5 x7 A.w (ix2 r k) = dg A (f r) k := by
  rw [gainPart_at, six_of x0 x1 x2 x3 x4 x5 A f h0 h1 h2 h3 h4 h5]
  unfold dg hRow
  simp only [h7]

include h9
theorem through_of (r : Fin 256) (k : Fin 1024) : through x0 x1 x2 x3 x4 x5 x7 x9 A.w (ix2 r k) = back (hRow A (f r)) (gain A) (du A (f r)) k := by
  rw [through_at]
  simp only [six_of x0 x1 x2 x3 x4 x5 A f h0 h1 h2 h3 h4 h5, h7, h9]
  rfl
end

/-- One point's values, at a place. -/
theorem throughAt_eq (t : Fin cfg0.N) (r : Fin 256) (k : Fin 1024) : throughAt m c t (ix2 r k)
    = back (hRow (args m c) (row t r)) (gain (args m c)) (du (args m c) (row t r)) k := by
  unfold throughAt
  rw [weight_eq]
  exact through_of _ _ _ _ _ _ _ _ (args m c) (row t) (blk0 m c t) (blk1 m c t) (blk2 m c t) (blk3 m c t) (blk4 m c t) (blk5 m c t) (blk7 m c t) (blk9 m c t) r k
theorem gainPartAt_eq (t : Fin cfg0.N) (r : Fin 256) (k : Fin 1024) : gainPartAt m c t (ix2 r k) = dg (args m c) (row t r) k := by
  unfold gainPartAt
  rw [weight_eq]
  exact gainPart_of _ _ _ _ _ _ _ (args m c) (row t) (blk0 m c t) (blk1 m c t) (blk2 m c t) (blk3 m c t) (blk4 m c t) (blk5 m c t) (blk7 m c t) r k

/-- The gradient in the input, at a place of a point's block. -/
theorem out_x_at (t : Fin cfg0.N) (r : Fin 256) (k : Fin 1024) : k0_pay1 (iblk m c 6 t) (throughAt m c t) (ix2 r k) = dh (args m c) (row t r) k := by
  refine (pay1_at (iblk m c 6 t) (throughAt m c t) r k).trans ?_
  unfold dh
  rw [throughAt_eq, blk6]

/-- The first result array after the run: the gradient in the token streams' rows. -/
theorem final_x : (dats m 0 c).arrAt 10 cfg0.N = gradX (args m c) := by
  refine (dats m 0 c).arrAt_eq_of_covers 10 _ (by decide +kernel) fun t hf y => ?_
  have h := flush_10 t hf
  have hl : 256 * (8 * (t.val / 9) + (t.val % 9 - 1)) + (y 0).val < 8192 := by
    have := n_lt t
    have h0 : (y 0).val < 256 := (y 0).isLt
    omega
  have e : ((cfg0.win 10).blk t).view.emb y = ix2 ⟨256 * (8 * (t.val / 9) + (t.val % 9 - 1)) + (y 0).val, hl⟩ (y 1) := by
    blk_ext [idx_10 t]
  have e' : token ⟨256 * (8 * (t.val / 9) + (t.val % 9 - 1)) + (y 0).val, hl⟩ = row t (y 0) := by
    unfold token row
    refine Fin.ext ?_
    have h0 : (y 0).val < 256 := (y 0).isLt
    dsimp only
    omega
  rw [e]
  blk_simp
  rw [after0_10, out_x]
  refine (congrArg _ (eq_ix2 y)).trans ((out_x_at m c t (y 0) (y 1)).trans ?_)
  unfold gradX
  exact congrArg (fun r => dh (args m c) r (y 1)) e'.symm

end Cert.Proof.FirstBwd
end
-- ==== Proof.FirstBwd.Acc.lean ====
/-
  The gradient through the mixer's input projection and the normalisation before it: the two results that are summed over
  the grid's points.
-/
module

public import proofs.«01_k».proof.Proof.FirstBwd.Out

@[expose] public section

set_option maxRecDepth 16384

noncomputable section

namespace Cert.Proof.FirstBwd

open Cert.Kernel15Ideal Cert.Kernel15Ideal.Gen
open Idealize.ShloMosaic Idealize.ShloMosaic.TcCoe

variable (m : (ℓ : Loc nD τ sig) → Buf (Elt Ideal) ℓ) (c : Dev nD)

/-- The number of a grid point of the one run. -/
theorem pt_lt (t : Fin cfg0.N) (h : t.val % 36 = 35) (s : Fin 36) : 36 * (t.val / 36) + s.val < cfg0.N := Pipeline.run_point_lt_of_flush t h s

/-- The gain's accumulator at the last point: all points' column sums. -/
theorem acc_gain (t : Fin cfg0.N) (h : t.val % 36 = 35) (j : S1x1024.Idx) :
    (outsAt0 m c t.val t.isLt).2.1 j = ∑ s : Fin 36, ∑ x : Fin 256, dg (args m c) (row ⟨36 * (t.val / 36) + s.val, pt_lt t h s⟩ x) (j 1) := by
  refine (Pipeline.eq_sum_fin_of_reset_step_apply_of_flush (fun n h => (outsAt0 m c n h).2.1) 36 (fun _ => (0 : EReal))
    (fun t j => ∑ x : Fin 256, dg (args m c) (row t x) (j 1)) (fun t h j => ?_) (fun t h j => ?_) t h j).trans (zero_add _)
  · rw [out_gain_A m c t h]
    refine (congrArg _ (eq_ix2 j)).trans ((pay2_at _ _ (j 0) (j 1)).trans ?_)
    exact congrArg₂ (· + ·) (pay4_at (j 0) (j 1)) (Finset.sum_congr rfl fun x _ => gainPartAt_eq m c t x (j 1))
  · rw [out_gain_B m c t h]
    refine (congrArg _ (eq_ix2 j)).trans ((pay2_at _ _ (j 0) (j 1)).trans ?_)
    exact congrArg₂ (· + ·) (congrArg _ (eq_ix2 j).symm) (Finset.sum_congr rfl fun x _ => gainPartAt_eq m c t x (j 1))

/-- The second result array after the run: the gain's gradient. -/
theorem final_gain : (dats m 0 c).arrAt 11 cfg0.N = gradGain (args m c) := by
  refine (dats m 0 c).arrAt_eq_of_covers 11 _ (by decide +kernel) fun t hf y => ?_
  have h : t.val % 36 = 35 := (flush0_11 t).mp hf
  have h36 := n_lt t
  have e : ((cfg0.win 11).blk t).view.emb y = y := by
    blk_ext [idx_11 t]
  rw [e]
  blk_simp
  rw [after0_11, acc_gain m c t h]
  unfold gradGain
  refine Fin.sum_mul_add_congr fun s k hl => ?_
  refine congrArg (fun r => dg (args m c) r (y 1)) (Fin.ext ?_)
  unfold row
  dsimp only
  omega

/-- The marks of an example's rows: which of them are the last sixteen of its first 256. -/
def bits : IVec S2304 1 :=
  andi (cmpi .sge (iotaInDim S2304 32 0) (broadcastInDim S2304 ![] bcast_S_S2304 (constantI S_ 32 240#32)))
    (cmpi .slt (iotaInDim S2304 32 0) (broadcastInDim S2304 ![] bcast_S_S2304 (constantI S_ 32 256#32)))

/-- The marks, at a place. -/
theorem bits_at : ∀ r : Fin 2304, bits (ix1 r) = if 240 ≤ r.val ∧ r.val < 256 then 1#1 else 0#1 := by
  decide +kernel

/-- The marks as numbers, on the host. -/
theorem mask_at (r : Fin 2304) (k : Fin 128) : V m c main_v16 (ix2 r k) = (if 240 ≤ r.val ∧ r.val < 256 then 1 else 0 : EReal) := by
  have e : V m c main_v16 = broadcastInDim S2304x128 ![0, 1] bcast_S2304x1_S2304x128_0_1 (broadcastInDim S2304x1 ![0] bcast_S2304_S2304x1_0 (uitofp (F := Ideal) .f32 bits)) := by
    entry_read
    rfl
  rw [e]
  pointwise
  rw [bits_at]
  split
  · exact (congrArg _ Nat.cast_one).trans EReal.coe_one
  · exact (congrArg _ Nat.cast_zero).trans EReal.coe_zero

/-- A row of a point's block among an example's rows. -/
def inner (t : Fin cfg0.N) (r : Fin 256) : Fin 2304 := ⟨256 * (t.val % 9) + r.val, by omega⟩

/-- The marks' block, at a place. -/
theorem blk8 (t : Fin cfg0.N) (r : Fin 256) (k : Fin 128) : iblk m c 8 t (ix2 r k) = V m c main_v16 (ix2 (inner t r) k) := by
  unfold inner
  blk_ext [iblk, idx_8 t]

/-- What a point adds to the sum over the examples' first rows. -/
def firstPart (t : Fin cfg0.N) (r : Fin 256) (k : Fin 1024) : EReal :=
  if t.val % 9 = 0 ∧ 240 ≤ r.val then dh (args m c) (row t r) k else 0

/-- The marked rows of a point's block. -/
theorem marked_of (x6 b : Vec Ideal S256x1024 .f32) (x8 : Vec Ideal S256x128 .f32) (t : Fin cfg0.N) (r : Fin 256) (k : Fin 1024)
    (h : x6 (ix2 r k) + b (ix2 r k) = dh (args m c) (row t r) k)
    (h8 : x8 (ix2 r (low k)) = (if 240 ≤ (inner t r).val ∧ (inner t r).val < 256 then 1 else 0 : EReal)) :
    (x6 (ix2 r k) + b (ix2 r k)) * x8 (ix2 r (low k)) = firstPart m c t r k := by
  rw [h, h8]
  unfold firstPart inner
  have hr := r.isLt
  by_cases h : t.val % 9 = 0 ∧ 240 ≤ r.val
  · rw [if_pos h, if_pos (by dsimp only; omega), mul_one]
  · rw [if_neg h, if_neg (by dsimp only; omega), mul_zero]

/-- The accumulator at the last point: all points' marked rows. -/
theorem acc_first (t : Fin cfg0.N) (h : t.val % 36 = 35) (j : S256x1024.Idx) :
    (outsAt0 m c t.val t.isLt).2.2.1 j = ∑ s : Fin 36, firstPart m c ⟨36 * (t.val / 36) + s.val, pt_lt t h s⟩ (j 0) (j 1) := by
  refine (Pipeline.eq_sum_fin_of_reset_step_apply_of_flush (fun n h => (outsAt0 m c n h).2.2.1) 36 (fun _ => (0 : EReal))
    (fun t j => firstPart m c t (j 0) (j 1)) (fun t h j => ?_) (fun t h j => ?_) t h j).trans (zero_add _)
  · rw [out_first_A m c t h]
    refine (congrArg _ (eq_ix2 j)).trans ((pay3_at _ _ _ _ (j 0) (j 1)).trans ?_)
    exact congrArg₂ (· + ·) (pay5_at (j 0) (j 1)) (marked_of m c _ _ _ t (j 0) (j 1) ((pay1_at _ _ _ _).symm.trans (out_x_at m c t (j 0) (j 1))) ((blk8 m c t (j 0) (low (j 1))).trans (mask_at m c _ _)))
  · rw [out_first_B m c t h]
    refine (congrArg _ (eq_ix2 j)).trans ((pay3_at _ _ _ _ (j 0) (j 1)).trans ?_)
    exact congrArg₂ (· + ·) (congrArg _ (eq_ix2 j).symm) (marked_of m c _ _ _ t (j 0) (j 1) ((pay1_at _ _ _ _).symm.trans (out_x_at m c t (j 0) (j 1))) ((blk8 m c t (j 0) (low (j 1))).trans (mask_at m c _ _)))

/-- A sum over the points of four examples of nine, of which each example's first alone counts. -/
theorem sum_first (f : Fin 36 → EReal) (hf : ∀ s : Fin 36, s.val % 9 ≠ 0 → f s = 0) : ∑ s : Fin 36, f s = ∑ b : Fin 4, f ⟨9 * b.val, by omega⟩ := by
  refine (Fin.sum_mul_add_congr (S := 4) (n := 9) (F := fun b i => f ⟨b.val * 9 + i.val, by omega⟩) fun s k hl => rfl).symm.trans ?_
  refine Finset.sum_congr rfl fun b _ => ?_
  rw [Fin.sum_univ_succ, Finset.sum_eq_zero, add_zero]
  · refine congrArg f (Fin.ext ?_)
    simp [mul_comm]
  · intro i _
    refine hf _ ?_
    have := i.isLt
    simp only [Fin.val_succ]
    omega

/-- All points' marked rows are the examples' first rows. -/
theorem firsts (t : Fin cfg0.N) (h : t.val % 36 = 35) (r : Fin 256) (k : Fin 1024) :
    ∑ s : Fin 36, firstPart m c ⟨36 * (t.val / 36) + s.val, pt_lt t h s⟩ r k = if r.val < 240 then 0 else ∑ b : Fin 4, dh (args m c) (start b r) k := by
  have h36 := n_lt t
  have hz : ∀ s : Fin 36, s.val % 9 ≠ 0 → firstPart m c ⟨36 * (t.val / 36) + s.val, pt_lt t h s⟩ r k = 0 := fun s hs => by
    unfold firstPart
    exact if_neg (by dsimp only; omega)
  rw [sum_first _ hz]
  unfold firstPart
  by_cases hy : r.val < 240
  · rw [if_pos hy]
    exact Finset.sum_eq_zero fun b _ => if_neg (by omega)
  · rw [if_neg hy]
    refine Finset.sum_congr rfl fun b _ => ?_
    rw [if_pos (by dsimp only; omega)]
    refine congrArg (fun r => dh (args m c) r k) (Fin.ext ?_)
    unfold row start
    dsimp only
    omega

/-- The third result array after the run: the sum over the examples' first rows. -/
theorem final_first : (dats m 0 c).arrAt 12 cfg0.N = gradFirst (args m c) := by
  refine (dats m 0 c).arrAt_eq_of_covers 12 _ (by decide +kernel) fun t hf y => ?_
  have h : t.val % 36 = 35 := (flush0_12 t).mp hf
  have e : ((cfg0.win 12).blk t).view.emb y = y := by
    blk_ext [idx_12 t]
  rw [e]
  blk_simp
  rw [after0_12, acc_first m c t h]
  exact firsts m c t h (y 0) (y 1)

end Cert.Proof.FirstBwd
end
-- ==== Proof.FirstBwd.Real.lean ====
/-
  The two ways of taking a normalisation's gradient agree, at the infinities too: the reference differentiates the mean
  square and the root, the kernel subtracts the normalised row's share. Where a row holds an infinity its mean square is
  infinite and both are zero; elsewhere the scale is a positive real number, which multiplies out of any sum.
-/
module

public import proofs.«01_k».proof.Proof.FirstBwd.Math
public import proofs.«01_k».proof.Proof.AttnBwd.Spec

@[expose] public section

noncomputable section

namespace Cert.Proof.FirstBwd

open Idealize.ShloMosaic

/-- Minus one half. -/
def minusHalf : EReal := (Scalar.ofBits .f32 0xBF000000#32 : Ideal .f32)

/-- The three numbers. -/
theorem width_eq : width = ((1024 : ℝ) : EReal) := by
  unfold width
  show Ideal.ofBits .f32 0x44800000#32 = _
  simp [Ideal.ofBits, Ideal.ieee, -EReal.coe_mul]; norm_num
theorem minusHalf_eq : minusHalf = ((-(1 / 2) : ℝ) : EReal) := by
  unfold minusHalf
  show Ideal.ofBits .f32 0xBF000000#32 = _
  simp [Ideal.ofBits, Ideal.ieee, -EReal.coe_mul, -EReal.coe_neg]; norm_num
theorem eps_eq : eps = ((8796093 * (2 : ℝ) ^ (-43 : ℤ) : ℝ) : EReal) := by
  unfold eps
  show Ideal.ofBits .f32 0x358637BD#32 = _
  simp [Ideal.ofBits, Ideal.ieee, -EReal.coe_mul]

/-- The mean square and the small number. -/
def meanSq (h : Fin 1024 → EReal) : EReal := Ideal.div (∑ x : Fin 1024, h x * h x) width + eps

/-- A square is not negative. -/
theorem zero_le_sq (x : EReal) : 0 ≤ x * x := by
  induction x with
  | bot => simp
  | coe a => rw [← EReal.coe_mul]; exact EReal.coe_nonneg.mpr (mul_self_nonneg a)
  | top => simp

/-- The mean square is infinite or a positive real number. -/
theorem meanSq_cases (h : Fin 1024 → EReal) : meanSq h = ⊤ ∨ ∃ v : ℝ, 0 < v ∧ meanSq h = (v : EReal) := by
  have hn : 0 ≤ ∑ x : Fin 1024, h x * h x := Finset.sum_nonneg fun x _ => zero_le_sq (h x)
  unfold meanSq
  rw [width_eq, eps_eq, Ideal.div_coe (by norm_num)]
  generalize (∑ x : Fin 1024, h x * h x) = q at hn
  induction q with
  | bot => exact absurd hn (by simp)
  | coe a =>
    have ha : 0 ≤ a := EReal.coe_nonneg.mp hn
    exact .inr ⟨a * (1 / 1024) + 8796093 * (2 : ℝ) ^ (-43 : ℤ), by positivity, by simp only [← EReal.coe_mul, ← EReal.coe_add]⟩
  | top => exact .inl (by rw [EReal.top_mul_coe_of_pos (by norm_num), EReal.top_add_coe])

/-- A positive real number multiplies out of a sum. -/
theorem sum_mul_pos {n : ℕ} (f : Fin n → EReal) {r : ℝ} (hr : 0 < r) : ∑ x, f x * (r : EReal) = (∑ x, f x) * (r : EReal) := by
  induction n with
  | zero => simp
  | succ n ih =>
    rw [Fin.sum_univ_succ, Fin.sum_univ_succ, ih,
      EReal.right_distrib_of_nonneg_of_ne_top (EReal.coe_nonneg.mpr hr.le) (EReal.coe_ne_top r)]

/-- Twice a negative multiple. -/
theorem twice_neg (y : EReal) {p : ℝ} (hp : p < 0) : y * (p : EReal) + y * (p : EReal) = y * ((2 * p : ℝ) : EReal) := by
  have hp2 : 2 * p < 0 := by linarith
  induction y with
  | bot => rw [EReal.bot_mul_coe_of_neg hp, EReal.bot_mul_coe_of_neg hp2]; rfl
  | coe a => simp only [← EReal.coe_mul, ← EReal.coe_add]; exact congrArg _ (by ring)
  | top => rw [EReal.top_mul_coe_of_neg hp, EReal.top_mul_coe_of_neg hp2]; rfl

/-- The reference's second term: a row's product with the gradient, through the mean square. -/
def coef (h g u : Fin 1024 → EReal) : EReal :=
  Ideal.div ((∑ x : Fin 1024, h x * (u x * g x)) * (minusHalf * Ideal.div (scale h) (meanSq h))) width

/-- The two ways. -/
theorem back_eq (h g u : Fin 1024 → EReal) (d : EReal) (k : Fin 1024) :
    d + u k * g k * scale h + h k * coef h g u + coef h g u * h k = d + back h g u k := by
  rcases meanSq_cases h with e | ⟨v, hv, e⟩
  · have es : scale h = 0 := congrArg Ideal.rsqrt e
    have ed : Ideal.div 0 ⊤ = 0 := by rw [Ideal.div, if_neg EReal.top_ne_zero, zero_mul]
    unfold coef back
    rw [es, e, ed, width_eq]
    simp only [Ideal.div_coe (show (1024 : ℝ) ≠ 0 by norm_num), mul_zero, zero_mul, add_zero]
  · have es : scale h = (((Real.sqrt v)⁻¹ : ℝ) : EReal) := by
      show Ideal.rsqrt (meanSq h) = _
      rw [e, Ideal.rsqrt_coe, if_neg (not_lt.mpr hv.le), if_neg hv.ne']
    have hs : (Real.sqrt v)⁻¹ * (Real.sqrt v)⁻¹ = 1 / v := by
      rw [← mul_inv, Real.mul_self_sqrt hv.le, one_div]
    have hr : 0 < (Real.sqrt v)⁻¹ := inv_pos.mpr (Real.sqrt_pos.mpr hv)
    unfold coef back
    rw [es, e, minusHalf_eq, width_eq]
    simp only [Ideal.div_coe hv.ne', Ideal.div_coe (show (1024 : ℝ) ≠ 0 by norm_num)]
    rw [← hs]
    generalize (Real.sqrt v)⁻¹ = r at hr
    have e2 : ∑ x : Fin 1024, u x * g x * (h x * (r : EReal)) = (∑ x : Fin 1024, h x * (u x * g x)) * (r : EReal) := by
      rw [← sum_mul_pos _ hr]
      exact Finset.sum_congr rfl fun x _ => by rw [← mul_assoc, mul_comm (u x * g x) (h x)]
    rw [e2]
    generalize (∑ x : Fin 1024, h x * (u x * g x)) = s
    generalize u k * g k = a
    have ec : s * (((-(1 / 2) : ℝ) : EReal) * ((r : EReal) * ((r * r : ℝ) : EReal))) * ((1 / 1024 : ℝ) : EReal)
        = s * ((-(1 / 2) * (r * (r * r)) * (1 / 1024) : ℝ) : EReal) := by
      simp only [EReal.coe_mul, mul_assoc]
    have em : h k * (r : EReal) * (s * (r : EReal) * ((1 / 1024 : ℝ) : EReal)) = h k * s * ((r * r * (1 / 1024) : ℝ) : EReal) := by
      simp only [EReal.coe_mul]
      ac_rfl
    have hp : -(1 / 2) * (r * (r * r)) * (1 / 1024) < 0 := by
      have : 0 < r * (r * r) := by positivity
      linarith
    rw [ec, em, mul_comm (s * _) (h k), ← mul_assoc, add_assoc, add_assoc, twice_neg _ hp, sub_eq_add_neg,
      EReal.left_distrib_of_nonneg_of_ne_top (EReal.coe_nonneg.mpr hr.le) (EReal.coe_ne_top r), mul_comm a (r : EReal)]
    refine congrArg (fun x => d + ((r : EReal) * a + x)) ?_
    generalize h k * s = y
    have en : (r : EReal) * -(y * ((r * r * (1 / 1024) : ℝ) : EReal)) = y * ((-(r * (r * r * (1 / 1024))) : ℝ) : EReal) := by
      simp only [EReal.coe_neg, EReal.coe_mul, mul_neg]
      refine congrArg _ ?_
      ac_rfl
    rw [en]
    exact congrArg (fun x : ℝ => y * (x : EReal)) (by ring)

end Cert.Proof.FirstBwd
end
-- ==== Proof.FirstBwd.Ref.lean ====
/-
  The gradient through the mixer's input projection and the normalisation before it: the reference's results, element by
  element.
-/
module

public import proofs.«01_k».proof.Proof.FirstBwd.Out
public import proofs.«01_k».proof.Proof.FirstBwd.Real
public import proofs.«01_k».proof.Proof.Gen.Reference15Ideal.Run

@[expose] public section

set_option maxRecDepth 16384

noncomputable section

namespace Cert.Proof.FirstBwd.Ref

open Cert.Reference15Ideal Cert.Reference15Ideal.Gen
open Idealize.ShloMosaic Idealize.ShloMosaic.TcCoe

section
variable (A : Args)

/-- The projection's gradient, whole, and the gradient before the projection. -/
def cat : FVec Ideal S9216x6784 .f32 :=
  concatenate S9216x6784 1 [⟨S9216x1024, A.p0⟩, ⟨S9216x1024, A.p1⟩, ⟨S9216x1024, A.p2⟩, ⟨S9216x1024, A.p3⟩, ⟨S9216x2048, A.p4⟩, ⟨S9216x640, A.p5⟩]
    concatenates_S9216x1024_S9216x1024_S9216x1024_S9216x1024_S9216x2048_S9216x640_S9216x6784_d1
def u : FVec Ideal S9216x1024 .f32 := Host.dotGeneral (F := Ideal) dot_S9216x6784_S1024x6784_S9216x1024_1_1_0_0_n_n none (cat A) A.w

/-- The mean squares, and one over their roots. -/
def ms : FVec Ideal S9216x1 .f32 :=
  addf (Host.divf (broadcastInDim S9216x1 ![0] bcast_S9216_S9216x1_0 (Host.reduceAdd (mulf A.h A.h) (constant S_ .f32 0x00000000#32) reducesTo_S9216x1024_S9216_d1 h_S_))
    (broadcastInDim S9216x1 ![] bcast_S_S9216x1 (constant S_ .f32 0x44800000#32))) (broadcastInDim S9216x1 ![] bcast_S_S9216x1 (constant S_ .f32 0x358637BD#32))
def rs : FVec Ideal S9216x1 .f32 := Host.rsqrt (ms A)

/-- The gradient after the gain. -/
def ug : FVec Ideal S9216x1024 .f32 :=
  mulf (u A) (broadcastInDim S9216x1024 ![0, 1] bcast_S1x1024_S9216x1024_0_1 (broadcastInDim S1x1024 ![1] bcast_S1024_S1x1024_1 (shapeCast _ A.g shapeCasts_S1x1024_S1024)))

/-- The term that goes through the mean square. -/
def co : FVec Ideal S9216 .f32 :=
  Host.reduceAdd (Host.divf (mulf (shapeCast _ (Host.reduceAdd (mulf A.h (ug A)) (constant S_ .f32 0x00000000#32) reducesTo_S9216x1024_S9216_d1 h_S_) shapeCasts_S9216_S9216x1)
    (mulf (broadcastInDim S9216x1 ![] bcast_S_S9216x1 (constant S_ .f32 0xBF000000#32)) (Host.divf (rs A) (ms A))))
    (broadcastInDim S9216x1 ![] bcast_S_S9216x1 (constant S_ .f32 0x44800000#32))) (constant S_ .f32 0x00000000#32) reducesTo_S9216x1_S9216_d1 h_S_

/-- The gradient in the input. -/
def dhv : FVec Ideal S9216x1024 .f32 :=
  addf (addf (addf A.d (mulf (ug A) (broadcastInDim S9216x1024 ![0, 1] bcast_S9216x1_S9216x1024_0_1 (rs A))))
    (mulf A.h (broadcastInDim S9216x1024 ![0] bcast_S9216_S9216x1024_0 (co A)))) (mulf (broadcastInDim S9216x1024 ![0] bcast_S9216_S9216x1024_0 (co A)) A.h)

/-- The same by examples. -/
def byExample : FVec Ideal S4x2304x1024 .f32 := shapeCast _ (dhv A) shapeCasts_S9216x1024_S4x2304x1024

/-- The three results. -/
def refX : FVec Ideal S8192x1024 .f32 :=
  shapeCast _ (extractStridedSlice S4x2048x1024 ![0, 256, 0] (byExample A) slices_S4x2304x1024_S4x2048x1024_0_256_0) shapeCasts_S4x2048x1024_S8192x1024
def refGain : FVec Ideal S1x1024 .f32 :=
  broadcastInDim S1x1024 ![1] bcast_S1024_S1x1024_1 (Host.reduceAdd (shapeCast _ (Host.reduceAdd (mulf (mulf A.h (broadcastInDim S9216x1024 ![0, 1] bcast_S9216x1_S9216x1024_0_1 (rs A))) (u A))
    (constant S_ .f32 0x00000000#32) reducesTo_S9216x1024_S1024_d0 h_S_) shapeCasts_S1024_S1x1024) (constant S_ .f32 0x00000000#32) reducesTo_S1x1024_S1024_d0 h_S_)
def refFirst : FVec Ideal S256x1024 .f32 :=
  pad S256x1024 ![240, 0] ![0, 0] ![0, 0] (Host.reduceAdd (extractStridedSlice S4x16x1024 ![0, 240, 0] (byExample A) slices_S4x2304x1024_S4x16x1024_0_240_0)
    (constant S_ .f32 0x00000000#32) reducesTo_S4x16x1024_S16x1024_d0 h_S_) (sitofp .f32 (constantI S_ 32 0#32)) pads_S16x1024_S256x1024_24000_000 h_S_

/-- The whole of the projection's gradient, at a place. -/
theorem cat_at (r : Fin 9216) (x : Fin 6784) : cat A (ix2 r x) =
    if h : x.val < 1024 then A.p0 (ix2 r ⟨x.val, h⟩)
    else if h : x.val - 1024 < 1024 then A.p1 (ix2 r ⟨x.val - 1024, h⟩)
    else if h : x.val - 1024 - 1024 < 1024 then A.p2 (ix2 r ⟨x.val - 1024 - 1024, h⟩)
    else if h : x.val - 1024 - 1024 - 1024 < 1024 then A.p3 (ix2 r ⟨x.val - 1024 - 1024 - 1024, h⟩)
    else if h : x.val - 1024 - 1024 - 1024 - 1024 < 2048 then A.p4 (ix2 r ⟨x.val - 1024 - 1024 - 1024 - 1024, h⟩)
    else A.p5 (ix2 r ⟨x.val - 1024 - 1024 - 1024 - 1024 - 2048, by omega⟩) := by
  pointwise [cat]

/-- The columns that belong to each piece. -/
theorem cat0 (r : Fin 9216) (x : Fin 1024) : cat A (ix2 r (at0 x)) = A.p0 (ix2 r x) := by
  have hx := x.isLt
  rw [cat_at]
  unfold at0
  rw [dif_pos (by dsimp only; omega)]
theorem cat1 (r : Fin 9216) (x : Fin 1024) : cat A (ix2 r (at1 x)) = A.p1 (ix2 r x) := by
  have hx := x.isLt
  rw [cat_at]
  unfold at1
  rw [dif_neg (by dsimp only; omega), dif_pos (by dsimp only; omega)]
  exact congrArg (fun y => A.p1 (ix2 r y)) (Fin.ext (by dsimp only; omega))
theorem cat2 (r : Fin 9216) (x : Fin 1024) : cat A (ix2 r (at2 x)) = A.p2 (ix2 r x) := by
  have hx := x.isLt
  rw [cat_at]
  unfold at2
  rw [dif_neg (by dsimp only; omega), dif_neg (by dsimp only; omega), dif_pos (by dsimp only; omega)]
  exact congrArg (fun y => A.p2 (ix2 r y)) (Fin.ext (by dsimp only; omega))
theorem cat3 (r : Fin 9216) (x : Fin 1024) : cat A (ix2 r (at3 x)) = A.p3 (ix2 r x) := by
  have hx := x.isLt
  rw [cat_at]
  unfold at3
  rw [dif_neg (by dsimp only; omega), dif_neg (by dsimp only; omega), dif_neg (by dsimp only; omega), dif_pos (by dsimp only; omega)]
  exact congrArg (fun y => A.p3 (ix2 r y)) (Fin.ext (by dsimp only; omega))
theorem cat4 (r : Fin 9216) (x : Fin 2048) : cat A (ix2 r (at4 x)) = A.p4 (ix2 r x) := by
  have hx := x.isLt
  rw [cat_at]
  unfold at4
  rw [dif_neg (by dsimp only; omega), dif_neg (by dsimp only; omega), dif_neg (by dsimp only; omega), dif_neg (by dsimp only; omega), dif_pos (by dsimp only; omega)]
  exact congrArg (fun y => A.p4 (ix2 r y)) (Fin.ext (by dsimp only; omega))
theorem cat5 (r : Fin 9216) (x : Fin 640) : cat A (ix2 r (at5 x)) = A.p5 (ix2 r x) := by
  have hx := x.isLt
  rw [cat_at]
  unfold at5
  rw [dif_neg (by dsimp only; omega), dif_neg (by dsimp only; omega), dif_neg (by dsimp only; omega), dif_neg (by dsimp only; omega), dif_neg (by dsimp only; omega)]
  exact congrArg (fun y => A.p5 (ix2 r y)) (Fin.ext (by dsimp only; omega))

/-- A sum over all columns is the six pieces' sums. -/
theorem sum_six (f : Fin 6784 → EReal) : ∑ x : Fin 6784, f x = (∑ x : Fin 1024, f (at0 x)) + (∑ x : Fin 1024, f (at1 x)) + (∑ x : Fin 1024, f (at2 x))
    + (∑ x : Fin 1024, f (at3 x)) + (∑ x : Fin 2048, f (at4 x)) + ∑ x : Fin 640, f (at5 x) := by
  refine (Fin.sum_univ_add (a := 6144) (b := 640) f).trans (congrArg₂ (· + ·) ?_ rfl)
  refine (Fin.sum_univ_add (a := 4096) (b := 2048) _).trans (congrArg₂ (· + ·) ?_ rfl)
  refine (Fin.sum_univ_add (a := 3072) (b := 1024) _).trans (congrArg₂ (· + ·) ?_ rfl)
  refine (Fin.sum_univ_add (a := 2048) (b := 1024) _).trans (congrArg₂ (· + ·) ?_ rfl)
  exact Fin.sum_univ_add (a := 1024) (b := 1024) _

/-- The gradient before the projection. -/
theorem u_at (r : Fin 9216) (k : Fin 1024) : u A (ix2 r k) = du A r k := by
  have e : u A (ix2 r k) = ∑ x : Fin 6784, (cat A (ix2 r x) : EReal) * A.w (ix2 k x) := by
    pointwise [u]
  rw [e, sum_six]
  unfold du dots
  simp only [cat0, cat1, cat2, cat3, cat4, cat5]

/-- One over the root of a row's mean square. -/
theorem ms_at (r : Fin 9216) : ms A (ix2 r 0) = meanSq (hRow A r) := by
  unfold meanSq hRow width eps
  pointwise [ms]
theorem rs_at (r : Fin 9216) : rs A (ix2 r 0) = scale (hRow A r) := by
  refine Eq.trans ?_ (congrArg Ideal.rsqrt (ms_at A r))
  pointwise [rs]

/-- The gradient after the gain. -/
theorem ug_at (r : Fin 9216) (k : Fin 1024) : ug A (ix2 r k) = du A r k * gain A k := by
  rw [← u_at]
  unfold gain
  pointwise [ug]

/-- The term that goes through the mean square. -/
theorem co_at (r : Fin 9216) : co A (ix1 r) = coef (hRow A r) (gain A) (du A r) := by
  unfold coef
  rw [← ms_at, ← rs_at]
  simp only [← ug_at]
  unfold minusHalf width hRow
  pointwise [co]
  exact Fin.sum_univ_one _

/-- The reference's gradient in the input, at a place. -/
theorem dhv_at (r : Fin 9216) (k : Fin 1024) : dhv A (ix2 r k) = A.d (ix2 r k) + du A r k * gain A k * scale (hRow A r)
    + hRow A r k * coef (hRow A r) (gain A) (du A r) + coef (hRow A r) (gain A) (du A r) * hRow A r k := by
  rw [← co_at, ← ug_at, ← rs_at]
  unfold hRow
  pointwise [dhv]

/-- The gain's gradient, at a place. -/
theorem refGain_at (r : Fin 1) (k : Fin 1024) : refGain A (ix2 r k) = ∑ x : Fin 9216, dg A x k := by
  unfold dg
  simp only [← u_at, ← rs_at]
  unfold hRow
  pointwise [refGain]
  refine (Fin.sum_univ_one _).trans ?_
  exact Finset.sum_congr rfl fun x _ => mul_comm _ _

/-- The token streams' rows. -/
theorem refX_at (r : Fin 8192) (k : Fin 1024) : refX A (ix2 r k) = dhv A (ix2 (token r) k) := by
  unfold token
  pointwise [refX, byExample]
  exact congrArg (fun y => dhv A (ix2 y k)) (Fin.ext (by dsimp only; omega))

/-- The examples' first rows. -/
theorem refFirst_at (r : Fin 256) (k : Fin 1024) : refFirst A (ix2 r k) = if r.val < 240 then 0 else ∑ b : Fin 4, dhv A (ix2 (start b r) k) := by
  unfold start
  pointwise [refFirst, byExample]
  have hr := r.isLt
  by_cases h : r.val < 240
  · rw [if_pos h, dif_neg (by omega)]
    exact (congrArg _ Int.cast_zero).trans EReal.coe_zero
  · rw [if_neg h, dif_pos (by omega)]
    exact Finset.sum_congr rfl fun b _ => congrArg (fun y => dhv A (ix2 y k)) (Fin.ext (by dsimp only; omega))
end

end Cert.Proof.FirstBwd.Ref
end
-- ==== Proof.FirstBwd.Same.lean ====
/-
  The gradient through the mixer's input projection and the normalisation before it: at exact numbers the kernel's three
  results are the reference's.
-/
module

public import proofs.«01_k».proof.Defs
public import proofs.«01_k».proof.Proof.Gen.Kernel15.Frame
public import proofs.«01_k».proof.Proof.FirstBwd.Acc
public import proofs.«01_k».proof.Proof.FirstBwd.Ref

@[expose] public section

set_option maxRecDepth 16384

noncomputable section

namespace Cert.Proof.FirstBwd

open Cert.Kernel15Ideal Cert.Kernel15Ideal.Gen
open Idealize.ShloMosaic Idealize.ShloMosaic.TcCoe Idealize.SL.Sem

/-- The kernel at machine numbers ends quiescent. -/
theorem frame_kernel : Cert.quiescent_Kernel15 := fun m ρ _ => Cert.Kernel15.Gen.frame m ρ

/-- The kernel at exact numbers ends quiescent. -/
theorem frame_kernel_ideal : Cert.quiescent_Kernel15Ideal := fun m ρ _ => Cert.Kernel15Ideal.Gen.frame m ρ

/-- The reference ends quiescent. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

section
variable (A : Args)

/-- The reference's gradient in the input is the kernel's, at every place. -/
theorem dhv_eq (r : Fin 9216) (k : Fin 1024) : Ref.dhv A (ix2 r k) = dh A r k :=
  (Ref.dhv_at A r k).trans (back_eq (hRow A r) (gain A) (du A r) (A.d (ix2 r k)) k)

/-- The three results. -/
theorem refX_eq : gradX A = Ref.refX A := by
  funext j
  refine Eq.symm ((congrArg _ (eq_ix2 j)).trans ?_)
  exact (Ref.refX_at A (j 0) (j 1)).trans (dhv_eq A (token (j 0)) (j 1))
theorem refGain_eq : gradGain A = Ref.refGain A := by
  funext j
  refine Eq.symm ((congrArg _ (eq_ix2 j)).trans ?_)
  exact Ref.refGain_at A (j 0) (j 1)
theorem first_at (r : Fin 256) (k : Fin 1024) : Ref.refFirst A (ix2 r k) = if r.val < 240 then 0 else ∑ b : Fin 4, dh A (start b r) k := by
  rw [Ref.refFirst_at]
  simp only [dhv_eq]
theorem refFirst_eq : gradFirst A = Ref.refFirst A := by
  funext j
  refine Eq.symm ((congrArg _ (eq_ix2 j)).trans ?_)
  exact first_at A (j 0) (j 1)
end

/-- At exact numbers the kernel's three results are the reference's. -/
theorem algebraic : Cert.algebraic_Kernel15Ideal_Reference15Ideal := by
  intro m ρ m' ρ' _ hagree
  refine ⟨fun c => Ref.refX (args m c), fun c => Ref.refGain (args m c), fun c => Ref.refFirst (args m c), ?_, ?_⟩
  · exact (θ_run Cert.Kernel15Ideal.defs _ _).mono (fun _ hr c => ⟨(hr c).1.trans ((final_x m c).trans (refX_eq _)),
      (hr c).2.1.trans ((final_gain m c).trans (refGain_eq _)), (hr c).2.2.1.trans ((final_first m c).trans (refFirst_eq _)), (hr c).2.2.2⟩)
      (Cert.Kernel15Ideal.Value.run_blocks m ρ)
  · refine (θ_run Cert.Reference15Ideal.defs _ _).mono (fun _ hr c => ⟨(hr c).1.trans ?_, (hr c).2.1.trans ?_, (hr c).2.2.1.trans ?_, (hr c).2.2.2⟩)
      (Cert.Reference15Ideal.Value.run (F := Ideal) m' ρ')
    · unfold Cert.Reference15Ideal.Value.res_main_v46
      obtain ⟨e0, e1, e2, e3, e4, e5, e6, e7, e8, e9⟩ := hagree c
      rw [e0, e1, e2, e3, e4, e5, e6, e7, e8, e9]; rfl
    · obtain ⟨e0, e1, e2, e3, e4, e5, e6, e7, e8, e9⟩ := hagree c
      rw [e0, e1, e2, e3, e4, e5, e7, e9]; rfl
    · unfold Cert.Reference15Ideal.Value.res_main_v47
      obtain ⟨e0, e1, e2, e3, e4, e5, e6, e7, e8, e9⟩ := hagree c
      rw [e0, e1, e2, e3, e4, e5, e6, e7, e8, e9]; rfl

end Cert.Proof.FirstBwd
end
-- ==== Proof.lean ====
/-
  The claims: every kernel (at machine numbers and at exact numbers) and every reference ends quiescent from every initial
  memory; each kernel at exact numbers is the kernel with nothing rewritten; and at exact numbers the results are the
  references': of the gradient of the attention and of the SwiGLU layer wherever the arguments are finite, of the gradients
  of the weights and of the forward projections for all arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttnBwd.Same
public import proofs.«01_k».proof.Proof.AttnBwd.Final
public import proofs.«01_k».proof.Proof.AttnBwd.Finite
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.WGrad.Square
public import proofs.«01_k».proof.Proof.WGrad.FfnIn
public import proofs.«01_k».proof.Proof.WGrad.FfnOut
public import proofs.«01_k».proof.Proof.WGrad.Gates
public import proofs.«01_k».proof.Proof.WGrad.Latent
public import proofs.«01_k».proof.Proof.WGrad.Up
public import proofs.«01_k».proof.Proof.SwigluBwd.Same
public import proofs.«01_k».proof.Proof.Forward.Main
public import proofs.«01_k».proof.Proof.Forward.Latent
public import proofs.«01_k».proof.Proof.Forward.MlaOut
public import proofs.«01_k».proof.Proof.Forward.Swiglu
public import proofs.«01_k».proof.Proof.Forward.Mid
public import proofs.«01_k».proof.Proof.Forward.Gate
public import proofs.«01_k».proof.Proof.FirstBwd.Same
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The kernel at machine numbers ends quiescent: the run at any float values, read at them. -/
theorem frame_kernel : Cert.quiescent_Kernel := fun m ρ _ => by
  have h := AttnBwd.frame (F := Bits) m ρ
  rw [← AttnBwd.defs_same] at h
  exact h

/-- The kernel at exact numbers ends quiescent. -/
theorem frame_kernel_ideal : Cert.quiescent_KernelIdeal := fun m ρ _ => AttnBwd.frame m ρ

/-- The reference ends quiescent. -/
theorem frame_reference : Cert.quiescent_ReferenceIdeal := fun m ρ _ =>
  (θ_run Cert.ReferenceIdeal.defs _ _).mono (fun r h => ⟨fun c => ⟨(h c).2.2.2.1, (h c).2.2.2.2.1, (h c).2.2.2.2.2.1, (h c).2.2.2.2.2.2⟩,
    sem_eq_zero_of_no_sems (by decide) r.2⟩) (Cert.ReferenceIdeal.Value.run (F := Ideal) m ρ)

section

variable (m : (ℓ : Loc Cert.KernelIdeal.nD Cert.KernelIdeal.τ Cert.KernelIdeal.sig) → Buf (Elt Ideal) ℓ) (c : Dev Cert.KernelIdeal.nD)

/-- The reference's three results of the kernel's arguments. -/
def dq : FVec Ideal Cert.ReferenceIdeal.S9216x2048 .bf16 := AttnBwd.Ref.dq (AttnBwd.argQ m c) (AttnBwd.argK m c) (AttnBwd.argV m c) (AttnBwd.argD m c)
def dk : FVec Ideal Cert.ReferenceIdeal.S9216x2048 .bf16 := AttnBwd.Ref.dk (AttnBwd.argQ m c) (AttnBwd.argK m c) (AttnBwd.argV m c) (AttnBwd.argD m c)
def dv : FVec Ideal Cert.ReferenceIdeal.S9216x1024 .bf16 := AttnBwd.Ref.dv (AttnBwd.argQ m c) (AttnBwd.argK m c) (AttnBwd.argD m c)

variable (h : Cert.Pre_KernelIdeal_finite_inputs (hPre_finite_inputs := AttnBwd.preFacts) m)

include h in
/-- The kernel's gradient of the queries is the reference's. -/
theorem dq_eq : (AttnBwd.dats m 0 c).arrAt 7 Cert.KernelIdeal.cfg0.N = dq m c := by
  haveI := AttnBwd.preFacts
  obtain ⟨a, H⟩ := AttnBwd.are_of_finite (AttnBwd.argQ m c) (AttnBwd.argK m c) (AttnBwd.argV m c) (AttnBwd.argD m c) (h c).1 (h c).2.1 (h c).2.2.1 (h c).2.2.2
  refine (AttnBwd.final_dq m c H).trans (funext fun y => ?_)
  exact (AttnBwd.Ref.dq_at H (y 0) (y 1)).symm.trans (congrArg (dq m c) (eq_ix2 y).symm)

include h in
/-- The kernel's gradient of the keys is the reference's. -/
theorem dk_eq : (AttnBwd.dats m 0 c).arrAt 8 Cert.KernelIdeal.cfg0.N = dk m c := by
  haveI := AttnBwd.preFacts
  obtain ⟨a, H⟩ := AttnBwd.are_of_finite (AttnBwd.argQ m c) (AttnBwd.argK m c) (AttnBwd.argV m c) (AttnBwd.argD m c) (h c).1 (h c).2.1 (h c).2.2.1 (h c).2.2.2
  refine (AttnBwd.final_dk m c H).trans (funext fun y => ?_)
  exact (AttnBwd.Ref.dk_at H (y 0) (y 1)).symm.trans (congrArg (dk m c) (eq_ix2 y).symm)

include h in
/-- The kernel's gradient of the values is the reference's. -/
theorem dv_eq : (AttnBwd.dats m 0 c).arrAt 9 Cert.KernelIdeal.cfg0.N = dv m c := by
  haveI := AttnBwd.preFacts
  obtain ⟨a, H⟩ := AttnBwd.are_of_finite (AttnBwd.argQ m c) (AttnBwd.argK m c) (AttnBwd.argV m c) (AttnBwd.argD m c) (h c).1 (h c).2.1 (h c).2.2.1 (h c).2.2.2
  refine (AttnBwd.final_dv m c H).trans (funext fun y => ?_)
  exact (AttnBwd.Ref.dv_at H (y 0) (y 1)).symm.trans (congrArg (dv m c) (eq_ix2 y).symm)

end

/-- At exact numbers, from finite arguments, the kernel's three results are the reference's. -/
theorem algebraic : Cert.algebraic_KernelIdeal_ReferenceIdeal_pre_finite_inputs (hPre_finite_inputs := AttnBwd.preFacts) := by
  intro m ρ m' ρ' h hagree
  refine ⟨fun c => dq m c, fun c => dk m c, fun c => dv m c, ?_, ?_⟩
  · exact (θ_run Cert.KernelIdeal.defs _ _).mono
      (fun _ hr c => ⟨(hr.1.out_eq c 7).trans (dq_eq m c h), (hr.1.out_eq c 8).trans (dk_eq m c h), (hr.1.out_eq c 9).trans (dv_eq m c h), hr.2 c⟩)
      (θ_run_and (AttnBwd.run_main m ρ) (AttnBwd.unchanged m ρ))
  · refine (θ_run Cert.ReferenceIdeal.defs _ _).mono (fun _ hr c => ⟨(hr c).1.trans ((AttnBwd.Ref.out0 m' c).trans ?_),
      (hr c).2.1.trans ((AttnBwd.Ref.out1 m' c).trans ?_), (hr c).2.2.1.trans ((AttnBwd.Ref.out2 m' c).trans ?_), (hr c).2.2.2⟩)
      (Cert.ReferenceIdeal.Value.run (F := Ideal) m' ρ')
    · rw [(hagree c).1, (hagree c).2.1, (hagree c).2.2.1, (hagree c).2.2.2]; rfl
    · rw [(hagree c).1, (hagree c).2.1, (hagree c).2.2.1, (hagree c).2.2.2]; rfl
    · rw [(hagree c).1, (hagree c).2.1, (hagree c).2.2.2]; rfl

/-- Every claim of this certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts, AttnBwd.preFacts, SwigluBwd.preFacts,
  frame_kernel, frame_kernel_ideal, fun m ρ _ => frame_kernel_ideal m ρ trivial, frame_reference, fun m ρ _ => frame_reference m ρ trivial,
  SwigluBwd.frame_kernel, SwigluBwd.frame_kernel_ideal, fun m ρ _ => SwigluBwd.frame_kernel_ideal m ρ trivial, SwigluBwd.frame_reference, fun m ρ _ => SwigluBwd.frame_reference m ρ trivial,
  WGradSquare.frame_kernel, WGradSquare.frame_kernel_ideal, WGradSquare.frame_reference,
  WGradFfnIn.frame_kernel, WGradFfnIn.frame_kernel_ideal, WGradFfnIn.frame_reference,
  WGradFfnOut.frame_kernel, WGradFfnOut.frame_kernel_ideal, WGradFfnOut.frame_reference,
  WGradGates.frame_kernel, WGradGates.frame_kernel_ideal, WGradGates.frame_reference,
  WGradLatent.frame_kernel, WGradLatent.frame_kernel_ideal, WGradLatent.frame_reference,
  WGradUp.frame_kernel, WGradUp.frame_kernel_ideal, WGradUp.frame_reference,
  FwdMain.frame_kernel, FwdMain.frame_kernel_ideal, FwdMain.frame_reference,
  FwdLatent.frame_kernel, FwdLatent.frame_kernel_ideal, FwdLatent.frame_reference,
  FwdMla.frame_kernel, FwdMla.frame_kernel_ideal, FwdMla.frame_reference,
  SwigluFwd.frame_kernel, SwigluFwd.frame_kernel_ideal, SwigluFwd.frame_reference,
  MidFwd.frame_kernel, MidFwd.frame_kernel_ideal, MidFwd.frame_reference,
  GateFwd.frame_kernel, GateFwd.frame_kernel_ideal, GateFwd.frame_reference,
  FirstBwd.frame_kernel, FirstBwd.frame_kernel_ideal, FirstBwd.frame_reference,
  trivial, algebraic, trivial, SwigluBwd.algebraic, trivial, WGradSquare.algebraic, trivial, WGradFfnIn.algebraic, trivial, WGradFfnOut.algebraic, trivial, WGradGates.algebraic, trivial, WGradLatent.algebraic, trivial, WGradUp.algebraic, trivial, FwdMain.algebraic, trivial, FwdLatent.algebraic, trivial, FwdMla.algebraic, trivial, SwigluFwd.algebraic, trivial, MidFwd.algebraic, trivial, GateFwd.algebraic, trivial, FirstBwd.algebraic⟩

end Cert.Proof

end
